-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v56) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v21) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v32) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hGlu : Cert.Glu.Facts) (hGluIdeal : Cert.GluIdeal.Facts) (hGluRefIdeal : Cert.GluRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_Glu (hGlu := hGlu)
    ∧ quiescent_GluIdeal (hGluIdeal := hGluIdeal)
    ∧ quiescent_GluRefIdeal (hGluRefIdeal := hGluRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_Glu_GluIdeal
    ∧ algebraic_GluIdeal_GluRefIdeal (hGluIdeal := hGluIdeal) (hGluRefIdeal := hGluRefIdeal)
-- ==== Pre_finite.lean ====
abbrev S2x16384x6144 : Shape := ⟨3, ![2, 16384, 6144]⟩
abbrev S2x256x6144 : Shape := ⟨3, ![2, 256, 6144]⟩
abbrev S32x15x31 : Shape := ⟨3, ![32, 15, 31]⟩
abbrev S_ : Shape := ⟨0, ![]⟩

class Facts : Prop where
  bitsLt_bf16_f32 : FTy.bits .bf16 < FTy.bits .f32
  bcast_S_S2x16384x6144 : S_.BroadcastsInDim S2x16384x6144 (![] : Fin 0 → Fin S2x16384x6144.rank)
  bcast_S_S2x256x6144 : S_.BroadcastsInDim S2x256x6144 (![] : Fin 0 → Fin S2x256x6144.rank)
  bcast_S_S32x15x31 : S_.BroadcastsInDim S32x15x31 (![] : Fin 0 → Fin S32x15x31.rank)

variable [Facts]

def fn {F : FTy → Type} [FloatOps F] (main_arg0 : FVec F S2x16384x6144 .bf16) (main_arg1 : FVec F S2x256x6144 .bf16) (main_arg2 : FVec F S32x15x31 .f32) : IVec S2x16384x6144 1 × IVec S2x256x6144 1 × IVec S32x15x31 1 :=
  let main_v0 : FVec F S2x16384x6144 .f32 := (extf .f32 · bitsLt_bf16_f32) main_arg0
  let main_v1 : FVec F S2x16384x6144 .f32 := Host.absf main_v0
  let main_cst : FVec F S_ .f32 := constant S_ .f32 0x7F800000#32
  let main_v2 : FVec F S2x16384x6144 .f32 := broadcastInDim S2x16384x6144 ![] bcast_S_S2x16384x6144 main_cst
  let main_v3 : IVec S2x16384x6144 1 := cmpf .olt main_v1 main_v2
  let main_v4 : FVec F S2x256x6144 .f32 := (extf .f32 · bitsLt_bf16_f32) main_arg1
  let main_v5 : FVec F S2x256x6144 .f32 := Host.absf main_v4
  let main_cst_0 : FVec F S_ .f32 := constant S_ .f32 0x7F800000#32
  let main_v6 : FVec F S2x256x6144 .f32 := broadcastInDim S2x256x6144 ![] bcast_S_S2x256x6144 main_cst_0
  let main_v7 : IVec S2x256x6144 1 := cmpf .olt main_v5 main_v6
  let main_v8 : FVec F S32x15x31 .f32 := Host.absf main_arg2
  let main_cst_1 : FVec F S_ .f32 := constant S_ .f32 0x7F800000#32
  let main_v9 : FVec F S32x15x31 .f32 := broadcastInDim S32x15x31 ![] bcast_S_S32x15x31 main_cst_1
  let main_v10 : IVec S32x15x31 1 := cmpf .olt main_v8 main_v9
  (main_v3, main_v7, main_v10)
-- ==== Kernel.lean ====
abbrev S2x16384x6144 : Shape := ⟨3, ![2, 16384, 6144]⟩
abbrev S2x256x6144 : Shape := ⟨3, ![2, 256, 6144]⟩
abbrev S32x15x31 : Shape := ⟨3, ![32, 15, 31]⟩
abbrev S704 : Shape := ⟨1, ![704]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S64x64x32x15 : Shape := ⟨4, ![64, 64, 32, 15]⟩
abbrev S32x64x15x64 : Shape := ⟨4, ![32, 64, 15, 64]⟩
abbrev S1x64x1x64 : Shape := ⟨4, ![1, 64, 1, 64]⟩
abbrev S32x64x960 : Shape := ⟨3, ![32, 64, 960]⟩
abbrev S32x64x2432 : Shape := ⟨3, ![32, 64, 2432]⟩
abbrev S1x1x704 : Shape := ⟨3, ![1, 1, 704]⟩
abbrev S32x64x704 : Shape := ⟨3, ![32, 64, 704]⟩
abbrev S1x32x64x704 : Shape := ⟨4, ![1, 32, 64, 704]⟩
abbrev S4x32x64x704 : Shape := ⟨4, ![4, 32, 64, 704]⟩
abbrev S4x16x2x64x704 : Shape := ⟨5, ![4, 16, 2, 64, 704]⟩
abbrev S1x4x16x2x64x704 : Shape := ⟨6, ![1, 4, 16, 2, 64, 704]⟩
abbrev S3x4x16x2x64x704 : Shape := ⟨6, ![3, 4, 16, 2, 64, 704]⟩
abbrev S2x16384x2048 : Shape := ⟨3, ![2, 16384, 2048]⟩
abbrev S1x256x2048 : Shape := ⟨3, ![1, 256, 2048]⟩
abbrev S1x704x2048 : Shape := ⟨3, ![1, 704, 2048]⟩
abbrev S1 : Shape := ⟨1, ![1]⟩
abbrev S256x128 : Shape := ⟨2, ![256, 128]⟩
abbrev S704x128 : Shape := ⟨2, ![704, 128]⟩
abbrev S1x256x128 : Shape := ⟨3, ![1, 256, 128]⟩
abbrev S512x128 : Shape := ⟨2, ![512, 128]⟩
abbrev S1x1x1x1x64x704 : Shape := ⟨6, ![1, 1, 1, 1, 64, 704]⟩
abbrev S64x704 : Shape := ⟨2, ![64, 704]⟩
abbrev S512x704 : Shape := ⟨2, ![512, 704]⟩
abbrev S1x704x128 : Shape := ⟨3, ![1, 704, 128]⟩
abbrev S512x256 : Shape := ⟨2, ![512, 256]⟩
abbrev S512 : Shape := ⟨1, ![512]⟩
abbrev S512x1 : Shape := ⟨2, ![512, 1]⟩
abbrev S704x256 : Shape := ⟨2, ![704, 256]⟩
abbrev S256x256 : Shape := ⟨2, ![256, 256]⟩

abbrev nBuf : Space → Nat
  | .hbm => 183
  | .vmem => 13
  | .smem => 2
  | _ => 0

abbrev hbmTy0_0 (i : Nat) : BufTy := match i % 128 with
  | 0 => ⟨S2x16384x6144, .bf16⟩
  | 1 => ⟨S2x256x6144, .bf16⟩
  | 2 => ⟨S32x15x31, .f32⟩
  | 3 => ⟨S704, .i1⟩
  | 4 => ⟨S704, .i1⟩
  | 5 => ⟨S704, .i1⟩
  | 6 => ⟨S704, .i1⟩
  | 7 => ⟨S704, .i1⟩
  | 8 => ⟨S704, .i1⟩
  | 9 => ⟨S704, .i1⟩
  | 10 => ⟨S704, .i1⟩
  | 11 => ⟨S704, .i1⟩
  | 12 => ⟨S704, .i1⟩
  | 13 => ⟨S704, .i1⟩
  | 14 => ⟨S704, .i1⟩
  | 15 => ⟨S64, .i32⟩
  | 16 => ⟨S_, .i32⟩
  | 17 => ⟨S64, .i32⟩
  | 18 => ⟨S64, .i32⟩
  | 19 => ⟨S_, .i32⟩
  | 20 => ⟨S_, .i32⟩
  | 21 => ⟨S_, .i32⟩
  | 22 => ⟨S64, .i32⟩
  | 23 => ⟨S64, .i32⟩
  | 24 => ⟨S_, .i32⟩
  | 25 => ⟨S64, .i32⟩
  | 26 => ⟨S64, .i32⟩
  | 27 => ⟨S1x64, .i32⟩
  | 28 => ⟨S64x1, .i32⟩
  | 29 => ⟨S64x64, .i32⟩
  | 30 => ⟨S64x64, .i32⟩
  | 31 => ⟨S64x64, .i1⟩
  | 32 => ⟨S1x64, .i32⟩
  | 33 => ⟨S64x1, .i32⟩
  | 34 => ⟨S_, .i32⟩
  | 35 => ⟨S64x1, .i32⟩
  | 36 => ⟨S64x1, .i32⟩
  | 37 => ⟨S64x64, .i32⟩
  | 38 => ⟨S64x64, .i32⟩
  | 39 => ⟨S64x64, .i1⟩
  | 40 => ⟨S64x64, .i1⟩
  | 41 => ⟨S1x64, .i32⟩
  | 42 => ⟨S64x1, .i32⟩
  | 43 => ⟨S64x64, .i32⟩
  | 44 => ⟨S64x64, .i32⟩
  | 45 => ⟨S64x64, .i32⟩
  | 46 => ⟨S_, .i32⟩
  | 47 => ⟨S_, .i32⟩
  | 48 => ⟨S_, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i32⟩
  | 57 => ⟨S1x64x64, .i32⟩
  | 58 => ⟨S31, .i32⟩
  | 59 => ⟨S31x1x1, .i32⟩
  | 60 => ⟨S31x64x64, .i32⟩
  | 61 => ⟨S31x64x64, .i32⟩
  | 62 => ⟨S31x64x64, .i1⟩
  | 63 => ⟨S31x64x64, .f32⟩
  | 64 => ⟨S64x64x32x15, .f32⟩
  | 65 => ⟨S32x64x15x64, .f32⟩
  | 66 => ⟨S1x64x1x64, .i1⟩
  | 67 => ⟨S_, .f32⟩
  | 68 => ⟨S_, .f32⟩
  | 69 => ⟨S32x64x15x64, .i1⟩
  | 70 => ⟨S32x64x15x64, .f32⟩
  | 71 => ⟨S32x64x15x64, .f32⟩
  | 72 => ⟨S32x64x960, .f32⟩
  | 73 => ⟨S_, .f32⟩
  | 74 => ⟨S_, .f32⟩
  | 75 => ⟨S32x64x2432, .f32⟩
  | 76 => ⟨S1x1x704, .i1⟩
  | 77 => ⟨S32x64x704, .f32⟩
  | 78 => ⟨S_, .f32⟩
  | 79 => ⟨S_, .f32⟩
  | 80 => ⟨S32x64x704, .i1⟩
  | 81 => ⟨S32x64x704, .f32⟩
  | 82 => ⟨S32x64x704, .f32⟩
  | 83 => ⟨S1x1x704, .i1⟩
  | 84 => ⟨S32x64x704, .f32⟩
  | 85 => ⟨S_, .f32⟩
  | 86 => ⟨S_, .f32⟩
  | 87 => ⟨S32x64x704, .i1⟩
  | 88 => ⟨S32x64x704, .f32⟩
  | 89 => ⟨S32x64x704, .f32⟩
  | 90 => ⟨S1x1x704, .i1⟩
  | 91 => ⟨S32x64x704, .f32⟩
  | 92 => ⟨S_, .f32⟩
  | 93 => ⟨S_, .f32⟩
  | 94 => ⟨S32x64x704, .i1⟩
  | 95 => ⟨S32x64x704, .f32⟩
  | 96 => ⟨S32x64x704, .f32⟩
  | 97 => ⟨S1x1x704, .i1⟩
  | 98 => ⟨S32x64x704, .f32⟩
  | 99 => ⟨S_, .f32⟩
  | 100 => ⟨S_, .f32⟩
  | 101 => ⟨S32x64x704, .i1⟩
  | 102 => ⟨S32x64x704, .f32⟩
  | 103 => ⟨S32x64x704, .f32⟩
  | 104 => ⟨S1x32x64x704, .f32⟩
  | 105 => ⟨S1x32x64x704, .f32⟩
  | 106 => ⟨S1x32x64x704, .f32⟩
  | 107 => ⟨S1x32x64x704, .f32⟩
  | 108 => ⟨S4x32x64x704, .f32⟩
  | 109 => ⟨S4x16x2x64x704, .f32⟩
  | 110 => ⟨S1x1x704, .i1⟩
  | 111 => ⟨S32x64x704, .f32⟩
  | 112 => ⟨S_, .f32⟩
  | 113 => ⟨S_, .f32⟩
  | 114 => ⟨S32x64x704, .i1⟩
  | 115 => ⟨S32x64x704, .f32⟩
  | 116 => ⟨S32x64x704, .f32⟩
  | 117 => ⟨S1x1x704, .i1⟩
  | 118 => ⟨S32x64x704, .f32⟩
  | 119 => ⟨S_, .f32⟩
  | 120 => ⟨S_, .f32⟩
  | 121 => ⟨S32x64x704, .i1⟩
  | 122 => ⟨S32x64x704, .f32⟩
  | 123 => ⟨S32x64x704, .f32⟩
  | 124 => ⟨S1x1x704, .i1⟩
  | 125 => ⟨S32x64x704, .f32⟩
  | 126 => ⟨S_, .f32⟩
  | 127 => ⟨S_, .f32⟩
  | _ => ⟨S2x16384x6144, .bf16⟩

abbrev hbmTy0_1 (i : Nat) : BufTy := match i % 128 with
  | 0 => ⟨S32x64x704, .i1⟩
  | 1 => ⟨S32x64x704, .f32⟩
  | 2 => ⟨S32x64x704, .f32⟩
  | 3 => ⟨S1x1x704, .i1⟩
  | 4 => ⟨S32x64x704, .f32⟩
  | 5 => ⟨S_, .f32⟩
  | 6 => ⟨S_, .f32⟩
  | 7 => ⟨S32x64x704, .i1⟩
  | 8 => ⟨S32x64x704, .f32⟩
  | 9 => ⟨S32x64x704, .f32⟩
  | 10 => ⟨S1x32x64x704, .f32⟩
  | 11 => ⟨S1x32x64x704, .f32⟩
  | 12 => ⟨S1x32x64x704, .f32⟩
  | 13 => ⟨S1x32x64x704, .f32⟩
  | 14 => ⟨S4x32x64x704, .f32⟩
  | 15 => ⟨S4x16x2x64x704, .f32⟩
  | 16 => ⟨S1x1x704, .i1⟩
  | 17 => ⟨S32x64x704, .f32⟩
  | 18 => ⟨S_, .f32⟩
  | 19 => ⟨S_, .f32⟩
  | 20 => ⟨S32x64x704, .i1⟩
  | 21 => ⟨S32x64x704, .f32⟩
  | 22 => ⟨S32x64x704, .f32⟩
  | 23 => ⟨S1x1x704, .i1⟩
  | 24 => ⟨S32x64x704, .f32⟩
  | 25 => ⟨S_, .f32⟩
  | 26 => ⟨S_, .f32⟩
  | 27 => ⟨S32x64x704, .i1⟩
  | 28 => ⟨S32x64x704, .f32⟩
  | 29 => ⟨S32x64x704, .f32⟩
  | 30 => ⟨S1x1x704, .i1⟩
  | 31 => ⟨S32x64x704, .f32⟩
  | 32 => ⟨S_, .f32⟩
  | 33 => ⟨S_, .f32⟩
  | 34 => ⟨S32x64x704, .i1⟩
  | 35 => ⟨S32x64x704, .f32⟩
  | 36 => ⟨S32x64x704, .f32⟩
  | 37 => ⟨S1x1x704, .i1⟩
  | 38 => ⟨S32x64x704, .f32⟩
  | 39 => ⟨S_, .f32⟩
  | 40 => ⟨S_, .f32⟩
  | 41 => ⟨S32x64x704, .i1⟩
  | 42 => ⟨S32x64x704, .f32⟩
  | 43 => ⟨S32x64x704, .f32⟩
  | 44 => ⟨S1x32x64x704, .f32⟩
  | 45 => ⟨S1x32x64x704, .f32⟩
  | 46 => ⟨S1x32x64x704, .f32⟩
  | 47 => ⟨S1x32x64x704, .f32⟩
  | 48 => ⟨S4x32x64x704, .f32⟩
  | 49 => ⟨S4x16x2x64x704, .f32⟩
  | 50 => ⟨S1x4x16x2x64x704, .f32⟩
  | 51 => ⟨S1x4x16x2x64x704, .f32⟩
  | 52 => ⟨S1x4x16x2x64x704, .f32⟩
  | 53 => ⟨S3x4x16x2x64x704, .f32⟩
  | 54 => ⟨S2x16384x2048, .bf16⟩
  | _ => ⟨S2x16384x6144, .bf16⟩

abbrev hbmTy (i : Nat) : BufTy := match i / 128 with
  | 0 => hbmTy0_0 i
  | 1 => hbmTy0_1 i
  | _ => ⟨S2x16384x6144, .bf16⟩

abbrev bufTy : (tb : Table) → Fin (tcTables nBuf tb) → BufTy
  | .hbm, ⟨i, _⟩ => hbmTy i
  | .local _ .vmem, ⟨0, _⟩ => ⟨S1x256x2048, .bf16⟩
  | .local _ .vmem, ⟨1, _⟩ => ⟨S1x256x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x4x16x2x64x704, .f32⟩
  | .local _ .vmem, ⟨11, _⟩ => ⟨S1x256x2048, .bf16⟩
  | .local _ .vmem, ⟨12, _⟩ => ⟨S1x256x2048, .bf16⟩
  | .local _ .smem, ⟨0, _⟩ => ⟨S64, .i32⟩
  | .local _ .smem, ⟨1, _⟩ => ⟨S64, .i32⟩
  | _, _ => ⟨S2x16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_v0 : Ref sig .tc := ⟨.hbm, 15, rfl⟩
abbrev main_c_13 : Ref sig .tc := ⟨.hbm, 16, rfl⟩
abbrev main_v1 : Ref sig .tc := ⟨.hbm, 17, rfl⟩
abbrev main_v2 : Ref sig .tc := ⟨.hbm, 18, rfl⟩
abbrev main_c_14 : Ref sig .tc := ⟨.hbm, 19, rfl⟩
abbrev main_c_15 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_16 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_17 : Ref sig .tc := ⟨.hbm, 46, rfl⟩
abbrev main_c_18 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v22 : Ref sig .tc := ⟨.hbm, 53, rfl⟩
abbrev main_c_19 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v35 : Ref sig .tc := ⟨.hbm, 71, rfl⟩
abbrev main_v36 : Ref sig .tc := ⟨.hbm, 72, rfl⟩
abbrev main_cst_20 : Ref sig .tc := ⟨.hbm, 73, rfl⟩
abbrev main_call3_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_21 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_22 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_23 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_24 : Ref sig .tc := ⟨.hbm, 99, rfl⟩
abbrev main_call7_v0 : Ref sig .tc := ⟨.hbm, 100, rfl⟩
abbrev main_call7_v1 : Ref sig .tc := ⟨.hbm, 101, rfl⟩
abbrev main_call7_v2 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_25 : Ref sig .tc := ⟨.hbm, 112, rfl⟩
abbrev main_call8_v0 : Ref sig .tc := ⟨.hbm, 113, rfl⟩
abbrev main_call8_v1 : Ref sig .tc := ⟨.hbm, 114, rfl⟩
abbrev main_call8_v2 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_26 : Ref sig .tc := ⟨.hbm, 119, rfl⟩
abbrev main_call9_v0 : Ref sig .tc := ⟨.hbm, 120, rfl⟩
abbrev main_call9_v1 : Ref sig .tc := ⟨.hbm, 121, rfl⟩
abbrev main_call9_v2 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_27 : Ref sig .tc := ⟨.hbm, 126, rfl⟩
abbrev main_call10_v0 : Ref sig .tc := ⟨.hbm, 127, rfl⟩
abbrev main_call10_v1 : Ref sig .tc := ⟨.hbm, 128, rfl⟩
abbrev main_call10_v2 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_cst_28 : Ref sig .tc := ⟨.hbm, 133, rfl⟩
abbrev main_call11_v0 : Ref sig .tc := ⟨.hbm, 134, rfl⟩
abbrev main_call11_v1 : Ref sig .tc := ⟨.hbm, 135, rfl⟩
abbrev main_call11_v2 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_cst_29 : Ref sig .tc := ⟨.hbm, 146, rfl⟩
abbrev main_call12_v0 : Ref sig .tc := ⟨.hbm, 147, rfl⟩
abbrev main_call12_v1 : Ref sig .tc := ⟨.hbm, 148, rfl⟩
abbrev main_call12_v2 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_30 : Ref sig .tc := ⟨.hbm, 153, rfl⟩
abbrev main_call13_v0 : Ref sig .tc := ⟨.hbm, 154, rfl⟩
abbrev main_call13_v1 : Ref sig .tc := ⟨.hbm, 155, rfl⟩
abbrev main_call13_v2 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_cst_31 : Ref sig .tc := ⟨.hbm, 160, rfl⟩
abbrev main_call14_v0 : Ref sig .tc := ⟨.hbm, 161, rfl⟩
abbrev main_call14_v1 : Ref sig .tc := ⟨.hbm, 162, rfl⟩
abbrev main_call14_v2 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_cst_32 : Ref sig .tc := ⟨.hbm, 167, rfl⟩
abbrev main_call15_v0 : Ref sig .tc := ⟨.hbm, 168, rfl⟩
abbrev main_call15_v1 : Ref sig .tc := ⟨.hbm, 169, rfl⟩
abbrev main_call15_v2 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_c_11 : Ref sig .tc := ⟨.smem, 0, rfl⟩
abbrev main_c_12 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

abbrev pre0 : Pipeline.Prefetch sig := ⟨2, ![main_c_11.idx, main_c_12.idx], fun | 0 => main_c_11.names | 1 => main_c_12.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c64_i32 : BitVec 32 := 64#32
  let v2 : BitVec 32 := Scalar.muli v1 c64_i32
  v2

def k0_mult2 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c64_i32 : BitVec 32 := 64#32
  let v2 : BitVec 32 := Scalar.muli v1 c64_i32
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c64_i32 : BitVec 32 := 64#32
  let v2 : BitVec 32 := Scalar.muli v1 c64_i32
  let v3 : BitVec 32 := v2
  let c2048_i32 : BitVec 32 := 2048#32
  let c0_i32 : BitVec 32 := 0#32
  ![arg0.toNat, v3.toNat, c2048_i32.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c64_i32 : BitVec 32 := 64#32
  let v2 : BitVec 32 := Scalar.muli v1 c64_i32
  let v3 : BitVec 32 := v2
  let c4096_i32 : BitVec 32 := 4096#32
  let c0_i32 : BitVec 32 := 0#32
  ![arg0.toNat, v3.toNat, c4096_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (k0_off1_inb : ∀ i : grid0.Coords, ∀ a, (k0_off1 i) a + S1.size a ≤ S64.size a) (numel1_S1 : S1.numel = 1) (pf : pre0.Contents (Elt F)) (i : grid0.Coords) : Fin 6 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![v1.toNat, c0_i32.toNat, c0_i32_0.toNat, c0_i32_1.toNat, c0_i32_2.toNat, c0_i32_3.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4x16x2x64x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x16384x6144 : Shape := ⟨3, ![2, 16384, 6144]⟩
abbrev S2x256x6144 : Shape := ⟨3, ![2, 256, 6144]⟩
abbrev S32x15x31 : Shape := ⟨3, ![32, 15, 31]⟩
abbrev S2x16384x3x32x64 : Shape := ⟨5, ![2, 16384, 3, 32, 64]⟩
abbrev S2x256x3x32x64 : Shape := ⟨5, ![2, 256, 3, 32, 64]⟩
abbrev S2x16384x1x32x64 : Shape := ⟨5, ![2, 16384, 1, 32, 64]⟩
abbrev S2x16384x32x64 : Shape := ⟨4, ![2, 16384, 32, 64]⟩
abbrev S2x256x1x32x64 : Shape := ⟨5, ![2, 256, 1, 32, 64]⟩
abbrev S2x256x32x64 : Shape := ⟨4, ![2, 256, 32, 64]⟩
abbrev S2x256x64x32x64 : Shape := ⟨5, ![2, 256, 64, 32, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S2x256x8x64x32x64 : Shape := ⟨6, ![2, 256, 8, 64, 32, 64]⟩
abbrev S2x256x32x64x8x64 : Shape := ⟨6, ![2, 256, 32, 64, 8, 64]⟩
abbrev S256x1x8x1 : Shape := ⟨4, ![256, 1, 8, 1]⟩
abbrev S1x64x1x64 : Shape := ⟨4, ![1, 64, 1, 64]⟩
abbrev S256x64x8x64 : Shape := ⟨4, ![256, 64, 8, 64]⟩
abbrev S256x64x8x64x1 : Shape := ⟨5, ![256, 64, 8, 64, 1]⟩
abbrev S256x64x8x64x2 : Shape := ⟨5, ![256, 64, 8, 64, 2]⟩
abbrev S32x256x64x8x64 : Shape := ⟨5, ![32, 256, 64, 8, 64]⟩
abbrev S256x32x64x8x64 : Shape := ⟨5, ![256, 32, 64, 8, 64]⟩
abbrev S1x1x1x64x1x64 : Shape := ⟨6, ![1, 1, 1, 64, 1, 64]⟩
abbrev S1x256x32x64x8x64 : Shape := ⟨6, ![1, 256, 32, 64, 8, 64]⟩
abbrev S2x32x256x256x64 : Shape := ⟨5, ![2, 32, 256, 256, 64]⟩
abbrev S2x256x32x64x256 : Shape := ⟨5, ![2, 256, 32, 64, 256]⟩
abbrev S2x256x32x64x512 : Shape := ⟨5, ![2, 256, 32, 64, 512]⟩
abbrev S2x256x32x64x768 : Shape := ⟨5, ![2, 256, 32, 64, 768]⟩
abbrev S2x256x32x64x1 : Shape := ⟨5, ![2, 256, 32, 64, 1]⟩
abbrev S2x256x32x64x64 : Shape := ⟨5, ![2, 256, 32, 64, 64]⟩
abbrev S2x32x64x256x64 : Shape := ⟨5, ![2, 32, 64, 256, 64]⟩
abbrev S2x16384x2048 : Shape := ⟨3, ![2, 16384, 2048]⟩

abbrev nBuf : Space → Nat
  | .hbm => 171
  | .vmem => 0
  | .smem => 0
  | _ => 0

abbrev hbmTy0_0 (i : Nat) : BufTy := match i % 128 with
  | 0 => ⟨S2x16384x6144, .bf16⟩
  | 1 => ⟨S2x256x6144, .bf16⟩
  | 2 => ⟨S32x15x31, .f32⟩
  | 3 => ⟨S2x16384x6144, .f32⟩
  | 4 => ⟨S2x16384x3x32x64, .f32⟩
  | 5 => ⟨S2x256x6144, .f32⟩
  | 6 => ⟨S2x256x3x32x64, .f32⟩
  | 7 => ⟨S2x16384x1x32x64, .f32⟩
  | 8 => ⟨S2x16384x32x64, .f32⟩
  | 9 => ⟨S2x16384x1x32x64, .f32⟩
  | 10 => ⟨S2x16384x32x64, .f32⟩
  | 11 => ⟨S2x16384x1x32x64, .f32⟩
  | 12 => ⟨S2x16384x32x64, .f32⟩
  | 13 => ⟨S2x256x1x32x64, .f32⟩
  | 14 => ⟨S2x256x32x64, .f32⟩
  | 15 => ⟨S2x256x1x32x64, .f32⟩
  | 16 => ⟨S2x256x32x64, .f32⟩
  | 17 => ⟨S2x256x64x32x64, .f32⟩
  | 18 => ⟨S2x256x64x32x64, .f32⟩
  | 19 => ⟨S2x256x64x32x64, .f32⟩
  | 20 => ⟨S64, .i32⟩
  | 21 => ⟨S_, .i32⟩
  | 22 => ⟨S64, .i32⟩
  | 23 => ⟨S64, .i32⟩
  | 24 => ⟨S_, .i32⟩
  | 25 => ⟨S_, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S1x64, .i32⟩
  | 33 => ⟨S64x1, .i32⟩
  | 34 => ⟨S64x64, .i32⟩
  | 35 => ⟨S64x64, .i32⟩
  | 36 => ⟨S64x64, .i1⟩
  | 37 => ⟨S1x64, .i32⟩
  | 38 => ⟨S64x1, .i32⟩
  | 39 => ⟨S_, .i32⟩
  | 40 => ⟨S64x1, .i32⟩
  | 41 => ⟨S64x1, .i32⟩
  | 42 => ⟨S64x64, .i32⟩
  | 43 => ⟨S64x64, .i32⟩
  | 44 => ⟨S64x64, .i1⟩
  | 45 => ⟨S64x64, .i1⟩
  | 46 => ⟨S1x64, .i32⟩
  | 47 => ⟨S64x1, .i32⟩
  | 48 => ⟨S64x64, .i32⟩
  | 49 => ⟨S64x64, .i32⟩
  | 50 => ⟨S64x64, .i32⟩
  | 51 => ⟨S_, .i32⟩
  | 52 => ⟨S_, .i32⟩
  | 53 => ⟨S_, .i32⟩
  | 54 => ⟨S64x64, .i32⟩
  | 55 => ⟨S64x64, .i32⟩
  | 56 => ⟨S_, .i32⟩
  | 57 => ⟨S64x64, .i32⟩
  | 58 => ⟨S64x64, .i32⟩
  | 59 => ⟨S_, .i32⟩
  | 60 => ⟨S64x64, .i32⟩
  | 61 => ⟨S64x64, .i32⟩
  | 62 => ⟨S256, .i32⟩
  | 63 => ⟨S_, .i32⟩
  | 64 => ⟨S256, .i32⟩
  | 65 => ⟨S256, .i32⟩
  | 66 => ⟨S_, .i32⟩
  | 67 => ⟨S_, .i32⟩
  | 68 => ⟨S_, .i32⟩
  | 69 => ⟨S256, .i32⟩
  | 70 => ⟨S256, .i32⟩
  | 71 => ⟨S_, .i32⟩
  | 72 => ⟨S256, .i32⟩
  | 73 => ⟨S256, .i32⟩
  | 74 => ⟨S256x1, .i32⟩
  | 75 => ⟨S8, .i32⟩
  | 76 => ⟨S1x8, .i32⟩
  | 77 => ⟨S256x8, .i32⟩
  | 78 => ⟨S256x8, .i32⟩
  | 79 => ⟨S256x8, .i32⟩
  | 80 => ⟨S_, .i32⟩
  | 81 => ⟨S256x8, .i32⟩
  | 82 => ⟨S256x8, .i1⟩
  | 83 => ⟨S_, .i32⟩
  | 84 => ⟨S256x8, .i32⟩
  | 85 => ⟨S256x8, .i32⟩
  | 86 => ⟨S256x8, .i32⟩
  | 87 => ⟨S256x8x1, .i32⟩
  | 88 => ⟨S2x256x8x64x32x64, .f32⟩
  | 89 => ⟨S_, .i32⟩
  | 90 => ⟨S256x8, .i32⟩
  | 91 => ⟨S256x8, .i1⟩
  | 92 => ⟨S_, .i32⟩
  | 93 => ⟨S256x8, .i32⟩
  | 94 => ⟨S256x8, .i32⟩
  | 95 => ⟨S256x8, .i32⟩
  | 96 => ⟨S256x8x1, .i32⟩
  | 97 => ⟨S2x256x8x64x32x64, .f32⟩
  | 98 => ⟨S2x256x32x64x8x64, .f32⟩
  | 99 => ⟨S_, .f32⟩
  | 100 => ⟨S2x256x32x64x8x64, .f32⟩
  | 101 => ⟨S2x256x32x64x8x64, .f32⟩
  | 102 => ⟨S256x1, .i32⟩
  | 103 => ⟨S256x8, .i32⟩
  | 104 => ⟨S256x8, .i32⟩
  | 105 => ⟨S_, .i32⟩
  | 106 => ⟨S256x8, .i32⟩
  | 107 => ⟨S256x8, .i32⟩
  | 108 => ⟨S256x1x8x1, .i32⟩
  | 109 => ⟨S1x64x1x64, .i32⟩
  | 110 => ⟨S_, .i32⟩
  | 111 => ⟨S256x1x8x1, .i32⟩
  | 112 => ⟨S256x1x8x1, .i1⟩
  | 113 => ⟨S_, .i32⟩
  | 114 => ⟨S256x1x8x1, .i32⟩
  | 115 => ⟨S256x1x8x1, .i32⟩
  | 116 => ⟨S256x1x8x1, .i32⟩
  | 117 => ⟨S_, .i32⟩
  | 118 => ⟨S1x64x1x64, .i32⟩
  | 119 => ⟨S1x64x1x64, .i1⟩
  | 120 => ⟨S_, .i32⟩
  | 121 => ⟨S1x64x1x64, .i32⟩
  | 122 => ⟨S1x64x1x64, .i32⟩
  | 123 => ⟨S1x64x1x64, .i32⟩
  | 124 => ⟨S256x64x8x64, .i32⟩
  | 125 => ⟨S256x64x8x64, .i32⟩
  | 126 => ⟨S256x64x8x64x1, .i32⟩
  | 127 => ⟨S256x64x8x64x1, .i32⟩
  | _ => ⟨S2x16384x6144, .bf16⟩

abbrev hbmTy0_1 (i : Nat) : BufTy := match i % 128 with
  | 0 => ⟨S256x64x8x64x2, .i32⟩
  | 1 => ⟨S32x256x64x8x64, .f32⟩
  | 2 => ⟨S256x32x64x8x64, .f32⟩
  | 3 => ⟨S1x1x1x64x1x64, .i1⟩
  | 4 => ⟨S1x256x32x64x8x64, .f32⟩
  | 5 => ⟨S2x256x32x64x8x64, .f32⟩
  | 6 => ⟨S2x256x32x64x8x64, .f32⟩
  | 7 => ⟨S_, .f32⟩
  | 8 => ⟨S_, .f32⟩
  | 9 => ⟨S2x256x32x64x8x64, .i1⟩
  | 10 => ⟨S2x256x32x64x8x64, .f32⟩
  | 11 => ⟨S2x256x32x64x8x64, .f32⟩
  | 12 => ⟨S2x32x256x256x64, .f32⟩
  | 13 => ⟨S2x256x32x64x256, .f32⟩
  | 14 => ⟨S_, .f32⟩
  | 15 => ⟨S2x256x32x64x256, .f32⟩
  | 16 => ⟨S2x256x32x64x256, .f32⟩
  | 17 => ⟨S2x256x32x64x512, .f32⟩
  | 18 => ⟨S2x256x32x64x768, .f32⟩
  | 19 => ⟨S_, .f32⟩
  | 20 => ⟨S2x256x32x64, .f32⟩
  | 21 => ⟨S_, .f32⟩
  | 22 => ⟨S2x256x32x64, .f32⟩
  | 23 => ⟨S2x256x32x64, .f32⟩
  | 24 => ⟨S2x256x32x64x1, .f32⟩
  | 25 => ⟨S2x256x32x64x768, .f32⟩
  | 26 => ⟨S2x256x32x64x768, .f32⟩
  | 27 => ⟨S2x256x32x64x768, .f32⟩
  | 28 => ⟨S_, .f32⟩
  | 29 => ⟨S2x256x32x64, .f32⟩
  | 30 => ⟨S2x256x32x64x1, .f32⟩
  | 31 => ⟨S2x256x32x64x768, .f32⟩
  | 32 => ⟨S2x256x32x64x768, .f32⟩
  | 33 => ⟨S2x256x32x64x512, .f32⟩
  | 34 => ⟨S2x256x32x64x8x64, .f32⟩
  | 35 => ⟨S2x256x32x64x256, .f32⟩
  | 36 => ⟨S2x256x32x64x64, .f32⟩
  | 37 => ⟨S2x256x64x32x64, .f32⟩
  | 38 => ⟨S2x32x64x256x64, .f32⟩
  | 39 => ⟨S2x256x64x32x64, .f32⟩
  | 40 => ⟨S2x256x64x32x64, .f32⟩
  | 41 => ⟨S2x16384x2048, .f32⟩
  | 42 => ⟨S2x16384x2048, .bf16⟩
  | _ => ⟨S2x16384x6144, .bf16⟩

abbrev hbmTy (i : Nat) : BufTy := match i / 128 with
  | 0 => hbmTy0_0 i
  | 1 => hbmTy0_1 i
  | _ => ⟨S2x16384x6144, .bf16⟩

abbrev bufTy : (tb : Table) → Fin (tcTables nBuf tb) → BufTy
  | .hbm, ⟨i, _⟩ => hbmTy i
  | _, _ => ⟨S2x16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_3 : Ref sig .tc := ⟨.hbm, 51, rfl⟩
abbrev main_c_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_c_8 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_c_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_20 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩

abbrev nD : Nat := 1
abbrev τ : Topo := Topo.v7x

variable {F : FTy → Type} [FloatOps F]
-- ==== Ffn.lean ====
abbrev S2x16384x2048 : Shape := ⟨3, ![2, 16384, 2048]⟩
abbrev S2x6x1x2048 : Shape := ⟨4, ![2, 6, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2x6x2048 : Shape := ⟨3, ![2, 6, 2048]⟩
abbrev S1x11264 : Shape := ⟨2, ![1, 11264]⟩
abbrev S1x2048 : Shape := ⟨2, ![1, 2048]⟩
abbrev S1x512x2048 : Shape := ⟨3, ![1, 512, 2048]⟩
abbrev S1x16x2048 : Shape := ⟨3, ![1, 16, 2048]⟩
abbrev S1x6x2048 : Shape := ⟨3, ![1, 6, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S544x2048 : Shape := ⟨2, ![544, 2048]⟩
abbrev S544x512 : Shape := ⟨2, ![544, 512]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 28
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S2x6x2048, .f32⟩
  | .hbm, ⟨8, _⟩ => ⟨S2048x11264, .bf16⟩
  | .hbm, ⟨9, _⟩ => ⟨S1x11264, .f32⟩
  | .hbm, ⟨10, _⟩ => ⟨S5632x2048, .bf16⟩
  | .hbm, ⟨11, _⟩ => ⟨S1x2048, .f32⟩
  | .hbm, ⟨12, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x6x2048, .f32⟩
  | .local _ .vmem, ⟨7, _⟩ => ⟨S1x6x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S1x512x2048, .f32⟩
  | .local _ .vmem, ⟨24, _⟩ => ⟨S1x512x2048, .f32⟩
  | .local _ .vmem, ⟨25, _⟩ => ⟨S544x2048, .bf16⟩
  | .local _ .vmem, ⟨26, _⟩ => ⟨S544x512, .f32⟩
  | .local _ .vmem, ⟨27, _⟩ => ⟨S544x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![2, 32, 11], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg2 : BitVec 32 := BitVec.ofNat 32 (i 2).val
  let c0_i32_6 : BitVec 32 := 0#32
  let v9 : BitVec 1 := Scalar.cmpi .sgt arg2 c0_i32_6
  let c10_i32 : BitVec 32 := 10#32
  let v10 : BitVec 1 := Scalar.cmpi .slt arg2 c10_i32
  let v11 : BitVec 1 := Scalar.andi v9 v10
  let v12 : BitVec 32 := Scalar.extui v11
  let c0_i32_7 : BitVec 32 := 0#32
  let v13 : BitVec 1 := Scalar.cmpi .ne v12 c0_i32_7
  v13

def k0_cond3 (i : grid0.Coords) : BitVec 1 :=
  let arg2 : BitVec 32 := BitVec.ofNat 32 (i 2).val
  let c10_i32_8 : BitVec 32 := 10#32
  let v14 : BitVec 1 := Scalar.cmpi .eq arg2 c10_i32_8
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== FfnRefIdeal.lean ====
abbrev S2x16384x2048 : Shape := ⟨3, ![2, 16384, 2048]⟩
abbrev S2x6x1x2048 : Shape := ⟨4, ![2, 6, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2x1x1x2048 : Shape := ⟨4, ![2, 1, 1, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S2x16384x11264 : Shape := ⟨3, ![2, 16384, 11264]⟩
abbrev S2x16386x11264 : Shape := ⟨3, ![2, 16386, 11264]⟩
abbrev S1x11264 : Shape := ⟨2, ![1, 11264]⟩
abbrev S1x1x11264 : Shape := ⟨3, ![1, 1, 11264]⟩
abbrev S2x16384x5632 : Shape := ⟨3, ![2, 16384, 5632]⟩
abbrev S1x1x2048 : Shape := ⟨3, ![1, 1, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S2x1x1x2048, .f32⟩
  | .hbm, ⟨8, _⟩ => ⟨S2x1x2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S2x1x1x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x16384x2048, .f32⟩
  | .hbm, ⟨28, _⟩ => ⟨S2x16384x2048, .f32⟩
  | .hbm, ⟨29, _⟩ => ⟨S2x1x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x11264, .f32⟩
  | .hbm, ⟨34, _⟩ => ⟨S_, .i32⟩
  | .hbm, ⟨35, _⟩ => ⟨S_, .f32⟩
  | .hbm, ⟨36, _⟩ => ⟨S2x16386x11264, .f32⟩
  | .hbm, ⟨37, _⟩ => ⟨S2x16384x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S2x16384x11264, .f32⟩
  | .hbm, ⟨42, _⟩ => ⟨S2x16384x11264, .f32⟩
  | .hbm, ⟨43, _⟩ => ⟨S_, .f32⟩
  | .hbm, ⟨44, _⟩ => ⟨S2x16384x11264, .f32⟩
  | .hbm, ⟨45, _⟩ => ⟨S2x16384x11264, .f32⟩
  | .hbm, ⟨46, _⟩ => ⟨S2x16384x11264, .f32⟩
  | .hbm, ⟨47, _⟩ => ⟨S1x11264, .f32⟩
  | .hbm, ⟨48, _⟩ => ⟨S11264, .f32⟩
  | .hbm, ⟨49, _⟩ => ⟨S1x1x11264, .f32⟩
  | .hbm, ⟨50, _⟩ => ⟨S2x16384x11264, .f32⟩
  | .hbm, ⟨51, _⟩ => ⟨S2x16384x11264, .f32⟩
  | .hbm, ⟨52, _⟩ => ⟨S2x16384x11264, .f32⟩
  | .hbm, ⟨53, _⟩ => ⟨S2x16384x11264, .f32⟩
  | .hbm, ⟨54, _⟩ => ⟨S1x11264, .f32⟩
  | .hbm, ⟨55, _⟩ => ⟨S11264, .f32⟩
  | .hbm, ⟨56, _⟩ => ⟨S1x1x11264, .f32⟩
  | .hbm, ⟨57, _⟩ => ⟨S2x16384x11264, .f32⟩
  | .hbm, ⟨58, _⟩ => ⟨S2x16384x11264, .f32⟩
  | .hbm, ⟨59, _⟩ => ⟨S2x16384x11264, .f32⟩
  | .hbm, ⟨60, _⟩ => ⟨S1x1x11264, .f32⟩
  | .hbm, ⟨61, _⟩ => ⟨S2x16384x11264, .f32⟩
  | .hbm, ⟨62, _⟩ => ⟨S2x16384x11264, .f32⟩
  | .hbm, ⟨63, _⟩ => ⟨S2x16384x5632, .f32⟩
  | .hbm, ⟨64, _⟩ => ⟨S2x16384x5632, .f32⟩
  | .hbm, ⟨65, _⟩ => ⟨S2x16384x5632, .f32⟩
  | .hbm, ⟨66, _⟩ => ⟨S2x16384x5632, .f32⟩
  | .hbm, ⟨67, _⟩ => ⟨S_, .f32⟩
  | .hbm, ⟨68, _⟩ => ⟨S2x16384x5632, .f32⟩
  | .hbm, ⟨69, _⟩ => ⟨S2x16384x5632, .f32⟩
  | .hbm, ⟨70, _⟩ => ⟨S_, .f32⟩
  | .hbm, ⟨71, _⟩ => ⟨S2x16384x5632, .f32⟩
  | .hbm, ⟨72, _⟩ => ⟨S2x16384x5632, .f32⟩
  | .hbm, ⟨73, _⟩ => ⟨S2x16384x5632, .f32⟩
  | .hbm, ⟨74, _⟩ => ⟨S2x16384x5632, .f32⟩
  | .hbm, ⟨75, _⟩ => ⟨S2x16384x2048, .f32⟩
  | .hbm, ⟨76, _⟩ => ⟨S2x16384x2048, .f32⟩
  | .hbm, ⟨77, _⟩ => ⟨S2x16384x2048, .f32⟩
  | .hbm, ⟨78, _⟩ => ⟨S2x16384x2048, .f32⟩
  | .hbm, ⟨79, _⟩ => ⟨S2x16384x2048, .f32⟩
  | .hbm, ⟨80, _⟩ => ⟨S_, .f32⟩
  | .hbm, ⟨81, _⟩ => ⟨S2x16384, .f32⟩
  | .hbm, ⟨82, _⟩ => ⟨S2x16384x1, .f32⟩
  | .hbm, ⟨83, _⟩ => ⟨S_, .f32⟩
  | .hbm, ⟨84, _⟩ => ⟨S2x16384x1, .f32⟩
  | .hbm, ⟨85, _⟩ => ⟨S2x16384x1, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S2x16384x1, .f32⟩
  | .hbm, ⟨90, _⟩ => ⟨S2x16384x2048, .f32⟩
  | .hbm, ⟨91, _⟩ => ⟨S2x16384x2048, .f32⟩
  | .hbm, ⟨92, _⟩ => ⟨S1x1x2048, .f32⟩
  | .hbm, ⟨93, _⟩ => ⟨S2x16384x2048, .f32⟩
  | .hbm, ⟨94, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_4 : Ref sig .tc := ⟨.hbm, 80, rfl⟩
abbrev main_v58 : Ref sig .tc := ⟨.hbm, 81, rfl⟩
abbrev main_v59 : Ref sig .tc := ⟨.hbm, 82, rfl⟩
abbrev main_cst_5 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Mid.lean ====
abbrev S2x16384x2048 : Shape := ⟨3, ![2, 16384, 2048]⟩
abbrev S2x6x1x2048 : Shape := ⟨4, ![2, 6, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2x6x2048 : Shape := ⟨3, ![2, 6, 2048]⟩
abbrev S1x11264 : Shape := ⟨2, ![1, 11264]⟩
abbrev S1x2048 : Shape := ⟨2, ![1, 2048]⟩
abbrev S1x512x2048 : Shape := ⟨3, ![1, 512, 2048]⟩
abbrev S1x16x2048 : Shape := ⟨3, ![1, 16, 2048]⟩
abbrev S1x6x2048 : Shape := ⟨3, ![1, 6, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S544x2048 : Shape := ⟨2, ![544, 2048]⟩
abbrev S544x512 : Shape := ⟨2, ![544, 512]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 28
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S2x6x2048, .f32⟩
  | .hbm, ⟨8, _⟩ => ⟨S2048x11264, .bf16⟩
  | .hbm, ⟨9, _⟩ => ⟨S1x11264, .f32⟩
  | .hbm, ⟨10, _⟩ => ⟨S5632x2048, .bf16⟩
  | .hbm, ⟨11, _⟩ => ⟨S1x2048, .f32⟩
  | .hbm, ⟨12, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x6x2048, .f32⟩
  | .local _ .vmem, ⟨7, _⟩ => ⟨S1x6x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S1x512x2048, .f32⟩
  | .local _ .vmem, ⟨24, _⟩ => ⟨S1x512x2048, .f32⟩
  | .local _ .vmem, ⟨25, _⟩ => ⟨S544x2048, .bf16⟩
  | .local _ .vmem, ⟨26, _⟩ => ⟨S544x512, .f32⟩
  | .local _ .vmem, ⟨27, _⟩ => ⟨S544x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![2, 32, 11], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg2 : BitVec 32 := BitVec.ofNat 32 (i 2).val
  let c0_i32_6 : BitVec 32 := 0#32
  let v9 : BitVec 1 := Scalar.cmpi .sgt arg2 c0_i32_6
  let c10_i32 : BitVec 32 := 10#32
  let v10 : BitVec 1 := Scalar.cmpi .slt arg2 c10_i32
  let v11 : BitVec 1 := Scalar.andi v9 v10
  let v12 : BitVec 32 := Scalar.extui v11
  let c0_i32_7 : BitVec 32 := 0#32
  let v13 : BitVec 1 := Scalar.cmpi .ne v12 c0_i32_7
  v13

def k0_cond3 (i : grid0.Coords) : BitVec 1 :=
  let arg2 : BitVec 32 := BitVec.ofNat 32 (i 2).val
  let c10_i32_8 : BitVec 32 := 10#32
  let v14 : BitVec 1 := Scalar.cmpi .eq arg2 c10_i32_8
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== MidRefIdeal.lean ====
abbrev S2x16384x2048 : Shape := ⟨3, ![2, 16384, 2048]⟩
abbrev S2x6x1x2048 : Shape := ⟨4, ![2, 6, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2x1x1x2048 : Shape := ⟨4, ![2, 1, 1, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S2x16384x11264 : Shape := ⟨3, ![2, 16384, 11264]⟩
abbrev S2x16386x11264 : Shape := ⟨3, ![2, 16386, 11264]⟩
abbrev S1x11264 : Shape := ⟨2, ![1, 11264]⟩
abbrev S1x1x11264 : Shape := ⟨3, ![1, 1, 11264]⟩
abbrev S2x16384x5632 : Shape := ⟨3, ![2, 16384, 5632]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S2x1x1x2048, .f32⟩
  | .hbm, ⟨8, _⟩ => ⟨S2x1x2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S2x1x1x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x16384x2048, .f32⟩
  | .hbm, ⟨28, _⟩ => ⟨S2x16384x2048, .f32⟩
  | .hbm, ⟨29, _⟩ => ⟨S2x1x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x11264, .f32⟩
  | .hbm, ⟨34, _⟩ => ⟨S_, .i32⟩
  | .hbm, ⟨35, _⟩ => ⟨S_, .f32⟩
  | .hbm, ⟨36, _⟩ => ⟨S2x16386x11264, .f32⟩
  | .hbm, ⟨37, _⟩ => ⟨S2x16384x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S2x16384x11264, .f32⟩
  | .hbm, ⟨42, _⟩ => ⟨S2x16384x11264, .f32⟩
  | .hbm, ⟨43, _⟩ => ⟨S_, .f32⟩
  | .hbm, ⟨44, _⟩ => ⟨S2x16384x11264, .f32⟩
  | .hbm, ⟨45, _⟩ => ⟨S2x16384x11264, .f32⟩
  | .hbm, ⟨46, _⟩ => ⟨S2x16384x11264, .f32⟩
  | .hbm, ⟨47, _⟩ => ⟨S1x11264, .f32⟩
  | .hbm, ⟨48, _⟩ => ⟨S11264, .f32⟩
  | .hbm, ⟨49, _⟩ => ⟨S1x1x11264, .f32⟩
  | .hbm, ⟨50, _⟩ => ⟨S2x16384x11264, .f32⟩
  | .hbm, ⟨51, _⟩ => ⟨S2x16384x11264, .f32⟩
  | .hbm, ⟨52, _⟩ => ⟨S2x16384x11264, .f32⟩
  | .hbm, ⟨53, _⟩ => ⟨S2x16384x11264, .f32⟩
  | .hbm, ⟨54, _⟩ => ⟨S1x11264, .f32⟩
  | .hbm, ⟨55, _⟩ => ⟨S11264, .f32⟩
  | .hbm, ⟨56, _⟩ => ⟨S1x1x11264, .f32⟩
  | .hbm, ⟨57, _⟩ => ⟨S2x16384x11264, .f32⟩
  | .hbm, ⟨58, _⟩ => ⟨S2x16384x11264, .f32⟩
  | .hbm, ⟨59, _⟩ => ⟨S2x16384x11264, .f32⟩
  | .hbm, ⟨60, _⟩ => ⟨S1x1x11264, .f32⟩
  | .hbm, ⟨61, _⟩ => ⟨S2x16384x11264, .f32⟩
  | .hbm, ⟨62, _⟩ => ⟨S2x16384x11264, .f32⟩
  | .hbm, ⟨63, _⟩ => ⟨S2x16384x5632, .f32⟩
  | .hbm, ⟨64, _⟩ => ⟨S2x16384x5632, .f32⟩
  | .hbm, ⟨65, _⟩ => ⟨S2x16384x5632, .f32⟩
  | .hbm, ⟨66, _⟩ => ⟨S2x16384x5632, .f32⟩
  | .hbm, ⟨67, _⟩ => ⟨S_, .f32⟩
  | .hbm, ⟨68, _⟩ => ⟨S2x16384x5632, .f32⟩
  | .hbm, ⟨69, _⟩ => ⟨S2x16384x5632, .f32⟩
  | .hbm, ⟨70, _⟩ => ⟨S_, .f32⟩
  | .hbm, ⟨71, _⟩ => ⟨S2x16384x5632, .f32⟩
  | .hbm, ⟨72, _⟩ => ⟨S2x16384x5632, .f32⟩
  | .hbm, ⟨73, _⟩ => ⟨S2x16384x5632, .f32⟩
  | .hbm, ⟨74, _⟩ => ⟨S2x16384x5632, .f32⟩
  | .hbm, ⟨75, _⟩ => ⟨S2x16384x2048, .f32⟩
  | .hbm, ⟨76, _⟩ => ⟨S2x16384x2048, .f32⟩
  | .hbm, ⟨77, _⟩ => ⟨S2x16384x2048, .f32⟩
  | .hbm, ⟨78, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Qkv.lean ====
abbrev S2x16384x2048 : Shape := ⟨3, ![2, 16384, 2048]⟩
abbrev S2x6x1x2048 : Shape := ⟨4, ![2, 6, 1, 2048]⟩
abbrev S2048x6144 : Shape := ⟨2, ![2048, 6144]⟩
abbrev S2x6x2048 : Shape := ⟨3, ![2, 6, 2048]⟩
abbrev S2x16384x6144 : Shape := ⟨3, ![2, 16384, 6144]⟩
abbrev S1x1024x2048 : Shape := ⟨3, ![1, 1024, 2048]⟩
abbrev S1x6x2048 : Shape := ⟨3, ![1, 6, 2048]⟩
abbrev S2048x1024 : Shape := ⟨2, ![2048, 1024]⟩
abbrev S1x1024x1024 : Shape := ⟨3, ![1, 1024, 1024]⟩
abbrev S1024x2048 : Shape := ⟨2, ![1024, 2048]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x6144, .f32⟩
  | .hbm, ⟨3, _⟩ => ⟨S2x6x2048, .f32⟩
  | .hbm, ⟨4, _⟩ => ⟨S2048x6144, .bf16⟩
  | .hbm, ⟨5, _⟩ => ⟨S2x16384x6144, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== QkvRefIdeal.lean ====
abbrev S2x16384x2048 : Shape := ⟨3, ![2, 16384, 2048]⟩
abbrev S2x6x1x2048 : Shape := ⟨4, ![2, 6, 1, 2048]⟩
abbrev S2048x6144 : Shape := ⟨2, ![2048, 6144]⟩
abbrev S_ : Shape := ⟨0, ![]⟩
abbrev S2x16384 : Shape := ⟨2, ![2, 16384]⟩
abbrev S2x16384x1 : Shape := ⟨3, ![2, 16384, 1]⟩
abbrev S2x1x1x2048 : Shape := ⟨4, ![2, 1, 1, 2048]⟩
abbrev S2x1x2048 : Shape := ⟨3, ![2, 1, 2048]⟩
abbrev S2x16384x6144 : Shape := ⟨3, ![2, 16384, 6144]⟩

abbrev nBuf : Space → Nat
  | .hbm => 29
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x6144, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S2x1x1x2048, .f32⟩
  | .hbm, ⟨17, _⟩ => ⟨S2x1x2048, .f32⟩
  | .hbm, ⟨18, _⟩ => ⟨S_, .f32⟩
  | .hbm, ⟨19, _⟩ => ⟨S2x1x2048, .f32⟩
  | .hbm, ⟨20, _⟩ => ⟨S2x1x2048, .f32⟩
  | .hbm, ⟨21, _⟩ => ⟨S2x16384x2048, .f32⟩
  | .hbm, ⟨22, _⟩ => ⟨S2x16384x2048, .f32⟩
  | .hbm, ⟨23, _⟩ => ⟨S2x1x1x2048, .f32⟩
  | .hbm, ⟨24, _⟩ => ⟨S2x1x2048, .f32⟩
  | .hbm, ⟨25, _⟩ => ⟨S2x16384x2048, .f32⟩
  | .hbm, ⟨26, _⟩ => ⟨S2x16384x2048, .f32⟩
  | .hbm, ⟨27, _⟩ => ⟨S2x16384x6144, .f32⟩
  | .hbm, ⟨28, _⟩ => ⟨S2x16384x6144, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Out.lean ====
abbrev S2x16384x2048 : Shape := ⟨3, ![2, 16384, 2048]⟩
abbrev S2x6x1x2048 : Shape := ⟨4, ![2, 6, 1, 2048]⟩
abbrev S2048x2048 : Shape := ⟨2, ![2048, 2048]⟩
abbrev S2x6x2048 : Shape := ⟨3, ![2, 6, 2048]⟩
abbrev S1x512x2048 : Shape := ⟨3, ![1, 512, 2048]⟩
abbrev S1x6x2048 : Shape := ⟨3, ![1, 6, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .f32⟩
  | .hbm, ⟨2, _⟩ => ⟨S2x6x1x2048, .f32⟩
  | .hbm, ⟨3, _⟩ => ⟨S2048x2048, .f32⟩
  | .hbm, ⟨4, _⟩ => ⟨S2x6x2048, .f32⟩
  | .hbm, ⟨5, _⟩ => ⟨S2048x2048, .bf16⟩
  | .hbm, ⟨6, _⟩ => ⟨S2x16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x2048, .bf16⟩
  | .local _ .vmem, ⟨7, _⟩ => ⟨S1x512x2048, .f32⟩
  | .local _ .vmem, ⟨8, _⟩ => ⟨S1x512x2048, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S2x16384x2048 : Shape := ⟨3, ![2, 16384, 2048]⟩
abbrev S2x6x1x2048 : Shape := ⟨4, ![2, 6, 1, 2048]⟩
abbrev S2048x2048 : Shape := ⟨2, ![2048, 2048]⟩
abbrev S2x1x1x2048 : Shape := ⟨4, ![2, 1, 1, 2048]⟩
abbrev S2x1x2048 : Shape := ⟨3, ![2, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .f32⟩
  | .hbm, ⟨2, _⟩ => ⟨S2x6x1x2048, .f32⟩
  | .hbm, ⟨3, _⟩ => ⟨S2048x2048, .f32⟩
  | .hbm, ⟨4, _⟩ => ⟨S2x16384x2048, .f32⟩
  | .hbm, ⟨5, _⟩ => ⟨S2x16384x2048, .f32⟩
  | .hbm, ⟨6, _⟩ => ⟨S2x1x1x2048, .f32⟩
  | .hbm, ⟨7, _⟩ => ⟨S2x1x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Glu.lean ====
abbrev S2x16384x2048 : Shape := ⟨3, ![2, 16384, 2048]⟩
abbrev S2x6x1x2048 : Shape := ⟨4, ![2, 6, 1, 2048]⟩
abbrev S2048x4096 : Shape := ⟨2, ![2048, 4096]⟩
abbrev S4096 : Shape := ⟨1, ![4096]⟩
abbrev S2x6x2048 : Shape := ⟨3, ![2, 6, 2048]⟩
abbrev S1x4096 : Shape := ⟨2, ![1, 4096]⟩
abbrev S1x1024x2048 : Shape := ⟨3, ![1, 1024, 2048]⟩
abbrev S1x6x2048 : Shape := ⟨3, ![1, 6, 2048]⟩
abbrev S2048x512 : Shape := ⟨2, ![2048, 512]⟩
abbrev S1x512 : Shape := ⟨2, ![1, 512]⟩
abbrev S1x1024x512 : Shape := ⟨3, ![1, 1024, 512]⟩
abbrev S1024x2048 : Shape := ⟨2, ![1024, 2048]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 15
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x4096, .f32⟩
  | .hbm, ⟨3, _⟩ => ⟨S4096, .f32⟩
  | .hbm, ⟨4, _⟩ => ⟨S2x6x2048, .f32⟩
  | .hbm, ⟨5, _⟩ => ⟨S2048x4096, .bf16⟩
  | .hbm, ⟨6, _⟩ => ⟨S1x4096, .f32⟩
  | .hbm, ⟨7, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x1024x512, .f32⟩
  | .local _ .vmem, ⟨13, _⟩ => ⟨S1x1024x512, .f32⟩
  | .local _ .vmem, ⟨14, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== GluRefIdeal.lean ====
abbrev S2x16384x2048 : Shape := ⟨3, ![2, 16384, 2048]⟩
abbrev S2x6x1x2048 : Shape := ⟨4, ![2, 6, 1, 2048]⟩
abbrev S2048x4096 : Shape := ⟨2, ![2048, 4096]⟩
abbrev S4096 : Shape := ⟨1, ![4096]⟩
abbrev S_ : Shape := ⟨0, ![]⟩
abbrev S2x16384 : Shape := ⟨2, ![2, 16384]⟩
abbrev S2x16384x1 : Shape := ⟨3, ![2, 16384, 1]⟩
abbrev S2x1x1x2048 : Shape := ⟨4, ![2, 1, 1, 2048]⟩
abbrev S2x1x2048 : Shape := ⟨3, ![2, 1, 2048]⟩
abbrev S2x16384x4096 : Shape := ⟨3, ![2, 16384, 4096]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x6x1x2048, .f32⟩
  | .hbm, ⟨2, _⟩ => ⟨S2048x4096, .f32⟩
  | .hbm, ⟨3, _⟩ => ⟨S4096, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S2x1x1x2048, .f32⟩
  | .hbm, ⟨18, _⟩ => ⟨S2x1x2048, .f32⟩
  | .hbm, ⟨19, _⟩ => ⟨S_, .f32⟩
  | .hbm, ⟨20, _⟩ => ⟨S2x1x2048, .f32⟩
  | .hbm, ⟨21, _⟩ => ⟨S2x1x2048, .f32⟩
  | .hbm, ⟨22, _⟩ => ⟨S2x16384x2048, .f32⟩
  | .hbm, ⟨23, _⟩ => ⟨S2x16384x2048, .f32⟩
  | .hbm, ⟨24, _⟩ => ⟨S2x1x1x2048, .f32⟩
  | .hbm, ⟨25, _⟩ => ⟨S2x1x2048, .f32⟩
  | .hbm, ⟨26, _⟩ => ⟨S2x16384x2048, .f32⟩
  | .hbm, ⟨27, _⟩ => ⟨S2x16384x2048, .f32⟩
  | .hbm, ⟨28, _⟩ => ⟨S2x16384x4096, .f32⟩
  | .hbm, ⟨29, _⟩ => ⟨S1x1x4096, .f32⟩
  | .hbm, ⟨30, _⟩ => ⟨S2x16384x4096, .f32⟩
  | .hbm, ⟨31, _⟩ => ⟨S2x16384x4096, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S_, .f32⟩
  | .hbm, ⟨37, _⟩ => ⟨S2x16384x2048, .f32⟩
  | .hbm, ⟨38, _⟩ => ⟨S2x16384x2048, .f32⟩
  | .hbm, ⟨39, _⟩ => ⟨S_, .f32⟩
  | .hbm, ⟨40, _⟩ => ⟨S2x16384x2048, .f32⟩
  | .hbm, ⟨41, _⟩ => ⟨S2x16384x2048, .f32⟩
  | .hbm, ⟨42, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Finite.lean ====
/- The precondition read at the extended reals: every argument entry is a real number. -/
module

public import proofs.«01_k».proof.Defs
public import Idealize.ShloMosaic.Lib.Pointwise

@[expose] public section

set_option backward.isDefEq.respectTransparency false

noncomputable section

namespace Cert.Attn

open Idealize.ShloMosaic Idealize.ShloMosaic.TcCoe

/-- The predicate's side conditions. -/
theorem finite_facts : Cert.Pre_finite.Facts where
  bitsLt_bf16_f32 := by decide
  bcast_S_S2x16384x6144 := by decide
  bcast_S_S2x256x6144 := by decide
  bcast_S_S32x15x31 := by decide

theorem ofBits_inf : Ideal.ofBits .f32 0x7F800000#32 = ⊤ := by
  simp [Ideal.ofBits, Ideal.ieee]

/-- An entry whose absolute value is below +∞ is a real number. -/
theorem real_of_abs_lt (x : EReal) (h : Ideal.cmp .olt (max x (-x)) (Ideal.ofBits .f32 0x7F800000#32) = 1#1) : x = (x.toReal : EReal) := by
  have hb : ∀ p : Bool, BitVec.ofBool p = 1#1 → p = true := by decide
  rw [ofBits_inf] at h
  have h' : max x (-x) < ⊤ := of_decide_eq_true (hb _ h)
  have h1 : x ≠ ⊤ := fun e => by rw [e] at h'; simp at h'
  have h2 : x ≠ ⊥ := fun e => by rw [e] at h'; simp at h'
  exact (EReal.coe_toReal h1 h2).symm

/-- An array's entries as real numbers, by natural indices. -/
def entries {a b c : Nat} (x : (⟨3, ![a, b, c]⟩ : Shape).Idx → EReal) (i j k : Nat) : ℝ :=
  if h : i < a ∧ j < b ∧ k < c then (x (ix3 ⟨i, h.1⟩ ⟨j, h.2.1⟩ ⟨k, h.2.2⟩)).toReal else 0

theorem entries_eq {a b c : Nat} (x : (⟨3, ![a, b, c]⟩ : Shape).Idx → EReal) (hx : ∀ i, x i = ((x i).toReal : EReal))
    (i : Fin a) (j : Fin b) (k : Fin c) : x (ix3 i j k) = (entries x i.val j.val k.val : EReal) := by
  unfold entries
  rw [dif_pos ⟨i.isLt, j.isLt, k.isLt⟩]
  exact hx _

instance : Cert.Pre_finite.Facts := finite_facts

open Cert.Pre_finite in
theorem real_of_finite (x : FVec Ideal S2x16384x6144 .bf16) (c : FVec Ideal S2x256x6144 .bf16) (R : FVec Ideal S32x15x31 .f32)
    (h0 : (fn (F := Ideal) x c R).1 = fun _ => 1#1) (h1 : (fn (F := Ideal) x c R).2.1 = fun _ => 1#1) (h2 : (fn (F := Ideal) x c R).2.2 = fun _ => 1#1) :
    (∀ i, x i = ((x i).toReal : EReal)) ∧ (∀ i, c i = ((c i).toReal : EReal)) ∧ (∀ i, R i = ((R i).toReal : EReal)) :=
  ⟨fun i => real_of_abs_lt _ (congrFun h0 i), fun i => real_of_abs_lt _ (congrFun h1 i), fun i => real_of_abs_lt _ (congrFun h2 i)⟩

end Cert.Attn
-- ==== Proof.Pieces.lean ====
/- What the kernel's body leaves in the output's window: sixteen stores of 128 columns, one for each pair of heads, all of
   them the same function `headPair` of the pair's columns. -/
module

public import proofs.«01_k».proof.Proof.Gen.KernelIdeal.Frame
public import Idealize.ShloMosaic.Lib.WholeRead
public import Idealize.ShloMosaic.Lib.ValueIdx

@[expose] public section

set_option maxRecDepth 16384
set_option backward.isDefEq.respectTransparency false

noncomputable section

namespace Cert.Attn

open Idealize.ShloMosaic Idealize.ShloMosaic.TcCoe Idealize.ShloMosaic.Tactic
open Cert.KernelIdeal Cert.KernelIdeal.Gen

variable {F : FTy → Type} [FloatOps F]

/-- One pair of heads: from its queries, its eight bias rows (both heads, four query rows), its keys in the window and in
    the context, and its values in both, the 256 × 128 block of the output. -/
def headPair (vq : Vec F S1x256x128 .bf16) (b0 b1 b2 b3 b4 b5 b6 b7 : Vec F S1x1x1x1x64x704 .f32)
    (vk : Vec F S1x704x128 .bf16) (vkc : Vec F S1x256x128 .bf16) (vv : Vec F S1x704x128 .bf16) (vvc : Vec F S1x256x128 .bf16) :
    FVec F S1x256x128 .bf16 :=
  k0_pay15 k0_pay2 k0_pay3 k0_pay4
    (k0_pay13 (k0_pay5 vq) (k0_pay6 b0) (k0_pay7 b1) (k0_pay8 b2) (k0_pay9 b3) b4 b5 b6 b7 vk vkc)
    (k0_pay14 (k0_pay5 vq) (k0_pay6 b0) (k0_pay7 b1) (k0_pay8 b2) (k0_pay9 b3) b4 b5 b6 b7 vk vkc) vv vvc

theorem inb_q (n : Fin 16) (a : Fin 3) : (![0, 0, 128 * n.val] : Fin 3 → Nat) a + (![1, 256, 128] : Fin 3 → Nat) a ≤ S1x256x2048.size a := by
  revert n a; decide
theorem inb_k (n : Fin 16) (a : Fin 3) : (![0, 0, 128 * n.val] : Fin 3 → Nat) a + (![1, 704, 128] : Fin 3 → Nat) a ≤ S1x704x2048.size a := by
  revert n a; decide
theorem inb_b (n : Fin 16) (ri : Fin 4) (hd : Fin 2) (a : Fin 6) :
    (![0, ri.val, n.val, hd.val, 0, 0] : Fin 6 → Nat) a + (![1, 1, 1, 1, 64, 704] : Fin 6 → Nat) a ≤ S1x4x16x2x64x704.size a := by
  revert n ri hd a; decide +kernel

/-- Pair `n`'s columns of a window of 256 rows, -/
abbrev rowBox (n : Fin 16) : Rect S1x256x2048 := Rect.unit ![0, 0, 128 * n.val] ![1, 256, 128] (inb_q n)
/-- of a window of 704 rows, -/
abbrev keyBox (n : Fin 16) : Rect S1x704x2048 := Rect.unit ![0, 0, 128 * n.val] ![1, 704, 128] (inb_k n)
/-- and its bias rows, for query row `ri` and head `hd` of the pair. -/
abbrev biasBox (n : Fin 16) (ri : Fin 4) (hd : Fin 2) : Rect S1x4x16x2x64x704 :=
  Rect.unit ![0, ri.val, n.val, hd.val, 0, 0] ![1, 1, 1, 1, 64, 704] (inb_b n ri hd)

section
variable (c : Dev nD) (i : grid0.Coords) (arg4 : Memref sig .tc .vmem S1x256x2048 .bf16) (harg4 : arg4.IsWhole) (arg5 : Memref sig .tc .vmem S1x704x2048 .bf16) (harg5 : arg5.IsWhole) (arg6 : Memref sig .tc .vmem S1x704x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x4x16x2x64x704 .f32) (harg9 : arg9.IsWhole) (arg10 : Memref sig .tc .vmem S1x256x2048 .bf16) (harg10 : arg10.IsWhole)
    (x0 : Vec F S1x256x2048 .bf16) (x1 : Vec F S1x704x2048 .bf16) (x2 : Vec F S1x704x2048 .bf16) (x3 : Vec F S1x256x2048 .bf16) (x4 : Vec F S1x256x2048 .bf16) (x5 : Vec F S1x4x16x2x64x704 .f32) (xt0 : TbBuf0 (F := F) c tbM0_0) (xt1 : TbBuf0 (F := F) c tbM0_1)

/-- The store of pair `n`, as the run records it. -/
def storeOf (n : Fin 16) : View.Piece (Elt F) S1x256x2048 .bf16 :=
  ⟨rowBox n, headPair (View.readAt (Elt F) arg4.view (rowBox n).toLoadRect (harg4.unread x0))
    (View.readAt (Elt F) arg9.view (biasBox n 0 0).toLoadRect (harg9.unread x5)) (View.readAt (Elt F) arg9.view (biasBox n 1 0).toLoadRect (harg9.unread x5)) (View.readAt (Elt F) arg9.view (biasBox n 2 0).toLoadRect (harg9.unread x5)) (View.readAt (Elt F) arg9.view (biasBox n 3 0).toLoadRect (harg9.unread x5)) (View.readAt (Elt F) arg9.view (biasBox n 0 1).toLoadRect (harg9.unread x5)) (View.readAt (Elt F) arg9.view (biasBox n 1 1).toLoadRect (harg9.unread x5)) (View.readAt (Elt F) arg9.view (biasBox n 2 1).toLoadRect (harg9.unread x5)) (View.readAt (Elt F) arg9.view (biasBox n 3 1).toLoadRect (harg9.unread x5))
    (View.readAt (Elt F) arg5.view (keyBox n).toLoadRect (harg5.unread x1)) (View.readAt (Elt F) arg7.view (rowBox n).toLoadRect (harg7.unread x3))
    (View.readAt (Elt F) arg6.view (keyBox n).toLoadRect (harg6.unread x2)) (View.readAt (Elt F) arg8.view (rowBox n).toLoadRect (harg8.unread x4))⟩

/-- The output block of pair `n` as a function of the windows' contents. -/
def blockOf (x0 : Vec F S1x256x2048 .bf16) (x1 : Vec F S1x704x2048 .bf16) (x2 : Vec F S1x704x2048 .bf16) (x3 : Vec F S1x256x2048 .bf16) (x4 : Vec F S1x256x2048 .bf16) (x5 : Vec F S1x4x16x2x64x704 .f32)
    (n : Fin 16) : FVec F S1x256x128 .bf16 :=
  headPair (fun y => x0 ((rowBox n).toLoadRect.idx y))
    (fun y => x5 ((biasBox n 0 0).toLoadRect.idx y)) (fun y => x5 ((biasBox n 1 0).toLoadRect.idx y)) (fun y => x5 ((biasBox n 2 0).toLoadRect.idx y)) (fun y => x5 ((biasBox n 3 0).toLoadRect.idx y)) (fun y => x5 ((biasBox n 0 1).toLoadRect.idx y)) (fun y => x5 ((biasBox n 1 1).toLoadRect.idx y)) (fun y => x5 ((biasBox n 2 1).toLoadRect.idx y)) (fun y => x5 ((biasBox n 3 1).toLoadRect.idx y))
    (fun y => x1 ((keyBox n).toLoadRect.idx y)) (fun y => x3 ((rowBox n).toLoadRect.idx y))
    (fun y => x2 ((keyBox n).toLoadRect.idx y)) (fun y => x4 ((rowBox n).toLoadRect.idx y))

theorem storeOf_eq (n : Fin 16) :
    storeOf arg4 harg4 arg5 harg5 arg6 harg6 arg7 harg7 arg8 harg8 arg9 harg9 x0 x1 x2 x3 x4 x5 n = ⟨rowBox n, blockOf x0 x1 x2 x3 x4 x5 n⟩ := by
  unfold storeOf blockOf
  congr 1
  rw [show ∀ B, View.readAt (Elt F) arg4.view B (harg4.unread x0) = fun y => x0 (B.idx y) from fun B => funext fun y => harg4.readAt_unread x0 B y,
    show ∀ B, View.readAt (Elt F) arg5.view B (harg5.unread x1) = fun y => x1 (B.idx y) from fun B => funext fun y => harg5.readAt_unread x1 B y,
    show ∀ B, View.readAt (Elt F) arg6.view B (harg6.unread x2) = fun y => x2 (B.idx y) from fun B => funext fun y => harg6.readAt_unread x2 B y,
    show ∀ B, View.readAt (Elt F) arg7.view B (harg7.unread x3) = fun y => x3 (B.idx y) from fun B => funext fun y => harg7.readAt_unread x3 B y,
    show ∀ B, View.readAt (Elt F) arg8.view B (harg8.unread x4) = fun y => x4 (B.idx y) from fun B => funext fun y => harg8.readAt_unread x4 B y]
  simp only [show ∀ B, View.readAt (Elt F) arg9.view B (harg9.unread x5) = fun y => x5 (B.idx y) from fun B => funext fun y => harg9.readAt_unread x5 B y]
  rfl

theorem stores_eq :
    (kernelRun0_A c i arg4 harg4 arg5 harg5 arg6 harg6 arg7 harg7 arg8 harg8 arg9 harg9 arg10 harg10 x0 x1 x2 x3 x4 x5 xt0 xt1).1
      = [15, 14, 13, 12, 11, 10, 9, 8, 7, 6, 5, 4, 3, 2, 1, 0].map
          (storeOf arg4 harg4 arg5 harg5 arg6 harg6 arg7 harg7 arg8 harg8 arg9 harg9 x0 x1 x2 x3 x4 x5) := by
  sl_kernel_rfl

/-- The output's window after the body: column `y 2` lies in the block of pair `y 2 / 128`. -/
def windowOut (x0 : Vec F S1x256x2048 .bf16) (x1 : Vec F S1x704x2048 .bf16) (x2 : Vec F S1x704x2048 .bf16) (x3 : Vec F S1x256x2048 .bf16) (x4 : Vec F S1x256x2048 .bf16) (x5 : Vec F S1x4x16x2x64x704 .f32)
    (y : S1x256x2048.Idx) : Elt F .bf16 :=
  blockOf x0 x1 x2 x3 x4 x5 ⟨(y 2).val / 128, by have h : (y 2).val < 2048 := (y 2).isLt; omega⟩
    (ValueIdx.ix3 (0 : Fin 1) ⟨(y 1).val, (y 1).isLt⟩ ⟨(y 2).val % 128, Nat.mod_lt _ (by norm_num)⟩)

theorem store_agrees (n : Fin 16) (x : (rowBox n).shape.Idx) :
    blockOf x0 x1 x2 x3 x4 x5 n x = windowOut x0 x1 x2 x3 x4 x5 ((rowBox n).emb x) := by
  have h2 : ((rowBox n).emb x 2).val = 128 * n.val + (x 2).val := by
    rw [Rect.emb_apply]; show 128 * n.val + 1 * (x 2).val = _; omega
  have h1 : ((rowBox n).emb x 1).val = (x 1).val := by
    rw [Rect.emb_apply]; show 0 + 1 * (x 1).val = _; omega
  have l2 : (x 2).val < 128 := (x 2).isLt
  have l0 : (x 0).val < 1 := (x 0).isLt
  have en : (⟨((rowBox n).emb x 2).val / 128, by rw [h2]; omega⟩ : Fin 16) = n := Fin.ext (by simp only [h2]; omega)
  have ex : (ValueIdx.ix3 (0 : Fin 1) (⟨((rowBox n).emb x 1).val, by rw [h1]; exact (x 1).isLt⟩ : Fin 256)
      (⟨((rowBox n).emb x 2).val % 128, Nat.mod_lt _ (by norm_num)⟩ : Fin 128) : S1x256x128.Idx) = x := by
    funext (a : Fin 3)
    match a with
    | 0 => exact Fin.ext (by show 0 = (x 0).val; omega)
    | 1 => exact Fin.ext h1
    | 2 => exact Fin.ext (by show ((rowBox n).emb x 2).val % 128 = (x 2).val; rw [h2]; omega)
  unfold windowOut
  rw [en, ex]

theorem out_eq :
    out0_A_6 c i arg4 harg4 arg5 harg5 arg6 harg6 arg7 harg7 arg8 harg8 arg9 harg9 arg10 harg10 x0 x1 x2 x3 x4 x5 xt0 xt1 = windowOut x0 x1 x2 x3 x4 x5 := by
  unfold out0_A_6
  rw [View.read_writes_eq_canon _ _ _ (cover0_A_6 c i arg4 harg4 arg5 harg5 arg6 harg6 arg7 harg7 arg8 harg8 arg9 harg9 arg10 harg10 x0 x1 x2 x3 x4 x5 xt0 xt1)]
  funext y
  refine View.canon_apply_of_pieces (windowOut x0 x1 x2 x3 x4 x5) _ ?_ y (cover0_A_6 c i arg4 harg4 arg5 harg5 arg6 harg6 arg7 harg7 arg8 harg8 arg9 harg9 arg10 harg10 x0 x1 x2 x3 x4 x5 xt0 xt1 y)
  rw [stores_eq]
  intro p hp
  obtain ⟨n, -, rfl⟩ := List.mem_map.mp hp
  rw [storeOf_eq]
  exact store_agrees x0 x1 x2 x3 x4 x5 n

end

end Cert.Attn
-- ==== Proof.HeadPair.lean ====
/- One pair of heads over the extended reals: the block `headPair` computes, read at an index, is for each of the pair's
   two heads the quotient of a weighted sum of the values by the sum of the weights, the weights the exponentials of
   the scores minus their maximum, over the window's keys and the context's together. -/
module

public import proofs.«01_k».proof.Proof.Pieces
public import Idealize.ShloMosaic.Lib.Pointwise

@[expose] public section

set_option maxRecDepth 16384

noncomputable section

namespace Cert.Attn

open Idealize.ShloMosaic Idealize.ShloMosaic.TcCoe
open Cert.KernelIdeal Cert.KernelIdeal.Gen

/-- The f32 word of 1/8, the queries' scale. -/
theorem ofBits_eighth : Ideal.ofBits .f32 0x3E000000#32 = (((1 : ℝ) / 8 : ℝ) : EReal) := by
  simp [Ideal.ofBits, Ideal.ieee, -EReal.coe_mul]; norm_num

theorem ofBits_bot : Ideal.ofBits .f32 0xFF800000#32 = ⊥ := by
  simp [Ideal.ofBits, Ideal.ieee]

/-- The weighted mean the kernel forms: scores `s`, `sc` of the window's and the context's keys, values `v`, `vc`. -/
def kernelMean {n k : Nat} (s : Fin n → EReal) (sc : Fin k → EReal) (v : Fin n → EReal) (vc : Fin k → EReal) : EReal :=
  Ideal.div
    ((∑ x, Ideal.exp (s x - max (Finset.univ.fold max ⊥ s) (Finset.univ.fold max ⊥ sc)) * v x)
      + ∑ x, Ideal.exp (sc x - max (Finset.univ.fold max ⊥ s) (Finset.univ.fold max ⊥ sc)) * vc x)
    ((∑ x, Ideal.exp (s x - max (Finset.univ.fold max ⊥ s) (Finset.univ.fold max ⊥ sc)))
      + ∑ x, Ideal.exp (sc x - max (Finset.univ.fold max ⊥ s) (Finset.univ.fold max ⊥ sc)))

/-- The queries of head `hd` of the pair: scaled, and zero in the other head's columns. -/
def queryOf (vq : Vec Ideal S1x256x128 .bf16) (hd : Fin 2) (r : Fin 256) (x : Fin 128) : EReal :=
  if x.val / 64 = hd.val then vq (ix3 0 r x) * (((1 : ℝ) / 8 : ℝ) : EReal) else 0

/-- The stacked row of head `hd` and query row `r`. -/
def stacked (hd : Fin 2) (r : Fin 256) : Fin 512 := ⟨256 * hd.val + r.val, by omega⟩

theorem slt_64 : ∀ x : Fin 128, IntOp.cmpi CmpIPredicate.slt (BitVec.ofNat 32 x.val) 64#32 = if x.val < 64 then 1#1 else 0#1 := by
  decide +kernel

theorem pay5_apply (vq : Vec Ideal S1x256x128 .bf16) (hd : Fin 2) (r : Fin 256) (x : Fin 128) :
    k0_pay5 (F := Ideal) vq (ix2 (stacked hd r) x) = queryOf vq hd r x := by
  pointwise [k0_pay5, k0_pay2]
  unfold queryOf
  rw [slt_64, ofBits_eighth]
  match hd with
  | 0 =>
    have h : (stacked 0 r).val < 256 := by simp [stacked]
    have e : (⟨(stacked 0 r).val, h⟩ : Fin 256) = r := Fin.ext (by simp [stacked])
    rw [dif_pos h, e]
    by_cases hx : x.val < 64
    · have : x.val / 64 = 0 := by omega
      simp [hx, this, Scalar.select]
    · have : ¬ x.val / 64 = 0 := by omega
      simp [hx, this, Scalar.select]
  | 1 =>
    have h : ¬ (stacked 1 r).val < 256 := by simp [stacked]
    have e : ∀ p, (⟨(stacked 1 r).val - 256, p⟩ : Fin 256) = r := fun p => Fin.ext (by simp [stacked])
    rw [dif_neg h, e]
    by_cases hx : x.val < 64
    · have : ¬ x.val / 64 = 1 := by omega
      simp [hx, this, Scalar.select]
    · have : x.val / 64 = 1 := by omega
      simp [hx, this, Scalar.select]

/-- The bias of stacked row `R`: piece `R / 64` of the eight at row `R % 64`. -/
def biasOf (b : Fin 8 → Vec Ideal S1x1x1x1x64x704 .f32) (R : Fin 512) (kk : Fin 704) : EReal :=
  b ⟨R.val / 64, by omega⟩ (ix6 0 0 0 0 ⟨R.val % 64, Nat.mod_lt _ (by norm_num)⟩ kk)

section
variable (v15 : FVec Ideal S512x128 .bf16) (b0 b1 b2 b3 b4 b5 b6 b7 : Vec Ideal S1x1x1x1x64x704 .f32)
    (vk : Vec Ideal S1x704x128 .bf16) (vkc : Vec Ideal S1x256x128 .bf16)

theorem pay10_apply (R : Fin 512) (kk : Fin 704) :
    k0_pay10 (F := Ideal) v15 (k0_pay6 b0) (k0_pay7 b1) (k0_pay8 b2) (k0_pay9 b3) b4 b5 b6 b7 vk (ix2 R kk)
      = (∑ x, v15 (ix2 R x) * vk (ix3 0 kk x)) + biasOf ![b0, b1, b2, b3, b4, b5, b6, b7] R kk := by
  pointwise [k0_pay10, k0_pay6, k0_pay7, k0_pay8, k0_pay9]
  congr 1
  have hR := R.isLt
  have key : ∀ (n : Fin 8) (r : Nat) (hr : r < 64), R.val = 64 * n.val + r →
      biasOf ![b0, b1, b2, b3, b4, b5, b6, b7] R kk = (![b0, b1, b2, b3, b4, b5, b6, b7] : Fin 8 → Vec Ideal S1x1x1x1x64x704 .f32) n (ix6 0 0 0 0 ⟨r, hr⟩ kk) := by
    intro n r hr h
    unfold biasOf
    have e1 : (⟨R.val / 64, by omega⟩ : Fin 8) = n := Fin.ext (by simp only []; omega)
    have e2 : (⟨R.val % 64, Nat.mod_lt _ (by norm_num)⟩ : Fin 64) = ⟨r, hr⟩ := Fin.ext (by simp only []; omega)
    rw [e1, e2]
  split_ifs <;> first
    | exact (key 0 _ (by omega) (by show R.val = 64 * 0 + _; omega)).symm
    | exact (key 1 _ (by omega) (by show R.val = 64 * 1 + _; omega)).symm
    | exact (key 2 _ (by omega) (by show R.val = 64 * 2 + _; omega)).symm
    | exact (key 3 _ (by omega) (by show R.val = 64 * 3 + _; omega)).symm
    | exact (key 4 _ (by omega) (by show R.val = 64 * 4 + _; omega)).symm
    | exact (key 5 _ (by omega) (by show R.val = 64 * 5 + _; omega)).symm
    | exact (key 6 _ (by omega) (by show R.val = 64 * 6 + _; omega)).symm
    | exact (key 7 _ (by omega) (by show R.val = 64 * 7 + _; omega)).symm
    | exact absurd rfl (by assumption)

theorem pay11_apply (R : Fin 512) (kk : Fin 256) :
    k0_pay11 (F := Ideal) v15 vkc (ix2 R kk) = ∑ x, v15 (ix2 R x) * vkc (ix3 0 kk x) := by
  pointwise [k0_pay11]

variable (v17 v19 v21 v23 : FVec Ideal S64x704 .f32)

theorem pay12_apply (R : Fin 512) :
    k0_pay12 (F := Ideal) v15 v17 v19 v21 v23 b4 b5 b6 b7 vk vkc (ix2 R 0)
      = max (Finset.univ.fold max ⊥ fun x => k0_pay10 (F := Ideal) v15 v17 v19 v21 v23 b4 b5 b6 b7 vk (ix2 R x))
          (Finset.univ.fold max ⊥ fun x => k0_pay11 (F := Ideal) v15 vkc (ix2 R x)) := by
  pointwise [k0_pay12]
  rw [ofBits_bot]

theorem pay13_apply (R : Fin 512) (kk : Fin 704) :
    k0_pay13 (F := Ideal) v15 v17 v19 v21 v23 b4 b5 b6 b7 vk vkc (ix2 R kk)
      = Ideal.exp (k0_pay10 (F := Ideal) v15 v17 v19 v21 v23 b4 b5 b6 b7 vk (ix2 R kk)
          - k0_pay12 (F := Ideal) v15 v17 v19 v21 v23 b4 b5 b6 b7 vk vkc (ix2 R 0)) := by
  pointwise [k0_pay13]

theorem pay14_apply (R : Fin 512) (kk : Fin 256) :
    k0_pay14 (F := Ideal) v15 v17 v19 v21 v23 b4 b5 b6 b7 vk vkc (ix2 R kk)
      = k0_pay11 (F := Ideal) v15 vkc (ix2 R kk)
          - k0_pay12 (F := Ideal) v15 v17 v19 v21 v23 b4 b5 b6 b7 vk vkc (ix2 R 0) := by
  pointwise [k0_pay14]

end

theorem pay15_apply (v48 : FVec Ideal S512x704 .bf16) (v50 : FVec Ideal S512x256 .f32)
    (vv : Vec Ideal S1x704x128 .bf16) (vvc : Vec Ideal S1x256x128 .bf16) (r : Fin 256) (x : Fin 128) :
    k0_pay15 (F := Ideal) k0_pay2 k0_pay3 k0_pay4 v48 v50 vv vvc (ix3 0 r x)
      = Ideal.div
          ((∑ k, v48 (ix2 (stacked ⟨x.val / 64, by omega⟩ r) k) * vv (ix3 0 k x))
            + ∑ k, Ideal.exp (v50 (ix2 (stacked ⟨x.val / 64, by omega⟩ r) k)) * vvc (ix3 0 k x))
          ((∑ k, v48 (ix2 (stacked ⟨x.val / 64, by omega⟩ r) k))
            + ∑ k, Ideal.exp (v50 (ix2 (stacked ⟨x.val / 64, by omega⟩ r) k))) := by
  pointwise [k0_pay15, k0_pay2, k0_pay3, k0_pay4]
  rw [slt_64]
  by_cases hx : x.val < 64
  · have e : ∀ p q, (⟨r.val, p⟩ : Fin 512) = stacked ⟨x.val / 64, q⟩ r := fun p q => Fin.ext (by
      simp only [stacked]; omega)
    rw [if_pos hx, ← e (by omega) (by omega)]
    simp [Scalar.select]
  · have e : ∀ p q, (⟨256 + r.val, p⟩ : Fin 512) = stacked ⟨x.val / 64, q⟩ r := fun p q => Fin.ext (by
      simp only [stacked]; omega)
    rw [if_neg hx, ← e (by omega) (by omega)]
    simp [Scalar.select]

/-- A pair's block at row `r`, column `x`: the weighted mean of head `x / 64` of the pair. -/
theorem headPair_apply (vq : Vec Ideal S1x256x128 .bf16) (b0 b1 b2 b3 b4 b5 b6 b7 : Vec Ideal S1x1x1x1x64x704 .f32)
    (vk : Vec Ideal S1x704x128 .bf16) (vkc : Vec Ideal S1x256x128 .bf16) (vv : Vec Ideal S1x704x128 .bf16) (vvc : Vec Ideal S1x256x128 .bf16)
    (r : Fin 256) (x : Fin 128) :
    headPair (F := Ideal) vq b0 b1 b2 b3 b4 b5 b6 b7 vk vkc vv vvc (ix3 0 r x)
      = kernelMean
          (fun kk => (∑ y, queryOf vq ⟨x.val / 64, by omega⟩ r y * vk (ix3 0 kk y))
            + biasOf ![b0, b1, b2, b3, b4, b5, b6, b7] (stacked ⟨x.val / 64, by omega⟩ r) kk)
          (fun m => ∑ y, queryOf vq ⟨x.val / 64, by omega⟩ r y * vkc (ix3 0 m y))
          (fun kk => vv (ix3 0 kk x)) (fun m => vvc (ix3 0 m x)) := by
  unfold headPair kernelMean
  rw [pay15_apply]
  simp only [pay13_apply, pay14_apply, pay12_apply, pay10_apply, pay11_apply, pay5_apply]

end Cert.Attn
-- ==== Proof.WindowOut.lean ====
/- The body's output over the extended reals, entry by entry. -/
module

public import proofs.«01_k».proof.Proof.HeadPair

@[expose] public section

set_option maxRecDepth 16384
set_option backward.isDefEq.respectTransparency false

noncomputable section

namespace Cert.Attn

open Idealize.ShloMosaic Idealize.ShloMosaic.TcCoe
open Cert.KernelIdeal Cert.KernelIdeal.Gen

/-- Column `d` of head `h` among the 2048. -/
abbrev headCol (h : Fin 32) (d : Fin 64) : Fin 2048 := ⟨64 * h.val + d.val, by omega⟩

/-- A sum over a pair's 128 columns with one head's queries only is the sum over that head's 64 columns. -/
theorem sum_masked (hd : Fin 2) (f : Fin 128 → EReal) (g : Fin 128 → EReal) :
    (∑ y : Fin 128, (if y.val / 64 = hd.val then f y else 0) * g y)
      = ∑ d : Fin 64, f ⟨64 * hd.val + d.val, by omega⟩ * g ⟨64 * hd.val + d.val, by omega⟩ := by
  rw [show (∑ y : Fin 128, (if y.val / 64 = hd.val then f y else 0) * g y)
      = ∑ y : Fin (64 + 64), (if y.val / 64 = hd.val then f y else 0) * g y from rfl, Fin.sum_univ_add]
  match hd with
  | 0 =>
    rw [Finset.sum_eq_zero (s := Finset.univ) (f := fun i : Fin 64 => (if (Fin.natAdd 64 i).val / 64 = (0 : Fin 2).val then f (Fin.natAdd 64 i) else 0) * g (Fin.natAdd 64 i)), add_zero]
    · refine Finset.sum_congr rfl fun d _ => ?_
      have e : (⟨64 * (0 : Fin 2).val + d.val, by omega⟩ : Fin 128) = Fin.castAdd 64 d := Fin.ext (by simp)
      rw [e, if_pos (by simp only [Fin.val_castAdd, Fin.val_zero]; omega)]
    · intro d _
      rw [if_neg (by simp only [Fin.val_natAdd, Fin.val_zero]; omega), zero_mul]
  | 1 =>
    rw [Finset.sum_eq_zero (s := Finset.univ) (f := fun i : Fin 64 => (if (Fin.castAdd 64 i).val / 64 = (1 : Fin 2).val then f (Fin.castAdd 64 i) else 0) * g (Fin.castAdd 64 i)), zero_add]
    · refine Finset.sum_congr rfl fun d _ => ?_
      have e : (⟨64 * (1 : Fin 2).val + d.val, by omega⟩ : Fin 128) = Fin.natAdd 64 d := Fin.ext rfl
      rw [e, if_pos (by simp only [Fin.val_natAdd, Fin.val_one]; omega)]
    · intro d _
      rw [if_neg (by simp only [Fin.val_castAdd, Fin.val_one]; omega), zero_mul]

variable (x0 : Vec Ideal S1x256x2048 .bf16) (x1 : Vec Ideal S1x704x2048 .bf16) (x2 : Vec Ideal S1x704x2048 .bf16)
  (x3 : Vec Ideal S1x256x2048 .bf16) (x4 : Vec Ideal S1x256x2048 .bf16) (x5 : Vec Ideal S1x4x16x2x64x704 .f32)

theorem row_idx (x : Vec Ideal S1x256x2048 .bf16) (n : Fin 16) (r : Fin 256) (y : Fin 128) (c : Fin 2048) (h : c.val = 128 * n.val + y.val) :
    x ((rowBox n).toLoadRect.idx (ix3 0 r y)) = x (ix3 0 r c) := by
  congr 1
  funext (a : Fin 3)
  match a with
  | 0 => exact Fin.ext rfl
  | 1 => exact Fin.ext (by show 0 + 1 * r.val = r.val; omega)
  | 2 => exact Fin.ext (by show 128 * n.val + 1 * y.val = c.val; omega)

theorem key_idx (x : Vec Ideal S1x704x2048 .bf16) (n : Fin 16) (r : Fin 704) (y : Fin 128) (c : Fin 2048) (h : c.val = 128 * n.val + y.val) :
    x ((keyBox n).toLoadRect.idx (ix3 0 r y)) = x (ix3 0 r c) := by
  congr 1
  funext (a : Fin 3)
  match a with
  | 0 => exact Fin.ext rfl
  | 1 => exact Fin.ext (by show 0 + 1 * r.val = r.val; omega)
  | 2 => exact Fin.ext (by show 128 * n.val + 1 * y.val = c.val; omega)

theorem bias_idx (n : Fin 16) (ri : Fin 4) (hd : Fin 2) (qc : Fin 64) (kk : Fin 704) :
    x5 ((biasBox n ri hd).toLoadRect.idx (ix6 0 0 0 0 qc kk)) = x5 (ix6 0 ri n hd qc kk) := by
  congr 1
  funext (a : Fin 6)
  match a with
  | 0 => exact Fin.ext rfl
  | 1 => exact Fin.ext (by show ri.val + 1 * 0 = ri.val; omega)
  | 2 => exact Fin.ext (by show n.val + 1 * 0 = n.val; omega)
  | 3 => exact Fin.ext (by show hd.val + 1 * 0 = hd.val; omega)
  | 4 => exact Fin.ext (by show 0 + 1 * qc.val = qc.val; omega)
  | 5 => exact Fin.ext (by show 0 + 1 * kk.val = kk.val; omega)

/-- The eight bias pieces, head outer and query row inner, at stacked row `R`. -/
theorem pieces_apply (n : Fin 16) (hd : Fin 2) (r : Fin 256) (kk : Fin 704) :
    biasOf ![(fun y => x5 ((biasBox n 0 0).toLoadRect.idx y)), (fun y => x5 ((biasBox n 1 0).toLoadRect.idx y)), (fun y => x5 ((biasBox n 2 0).toLoadRect.idx y)), (fun y => x5 ((biasBox n 3 0).toLoadRect.idx y)), (fun y => x5 ((biasBox n 0 1).toLoadRect.idx y)), (fun y => x5 ((biasBox n 1 1).toLoadRect.idx y)), (fun y => x5 ((biasBox n 2 1).toLoadRect.idx y)), (fun y => x5 ((biasBox n 3 1).toLoadRect.idx y))]
        (stacked hd r) kk
      = x5 (ix6 0 ⟨r.val / 64, by omega⟩ n hd ⟨r.val % 64, Nat.mod_lt _ (by norm_num)⟩ kk) := by
  unfold biasOf
  have eq : (⟨(stacked hd r).val % 64, Nat.mod_lt _ (by norm_num)⟩ : Fin 64) = ⟨r.val % 64, Nat.mod_lt _ (by norm_num)⟩ :=
    Fin.ext (by simp only [stacked]; omega)
  rw [eq]
  generalize hq : (⟨r.val % 64, Nat.mod_lt _ (by norm_num)⟩ : Fin 64) = qc
  have hn : ∀ (k : Fin 8), (stacked hd r).val / 64 = k.val → (⟨(stacked hd r).val / 64, by omega⟩ : Fin 8) = k := fun k h => Fin.ext h
  have hr : ∀ (k : Fin 4), r.val / 64 = k.val → (⟨r.val / 64, by omega⟩ : Fin 4) = k := fun k h => Fin.ext h
  have h4 : r.val / 64 = 0 ∨ r.val / 64 = 1 ∨ r.val / 64 = 2 ∨ r.val / 64 = 3 := by omega
  have h2 : hd = 0 ∨ hd = 1 := by omega
  rcases h2 with rfl | rfl
  · rcases h4 with h | h | h | h
    · rw [hn 0 (by show (256 * 0 + r.val) / 64 = 0; omega), hr 0 h]; exact bias_idx x5 n 0 0 qc kk
    · rw [hn 1 (by show (256 * 0 + r.val) / 64 = 1; omega), hr 1 h]; exact bias_idx x5 n 1 0 qc kk
    · rw [hn 2 (by show (256 * 0 + r.val) / 64 = 2; omega), hr 2 h]; exact bias_idx x5 n 2 0 qc kk
    · rw [hn 3 (by show (256 * 0 + r.val) / 64 = 3; omega), hr 3 h]; exact bias_idx x5 n 3 0 qc kk
  · rcases h4 with h | h | h | h
    · rw [hn 4 (by show (256 * 1 + r.val) / 64 = 4; omega), hr 0 h]; exact bias_idx x5 n 0 1 qc kk
    · rw [hn 5 (by show (256 * 1 + r.val) / 64 = 5; omega), hr 1 h]; exact bias_idx x5 n 1 1 qc kk
    · rw [hn 6 (by show (256 * 1 + r.val) / 64 = 6; omega), hr 2 h]; exact bias_idx x5 n 2 1 qc kk
    · rw [hn 7 (by show (256 * 1 + r.val) / 64 = 7; omega), hr 3 h]; exact bias_idx x5 n 3 1 qc kk

/-- The output's window at row `r` and column `d` of head `h`. -/
theorem windowOut_apply (r : Fin 256) (h : Fin 32) (d : Fin 64) :
    windowOut x0 x1 x2 x3 x4 x5 (ix3 0 r (headCol h d))
      = kernelMean
          (fun kk : Fin 704 => (∑ e : Fin 64, x0 (ix3 0 r (headCol h e)) * (((1 : ℝ) / 8 : ℝ) : EReal) * x1 (ix3 0 kk (headCol h e)))
            + x5 (ix6 0 ⟨r.val / 64, by omega⟩ ⟨h.val / 2, by omega⟩ ⟨h.val % 2, by omega⟩ ⟨r.val % 64, Nat.mod_lt _ (by norm_num)⟩ kk))
          (fun m : Fin 256 => ∑ e : Fin 64, x0 (ix3 0 r (headCol h e)) * (((1 : ℝ) / 8 : ℝ) : EReal) * x3 (ix3 0 m (headCol h e)))
          (fun kk => x2 (ix3 0 kk (headCol h d))) (fun m => x4 (ix3 0 m (headCol h d))) := by
  have hn : ∀ p, (⟨(ix3 (0 : Fin 1) r (headCol h d) 2).val / 128, p⟩ : Fin 16) = ⟨h.val / 2, by omega⟩ :=
    fun p => Fin.ext (by show (64 * h.val + d.val) / 128 = h.val / 2; omega)
  have hx : ∀ p, (⟨(ix3 (0 : Fin 1) r (headCol h d) 2).val % 128, p⟩ : Fin 128) = ⟨64 * (h.val % 2) + d.val, by omega⟩ :=
    fun p => Fin.ext (by show (64 * h.val + d.val) % 128 = 64 * (h.val % 2) + d.val; omega)
  unfold windowOut
  rw [hn, hx]
  unfold blockOf
  refine (headPair_apply _ _ _ _ _ _ _ _ _ _ _ _ _ r ⟨64 * (h.val % 2) + d.val, by omega⟩).trans ?_
  have hhd : ∀ p, (⟨(64 * (h.val % 2) + d.val) / 64, p⟩ : Fin 2) = ⟨h.val % 2, by omega⟩ := fun p => Fin.ext (by simp only []; omega)
  have hdiv : (64 * (h.val % 2) + d.val) / 64 = h.val % 2 := by omega
  simp only [hhd, pieces_apply, queryOf, hdiv]
  congr 1
  · funext kk
    congr 1
    refine (sum_masked ⟨h.val % 2, by omega⟩ _ _).trans ?_
    refine Finset.sum_congr rfl fun e _ => ?_
    rw [row_idx x0 _ r _ (headCol h e) (by simp only []; omega), key_idx x1 _ kk _ (headCol h e) (by simp only []; omega)]
  · funext m
    refine (sum_masked ⟨h.val % 2, by omega⟩ _ _).trans ?_
    refine Finset.sum_congr rfl fun e _ => ?_
    rw [row_idx x0 _ r _ (headCol h e) (by simp only []; omega), row_idx x3 _ m _ (headCol h e) (by simp only []; omega)]
  · funext kk
    exact key_idx x2 _ kk _ (headCol h d) (by simp only []; omega)
  · funext m
    exact row_idx x4 _ m _ (headCol h d) (by simp only []; omega)

end Cert.Attn
-- ==== Proof.Tables.lean ====
/- The two tables the attention's index maps read, in closed form, and what follows from them: every window is
   inside its array, so the pipeline's side condition holds of every launch memory. -/
module

public import proofs.«01_k».proof.Proof.Gen.KernelIdeal.Frame
public import Idealize.ShloMosaic.Lib.StableHlo.RunRead
public import Idealize.ShloMosaic.Lib.StableHlo.ReadAt

@[expose] public section

set_option maxRecDepth 16384
set_option backward.isDefEq.respectTransparency false

noncomputable section

namespace Cert.Attn

open Idealize.ShloMosaic Idealize.ShloMosaic.TcCoe
open Cert.KernelIdeal Cert.KernelIdeal.Gen

variable {F : FTy → Type} [FloatOps F]
variable (m : (ℓ : Loc nD τ sig) → Buf (Elt F) ℓ)

/-- The first key row of the window that the four query rows 4j … 4j+3 share. -/
def firstRow (j : Fin 64) : Nat := min (4 * j.val - 4) 245

/-- Which of the three bias tables those rows take: the top of the image, its inside, its bottom. -/
def variant (j : Fin 64) : Nat := if j.val = 0 then 0 else if j.val = 63 then 2 else 1

theorem rowTable (j : Fin 64) : lit12 j = BitVec.ofNat 32 (firstRow j) := by
  revert j; decide +kernel

theorem variantTable (j : Fin 64) : lit13 j = BitVec.ofNat 32 (variant j) := by
  revert j; decide +kernel

set_option maxHeartbeats 4000000 in
theorem tbl_rows : tbl m 0 = fun i => lit12 (S64.rowMajor i) := by
  change V m (0 : Dev nD) main_c_11 = _
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append]
  after_reads_simp
  rfl

set_option maxHeartbeats 4000000 in
theorem tbl_variants : tbl m 1 = fun i => lit13 (S64.rowMajor i) := by
  change V m (0 : Dev nD) main_c_12 = _
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append]
  after_reads_simp
  rfl

/-- A grid coordinate, read as an index word and back. -/
theorem coord_word (j : Fin 64) : (Scalar.indexCast (BitVec.ofNat 32 j.val)).toNat = j.val := by
  revert j; decide +kernel

theorem rowMajor_line (j : Fin 64) : (S64.rowMajor (ValueIdx.ix1 j) : Fin 64) = j := by
  revert j; decide +kernel

/-- The index a map's scalar load of a table reads at. -/
theorem load_index (i : grid0.Coords) (h : ∀ a, (![(Scalar.indexCast (BitVec.ofNat 32 (i 1).val)).toNat] : Fin 1 → Nat) a + S1.size a ≤ S64.size a) :
    (Rect.unit (s := S64) ![(Scalar.indexCast (BitVec.ofNat 32 (i 1).val)).toNat] S1.size h).emb
      (Shape.Idx.first ((numel1_S1 : S1.numel = 1).symm ▸ Nat.one_pos)) = ValueIdx.ix1 (n := 64) (i 1) := by
  funext a
  obtain rfl : a = 0 := Subsingleton.elim _ _
  apply Fin.ext
  have e := coord_word (i 1)
  have e2 := (Shape.Idx.first (s := S1) ((numel1_S1 : S1.numel = 1).symm ▸ Nat.one_pos) 0).isLt
  have e3 : (Shape.Idx.first (s := S1) ((numel1_S1 : S1.numel = 1).symm ▸ Nat.one_pos) 0).val = 0 := by
    simpa [S1] using e2
  refine (Rect.emb_apply _ _ _).trans ?_
  show (Scalar.indexCast (BitVec.ofNat 32 (i 1).val)).toNat + 1 * (Shape.Idx.first (s := S1) ((numel1_S1 : S1.numel = 1).symm ▸ Nat.one_pos) 0).val = (i 1).val
  rw [e, e3]; omega

theorem at_rows (i : grid0.Coords) (h) :
    (tbl m).at 0 (Rect.unit (s := S64) ![(Scalar.indexCast (BitVec.ofNat 32 (i 1).val)).toNat] S1.size h) numel1_S1
      = BitVec.ofNat 32 (firstRow (i 1)) := by
  unfold Pipeline.Prefetch.Contents.at
  refine (congrArg (tbl m 0) (load_index i h)).trans ?_
  rw [tbl_rows]
  show lit12 (S64.rowMajor (ValueIdx.ix1 (n := 64) (i 1))) = _
  rw [rowMajor_line, rowTable]

theorem at_variants (i : grid0.Coords) (h) :
    (tbl m).at 1 (Rect.unit (s := S64) ![(Scalar.indexCast (BitVec.ofNat 32 (i 1).val)).toNat] S1.size h) numel1_S1
      = BitVec.ofNat 32 (variant (i 1)) := by
  unfold Pipeline.Prefetch.Contents.at
  refine (congrArg (tbl m 1) (load_index i h)).trans ?_
  rw [tbl_variants]
  show lit13 (S64.rowMajor (ValueIdx.ix1 (n := 64) (i 1))) = _
  rw [rowMajor_line, variantTable]

theorem word_rows (j : Fin 64) : (Scalar.muli (BitVec.ofNat 32 (firstRow j)) 64#32).toNat = firstRow j * 64 := by
  revert j; decide +kernel

theorem word_batch (j : Fin 2) : (BitVec.ofNat 32 j.val).toNat = j.val := by
  revert j; decide +kernel

theorem word_variant (j : Fin 64) : (BitVec.ofNat 32 (variant j)).toNat = variant j := by
  revert j; decide +kernel

/-- The keys' window starts at the row the table gives and at the keys' columns, -/
theorem transform_1_eq (i : grid0.Coords) :
    cc0_transform_1 k0_off1_inb numel1_S1 (tbl m) i = ![(i 0).val, firstRow (i 1) * 64, 2048] := by
  have e : cc0_transform_1 k0_off1_inb numel1_S1 (tbl m) i = ![(BitVec.ofNat 32 (i 0).val).toNat,
      (Scalar.muli ((tbl m).at 0 (Rect.unit (s := S64) ![(Scalar.indexCast (BitVec.ofNat 32 (i 1).val)).toNat] S1.size (k0_off1_inb i)) numel1_S1) 64#32).toNat,
      (2048#32).toNat] := rfl
  rw [e, at_rows m i (k0_off1_inb i), word_rows, word_batch]; rfl

/-- the values' at the same row and at the values' columns, -/
theorem transform_2_eq (i : grid0.Coords) :
    cc0_transform_2 k0_off1_inb numel1_S1 (tbl m) i = ![(i 0).val, firstRow (i 1) * 64, 4096] := by
  have e : cc0_transform_2 k0_off1_inb numel1_S1 (tbl m) i = ![(BitVec.ofNat 32 (i 0).val).toNat,
      (Scalar.muli ((tbl m).at 0 (Rect.unit (s := S64) ![(Scalar.indexCast (BitVec.ofNat 32 (i 1).val)).toNat] S1.size (k0_off1_inb i)) numel1_S1) 64#32).toNat,
      (4096#32).toNat] := rfl
  rw [e, at_rows m i (k0_off1_inb i), word_rows, word_batch]; rfl

/-- and the bias window is the variant's table. -/
theorem transform_5_eq (i : grid0.Coords) :
    cc0_transform_5 k0_off1_inb numel1_S1 (tbl m) i = ![variant (i 1), 0, 0, 0, 0, 0] := by
  have e : cc0_transform_5 k0_off1_inb numel1_S1 (tbl m) i = ![((tbl m).at 1 (Rect.unit (s := S64) ![(Scalar.indexCast (BitVec.ofNat 32 (i 1).val)).toNat] S1.size (k0_off1_inb i)) numel1_S1).toNat,
      (0#32).toNat, (0#32).toNat, (0#32).toNat, (0#32).toNat, (0#32).toNat] := rfl
  rw [e, at_variants m i (k0_off1_inb i), word_variant]; rfl

theorem atD_rows (i : grid0.Coords) : (tbl m).atD 0 ![(Scalar.indexCast (BitVec.ofNat 32 (i 1).val)).toNat] = BitVec.ofNat 32 (firstRow (i 1)) := by
  unfold Pipeline.Prefetch.Contents.atD
  have h : ∀ a : Fin (pre0.ref 0).ty.shape.rank, (![(Scalar.indexCast (BitVec.ofNat 32 (i 1).val)).toNat] : Fin 1 → Nat) a + 1 ≤ (pre0.ref 0).ty.shape.size a := by
    intro (a : Fin 1)
    obtain rfl : a = 0 := Subsingleton.elim _ _
    show (Scalar.indexCast (BitVec.ofNat 32 (i 1).val)).toNat + 1 ≤ 64
    rw [coord_word (i 1)]; exact (i 1).isLt
  refine (dif_pos h).trans ?_
  rw [tbl_rows]
  have e : (fun a : Fin 1 => ⟨(![(Scalar.indexCast (BitVec.ofNat 32 (i 1).val)).toNat] : Fin 1 → Nat) a, h a⟩ : S64.Idx) = ValueIdx.ix1 (n := 64) (i 1) := by
    funext a
    obtain rfl : a = 0 := Subsingleton.elim _ _
    exact Fin.ext (coord_word (i 1))
  refine (congrArg (fun x => lit12 (S64.rowMajor x)) e).trans ?_
  show lit12 (S64.rowMajor (ValueIdx.ix1 (n := 64) (i 1))) = _
  rw [rowMajor_line, rowTable]

theorem rows_multiple (j : Fin 64) : (64 : Int) ∣ (Scalar.muli (BitVec.ofNat 32 (firstRow j)) 64#32).toInt := by
  revert j; decide +kernel

theorem inside_rows (b : Fin 2) (j : Fin 64) (c : Fin 2) (a : Fin 3) :
    (![b.val, firstRow j * 64, 2048 + 2048 * c.val] : Fin 3 → Nat) a + S1x704x2048.size a ≤ S2x16384x6144.size a := by
  revert b j c a; decide +kernel

theorem words_rows (b : Fin 2) (j : Fin 64) (c : Fin 2) :
    Shape.WholeWordsAt S2x16384x6144 2 ![b.val, firstRow j * 64, 2048 + 2048 * c.val] S1x704x2048.size (fun _ => 1) := by
  revert b j c; decide +kernel

theorem inside_bias (j : Fin 64) (a : Fin 6) :
    ((![variant j, 0, 0, 0, 0, 0] : Fin 6 → Nat) a + 1) * S1x4x16x2x64x704.size a ≤ S3x4x16x2x64x704.size a := by
  revert j a; decide +kernel

/-- The pipeline's side condition holds of every launch memory: both tables are constants of the program. -/
theorem ok : Ok m := by
  refine ⟨fun i => ?_, fun i => ?_, fun i => ?_, fun i => ?_, fun i => ?_⟩
  · show (64 : Int) ∣ (Scalar.muli ((tbl m).atD 0 ![(Scalar.indexCast (BitVec.ofNat 32 (i 1).val)).toNat]) 64#32).toInt
    rw [atD_rows]; exact rows_multiple _
  · show (64 : Int) ∣ (Scalar.muli ((tbl m).atD 0 ![(Scalar.indexCast (BitVec.ofNat 32 (i 1).val)).toNat]) 64#32).toInt
    rw [atD_rows]; exact rows_multiple _
  · refine ⟨fun a => ?_, .inr ?_⟩
    · rw [transform_1_eq]; exact inside_rows (i 0) (i 1) 0 a
    · rw [Rect.wholeWords_iff_at]
      show Shape.WholeWordsAt S2x16384x6144 2 (cc0_transform_1 k0_off1_inb numel1_S1 (tbl m) i) S1x704x2048.size (fun _ => 1)
      rw [transform_1_eq]; exact words_rows (i 0) (i 1) 0
  · refine ⟨fun a => ?_, .inr ?_⟩
    · rw [transform_2_eq]; exact inside_rows (i 0) (i 1) 1 a
    · rw [Rect.wholeWords_iff_at]
      show Shape.WholeWordsAt S2x16384x6144 2 (cc0_transform_2 k0_off1_inb numel1_S1 (tbl m) i) S1x704x2048.size (fun _ => 1)
      rw [transform_2_eq]; exact words_rows (i 0) (i 1) 1
  · exact ⟨fun a => by rw [transform_5_eq]; exact inside_bias (i 1) a, .inl rfl⟩

end Cert.Attn
-- ==== Proof.Array.lean ====
/- The result array: at grid point (b, j) the body writes rows 256 j … 256 j + 255 of batch b, from the blocks that the
   index maps place there. -/
module

public import proofs.«01_k».proof.Proof.WindowOut
public import proofs.«01_k».proof.Proof.Tables
public import Idealize.ShloMosaic.Lib.Pipeline.ValueKit.Geometry
public import Idealize.ShloMosaic.Lib.Pipeline.Covers

@[expose] public section

set_option maxRecDepth 16384
set_option backward.isDefEq.respectTransparency false

noncomputable section

namespace Cert.Attn

open Idealize.ShloMosaic Idealize.ShloMosaic.TcCoe
open Cert.KernelIdeal Cert.KernelIdeal.Gen

variable (m : (ℓ : Loc nD τ sig) → Buf (Elt Ideal) ℓ) (c : Dev nD)

/-- The kernel's pipeline at its tables. -/
abbrev outArr : S2x16384x2048.Idx → EReal := (dats m (ok m) 0 c).arrAt 6 (cfgM m (ok m)).N

theorem firstRow_le (j : Fin 64) : firstRow j ≤ 245 := by unfold firstRow; omega

/-- The blocks of point (b, j): the queries, -/
def qBlk (Q : S2x16384x6144.Idx → EReal) (b : Fin 2) (j : Fin 64) : Vec Ideal S1x256x2048 .bf16 :=
  fun y => Q (ix3 b ⟨256 * j.val + (y 1).val, by have h : (y 1).val < 256 := (y 1).isLt; omega⟩ ⟨(y 2).val, by have h : (y 2).val < 2048 := (y 2).isLt; omega⟩)

/-- the window's keys (`s = 0`) and values (`s = 1`), -/
def kBlk (Q : S2x16384x6144.Idx → EReal) (s : Fin 2) (b : Fin 2) (j : Fin 64) : Vec Ideal S1x704x2048 .bf16 :=
  fun y => Q (ix3 b ⟨firstRow j * 64 + (y 1).val, by have h : (y 1).val < 704 := (y 1).isLt; have := firstRow_le j; omega⟩
    ⟨2048 + 2048 * s.val + (y 2).val, by have h : (y 2).val < 2048 := (y 2).isLt; omega⟩)

/-- the context's keys and values, -/
def cBlk (C : S2x256x6144.Idx → EReal) (s : Fin 2) (b : Fin 2) : Vec Ideal S1x256x2048 .bf16 :=
  fun y => C (ix3 b ⟨(y 1).val, (y 1).isLt⟩ ⟨2048 + 2048 * s.val + (y 2).val, by have h : (y 2).val < 2048 := (y 2).isLt; omega⟩)

theorem variant_lt (j : Fin 64) : variant j < 3 := by revert j; decide +kernel

/-- and the bias table of the point's variant. -/
def bBlk (B : S3x4x16x2x64x704.Idx → EReal) (j : Fin 64) : Vec Ideal S1x4x16x2x64x704 .f32 :=
  fun y => B (ix6 ⟨variant j, variant_lt j⟩ ⟨(y 1).val, (y 1).isLt⟩ ⟨(y 2).val, (y 2).isLt⟩ ⟨(y 3).val, (y 3).isLt⟩ ⟨(y 4).val, (y 4).isLt⟩ ⟨(y 5).val, (y 5).isLt⟩)

variable (t : Fin (cfgM m (ok m)).N)

theorem word_point (j : Fin 64) : (BitVec.ofNat 32 j.val).toNat = j.val := by
  revert j; decide +kernel

theorem place_0 (y : S1x256x2048.Idx) (a : Fin 3) :
    ((((cfgM m (ok m)).win 0).blk t).view.emb y a).val = (![((grid0.coords t) 0).val * 1, ((grid0.coords t) 1).val * 256, 0 * 2048] : Fin 3 → Nat) a + (y a).val := by
  refine (Pipeline.Window.rect_emb_val_off ((cfgM m (ok m)).win 0) t y a).trans ?_
  have i0 : ((cfgM m (ok m)).win 0).index t a = (![((grid0.coords t) 0).val, ((grid0.coords t) 1).val, 0] : Fin 3 → Nat) a := by
    show cc0_transform_0 (grid0.coords t) a = _
    have e : cc0_transform_0 (grid0.coords t) = ![(BitVec.ofNat 32 ((grid0.coords t) 0).val).toNat, (BitVec.ofNat 32 ((grid0.coords t) 1).val).toNat, (0#32).toNat] := rfl
    rw [e, word_batch, word_point]; rfl
  rw [i0]
  clear i0
  match a with
  | 0 => rfl
  | 1 => rfl
  | 2 => rfl

theorem blk_0 : (iblk m (ok m) c 0 t : S1x256x2048.Idx → EReal) = qBlk (V m c main_arg0) ((grid0.coords t) 0) ((grid0.coords t) 1) := by
  funext (y : S1x256x2048.Idx)
  have e := place_0 m t y
  unfold qBlk
  refine congrArg (V m c main_arg0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show ((grid0.coords t) 1).val * 256 + (y 1).val = 256 * ((grid0.coords t) 1).val + (y 1).val; omega
  | 2 => show 0 * 2048 + (y 2).val = (y 2).val; omega

theorem place_1 (y : S1x704x2048.Idx) (a : Fin 3) :
    ((((cfgM m (ok m)).win 1).blk t).view.emb y a).val = (![((grid0.coords t) 0).val, firstRow ((grid0.coords t) 1) * 64, 2048] : Fin 3 → Nat) a + (y a).val := by
  refine (Pipeline.Window.rect_emb_val_off ((cfgM m (ok m)).win 1) t y a).trans ?_
  have i0 : ((cfgM m (ok m)).win 1).index t a = (![((grid0.coords t) 0).val, firstRow ((grid0.coords t) 1) * 64, 2048] : Fin 3 → Nat) a := by
    show cc0_transform_1 k0_off1_inb numel1_S1 (tbl m) (grid0.coords t) a = _
    rw [transform_1_eq]
  rw [i0]
  clear i0
  match a with
  | 0 => rfl
  | 1 => rfl
  | 2 => rfl

theorem blk_1 : (iblk m (ok m) c 1 t : S1x704x2048.Idx → EReal) = kBlk (V m c main_arg0) 0 ((grid0.coords t) 0) ((grid0.coords t) 1) := by
  funext (y : S1x704x2048.Idx)
  have e := place_1 m t y
  unfold kBlk
  refine congrArg (V m c main_arg0) ?_
  funext (a : Fin 3)
  refine Fin.ext ((e a).trans ?_)
  match a with
  | 0 => have h : (y 0).val < 1 := (y 0).isLt; show ((grid0.coords t) 0).val + (y 0).val = ((grid0.coords t) 0).val; omega
  | 1 => show firstRow ((grid0.coords t) 1) * 64 + (y 1).val = firstRow ((grid0.coords t) 1) * 64 + (y 1).val; rfl
  | 2 => show 2048 + (y 2).val = 2048 + 2048 * 0 + (y 2).val; omega

theorem place_2 (y : S1x704x2048.Idx) (a : Fin 3) :
    ((((cfgM m (ok m)).win 2).blk t).view.emb y a).val = (![((grid0.coords t) 0).val, firstRow ((grid0.coords t) 1) * 64, 4096] : Fin 3 → Nat) a + (y a).val := by
  refine (Pipeline.Window.rect_emb_val_off ((cfgM m (ok m)).win 2) t y a).trans ?_
  have i0 : ((cfgM m (ok m)).win 2).index t a = (![((grid0.coords t) 0).val, firstRow ((grid0.coords t) 1) * 64, 4096] : Fin 3 → Nat) a := by
    show cc0_transform_2 k0_off1_inb numel1_S1 (tbl m) (grid0.coords t) a = _
    rw [transform_2_eq]
  rw [i0]
  clear i0
  match a with
  | 0 => rfl
  | 1 => rfl
  | 2 => rfl

theorem blk_2 : (iblk m (ok m) c 2 t : S1x704x2048.Idx → EReal) = kBlk (V m c main_arg0) 1 ((grid0.coords t) 0) ((grid0.coords t) 1) := by
  funext (y : S1x704x2048.Idx)
  have e := place_2 m t y
  unfold kBlk
  refine congrArg (V m c main_arg0) ?_
  funext (a : Fin 3)
  refine Fin.ext ((e a).trans ?_)
  match a with
  | 0 => have h : (y 0).val < 1 := (y 0).isLt; show ((grid0.coords t) 0).val + (y 0).val = ((grid0.coords t) 0).val; omega
  | 1 => show firstRow ((grid0.coords t) 1) * 64 + (y 1).val = firstRow ((grid0.coords t) 1) * 64 + (y 1).val; rfl
  | 2 => show 4096 + (y 2).val = 2048 + 2048 * 1 + (y 2).val; omega

theorem place_3 (y : S1x256x2048.Idx) (a : Fin 3) :
    ((((cfgM m (ok m)).win 3).blk t).view.emb y a).val = (![((grid0.coords t) 0).val * 1, 0 * 256, 1 * 2048] : Fin 3 → Nat) a + (y a).val := by
  refine (Pipeline.Window.rect_emb_val_off ((cfgM m (ok m)).win 3) t y a).trans ?_
  have i0 : ((cfgM m (ok m)).win 3).index t a = (![((grid0.coords t) 0).val, 0, 1] : Fin 3 → Nat) a := by
    show cc0_transform_3 (grid0.coords t) a = _
    have e : cc0_transform_3 (grid0.coords t) = ![(BitVec.ofNat 32 ((grid0.coords t) 0).val).toNat, (0#32).toNat, (1#32).toNat] := rfl
    rw [e, word_batch]; rfl
  rw [i0]
  clear i0
  match a with
  | 0 => rfl
  | 1 => rfl
  | 2 => rfl

theorem blk_3 : (iblk m (ok m) c 3 t : S1x256x2048.Idx → EReal) = cBlk (V m c main_arg1) 0 ((grid0.coords t) 0) := by
  funext (y : S1x256x2048.Idx)
  have e := place_3 m t y
  unfold cBlk
  refine congrArg (V m c main_arg1) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show 0 * 256 + (y 1).val = (y 1).val; omega
  | 2 => show 1 * 2048 + (y 2).val = 2048 + 2048 * 0 + (y 2).val; omega

theorem place_4 (y : S1x256x2048.Idx) (a : Fin 3) :
    ((((cfgM m (ok m)).win 4).blk t).view.emb y a).val = (![((grid0.coords t) 0).val * 1, 0 * 256, 2 * 2048] : Fin 3 → Nat) a + (y a).val := by
  refine (Pipeline.Window.rect_emb_val_off ((cfgM m (ok m)).win 4) t y a).trans ?_
  have i0 : ((cfgM m (ok m)).win 4).index t a = (![((grid0.coords t) 0).val, 0, 2] : Fin 3 → Nat) a := by
    show cc0_transform_4 (grid0.coords t) a = _
    have e : cc0_transform_4 (grid0.coords t) = ![(BitVec.ofNat 32 ((grid0.coords t) 0).val).toNat, (0#32).toNat, (2#32).toNat] := rfl
    rw [e, word_batch]; rfl
  rw [i0]
  clear i0
  match a with
  | 0 => rfl
  | 1 => rfl
  | 2 => rfl

theorem blk_4 : (iblk m (ok m) c 4 t : S1x256x2048.Idx → EReal) = cBlk (V m c main_arg1) 1 ((grid0.coords t) 0) := by
  funext (y : S1x256x2048.Idx)
  have e := place_4 m t y
  unfold cBlk
  refine congrArg (V m c main_arg1) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show 0 * 256 + (y 1).val = (y 1).val; omega
  | 2 => show 2 * 2048 + (y 2).val = 2048 + 2048 * 1 + (y 2).val; omega

theorem place_5 (y : S1x4x16x2x64x704.Idx) (a : Fin 6) :
    ((((cfgM m (ok m)).win 5).blk t).view.emb y a).val = (![variant ((grid0.coords t) 1) * 1, 0 * 4, 0 * 16, 0 * 2, 0 * 64, 0 * 704] : Fin 6 → Nat) a + (y a).val := by
  refine (Pipeline.Window.rect_emb_val_off ((cfgM m (ok m)).win 5) t y a).trans ?_
  have i0 : ((cfgM m (ok m)).win 5).index t a = (![variant ((grid0.coords t) 1), 0, 0, 0, 0, 0] : Fin 6 → Nat) a := by
    show cc0_transform_5 k0_off1_inb numel1_S1 (tbl m) (grid0.coords t) a = _
    rw [transform_5_eq]
  rw [i0]
  clear i0
  match a with
  | 0 => rfl
  | 1 => rfl
  | 2 => rfl
  | 3 => rfl
  | 4 => rfl
  | 5 => rfl

theorem blk_5 : (iblk m (ok m) c 5 t : S1x4x16x2x64x704.Idx → EReal) = bBlk (V m c main_v95) ((grid0.coords t) 1) := by
  funext (y : S1x4x16x2x64x704.Idx)
  have e := place_5 m t y
  unfold bBlk
  refine congrArg (V m c main_v95) ?_
  funext (a : Fin 6)
  refine Fin.ext ((e a).trans ?_)
  match a with
  | 0 => have h : (y 0).val < 1 := (y 0).isLt; show variant ((grid0.coords t) 1) * 1 + (y 0).val = variant ((grid0.coords t) 1); omega
  | 1 => show 0 * 4 + (y 1).val = (y 1).val; omega
  | 2 => show 0 * 16 + (y 2).val = (y 2).val; omega
  | 3 => show 0 * 2 + (y 3).val = (y 3).val; omega
  | 4 => show 0 * 64 + (y 4).val = (y 4).val; omega
  | 5 => show 0 * 704 + (y 5).val = (y 5).val; omega

/-- What the body leaves for batch `b` and block row `j`. -/
def pointOut (Q : S2x16384x6144.Idx → EReal) (C : S2x256x6144.Idx → EReal) (B : S3x4x16x2x64x704.Idx → EReal)
    (b : Fin 2) (j : Fin 64) : S1x256x2048.Idx → EReal :=
  windowOut (qBlk Q b j) (kBlk Q 0 b j) (kBlk Q 1 b j) (cBlk C 0 b) (cBlk C 1 b) (bBlk B j)

/-- The result as one array. -/
def attnOut (Q : S2x16384x6144.Idx → EReal) (C : S2x256x6144.Idx → EReal) (B : S3x4x16x2x64x704.Idx → EReal)
    (i : S2x16384x2048.Idx) : EReal :=
  pointOut Q C B ⟨(i 0).val, (i 0).isLt⟩ ⟨(i 1).val / 256, by have h : (i 1).val < 16384 := (i 1).isLt; omega⟩
    (ix3 0 ⟨(i 1).val % 256, Nat.mod_lt _ (by norm_num)⟩ ⟨(i 2).val, (i 2).isLt⟩)

theorem attnOut_at (Q : S2x16384x6144.Idx → EReal) (C : S2x256x6144.Idx → EReal) (B : S3x4x16x2x64x704.Idx → EReal)
    (i : S2x16384x2048.Idx) (b : Fin 2) (j : Fin 64) (y : S1x256x2048.Idx)
    (h0 : (i 0).val = b.val) (h1 : (i 1).val = 256 * j.val + (y 1).val) (h2 : (i 2).val = (y 2).val) :
    attnOut Q C B i = pointOut Q C B b j y := by
  have l0 : (y 0).val < 1 := (y 0).isLt
  have l1 : (y 1).val < 256 := (y 1).isLt
  unfold attnOut
  have e0 : (⟨(i 0).val, (i 0).isLt⟩ : Fin 2) = b := Fin.ext h0
  have e1 : ∀ p, (⟨(i 1).val / 256, p⟩ : Fin 64) = j := fun p => Fin.ext (by simp only [h1]; omega)
  rw [e0, e1]
  refine congrArg (pointOut Q C B b j) ?_
  funext (a : Fin 3)
  match a with
  | 0 => exact Fin.ext (by show 0 = (y 0).val; omega)
  | 1 => exact Fin.ext (by show (i 1).val % 256 = (y 1).val; omega)
  | 2 => exact Fin.ext h2

theorem map_6 (i : grid0.Coords) : cc0_transform_6 i = ![(i 0).val, (i 1).val, 0] := by
  have e : cc0_transform_6 i = ![(BitVec.ofNat 32 (i 0).val).toNat, (BitVec.ofNat 32 (i 1).val).toNat, (0#32).toNat] := rfl
  rw [e, word_batch, word_point]; rfl

/-- The grid point (b, j). -/
def point (b : Fin 2) (j : Fin 64) : grid0.Coords := fun (a : Fin 2) => match a with | 0 => b | 1 => j

theorem covers_6 : ((cfgM m (ok m)).win 6).Covers :=
  Pipeline.Window.covers_of_indexMap_surj (w := (cfgM m (ok m)).win 6) rfl (by intro (a : Fin 3); revert a; show ∀ a : Fin 3, 0 < S1x256x2048.size a; decide) fun β => by
    have h0 : (β (0 : Fin 3)).val < 2 := lt_of_lt_of_eq (β (0 : Fin 3)).isLt (by first | rfl | sl_kernel_rfl)
    have h1 : (β (1 : Fin 3)).val < 64 := lt_of_lt_of_eq (β (1 : Fin 3)).isLt (by first | rfl | sl_kernel_rfl)
    have h2 : (β (2 : Fin 3)).val < 1 := lt_of_lt_of_eq (β (2 : Fin 3)).isLt (by first | rfl | sl_kernel_rfl)
    refine ⟨point (⟨(β (0 : Fin 3)).val, h0⟩) ⟨(β (1 : Fin 3)).val, h1⟩, fun (a : Fin 3) => ?_⟩
    refine (congrFun (map_6 (point (⟨(β (0 : Fin 3)).val, h0⟩) ⟨(β (1 : Fin 3)).val, h1⟩)) a).trans ?_
    match a with
    | 0 => rfl
    | 1 => rfl
    | 2 => show 0 = (β (2 : Fin 3)).val; omega

theorem place_6 (y : S1x256x2048.Idx) (a : Fin 3) :
    ((((cfgM m (ok m)).win 6).blk t).view.emb y a).val = (![((grid0.coords t) 0).val * 1, ((grid0.coords t) 1).val * 256, 0 * 2048] : Fin 3 → Nat) a + (y a).val := by
  refine (Pipeline.Window.rect_emb_val_off ((cfgM m (ok m)).win 6) t y a).trans ?_
  have i0 : ((cfgM m (ok m)).win 6).index t a = (![((grid0.coords t) 0).val, ((grid0.coords t) 1).val, 0] : Fin 3 → Nat) a :=
    congrFun (map_6 (grid0.coords t)) a
  rw [i0]
  clear i0
  match a with
  | 0 => rfl
  | 1 => rfl
  | 2 => rfl

theorem arr_eq : outArr m c = attnOut (V m c main_arg0) (V m c main_arg1) (V m c main_v95) := by
  refine Pipeline.Dat.arrAt_eq_of_covers (dats m (ok m) 0 c) 6 _ (covers_6 m) fun t hf (y : S1x256x2048.Idx) => ?_
  blk_simp
  rw [after0_6]
  unfold outsAt0
  rw [out_eq, blk_0, blk_1, blk_2, blk_3, blk_4, blk_5]
  have l0 : (y 0).val < 1 := (y 0).isLt
  refine (attnOut_at _ _ _ _ ((grid0.coords t) 0) ((grid0.coords t) 1) y ?_ ?_ ?_).symm
  · refine (place_6 m t y 0).trans ?_
    show ((grid0.coords t) 0).val * 1 + (y 0).val = _; omega
  · refine (place_6 m t y 1).trans ?_
    show ((grid0.coords t) 1).val * 256 + (y 1).val = _; omega
  · refine (place_6 m t y 2).trans ?_
    show 0 * 2048 + (y 2).val = _; omega

end Cert.Attn
-- ==== Proof.BiasTable.lean ====
/- The bias table that the host stacks: what the kernel's host operations leave in it, as a function of the relative
   position bias. -/
module

public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384
set_option backward.isDefEq.respectTransparency false

noncomputable section

namespace Cert.Attn

open Idealize.ShloMosaic Idealize.ShloMosaic.TcCoe Idealize.ShloMosaic.Tactic
open Cert.KernelIdeal Cert.KernelIdeal.Gen

/-- The first key column of each query column, -/
def colStart : Vec Ideal S64 .i32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- whether a key column is in a query column's window, -/
def inWindow : Vec Ideal S64x64 .i1 :=
  andi
    (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colStart) (broadcastInDim S64x1 ![] bcast_S_S64x1 (constantI S_ 32 16#32)))))

/-- the column of the bias that a pair of columns reads, -/
def colOffset : Vec Ideal S64x64 .i32 :=
  addi
    (minsi (broadcastInDim S64x64 ![] bcast_S_S64x64 (constantI S_ 32 15#32))
      (maxsi (broadcastInDim S64x64 ![] bcast_S_S64x64 (constantI S_ 32 4294967281#32))
        (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))))
    (broadcastInDim S64x64 ![] bcast_S_S64x64 (constantI S_ 32 15#32))

/-- its one-hot rows, -/
def oneHot : FVec Ideal S31x64x64 .f32 :=
  uitofp .f32 (cmpi .eq (broadcastInDim S31x64x64 ![0, 1, 2] bcast_S1x64x64_S31x64x64_0_1_2 (broadcastInDim S1x64x64 ![1, 2] bcast_S64x64_S1x64x64_1_2 colOffset))
    (broadcastInDim S31x64x64 ![0, 1, 2] bcast_S31x1x1_S31x64x64_0_1_2 (broadcastInDim S31x1x1 ![0] bcast_S31_S31x1x1_0 (iotaInDim S31 32 0))))

/-- the bias by head, query column, relative row and key column, -/
def rowTable4 (R : FVec Ideal S32x15x31 .f32) : FVec Ideal S32x64x15x64 .f32 :=
  select (broadcastInDim S32x64x15x64 ![0, 1, 2, 3] bcast_S1x64x1x64_S32x64x15x64_0_1_2_3 (broadcastInDim S1x64x1x64 ![1, 3] bcast_S64x64_S1x64x1x64_1_3 inWindow))
    (transpose S32x64x15x64 [2, 0, 3, 1] (Host.dotGeneral dot_S31x64x64_S32x15x31_S64x64x32x15_0_2_12_01_n_n (some .fp32) oneHot R) transposes_S64x64x32x15_S32x64x15x64_2_0_3_1)
    (broadcastInDim S32x64x15x64 ![] bcast_S_S32x64x15x64 (constant S_ .f32 0xFF800000#32))

/-- the same with the rows and key columns as one axis, padded by rows that no window holds. -/
def padded (R : FVec Ideal S32x15x31 .f32) : FVec Ideal S32x64x2432 .f32 :=
  pad S32x64x2432 ![0, 0, 704] ![0, 0, 768] ![0, 0, 0] (shapeCast S32x64x960 (rowTable4 R) shapeCasts_S32x64x15x64_S32x64x960)
    (constant S_ .f32 0xFF800000#32) pads_S32x64x960_S32x64x2432_000_000_7047680 h_S_

/-- One query row's bias: the padded table from a start, masked to the row's eight key rows. -/
def piece (k : Vec Ideal S704 .i1) (s : Nat) (P : FVec Ideal S32x64x2432 .f32) (h : S32x64x2432.Slices ![0, 0, s] S32x64x704) : FVec Ideal S32x64x704 .f32 :=
  select (broadcastInDim S32x64x704 ![0, 1, 2] bcast_S1x1x704_S32x64x704_0_1_2 (broadcastInDim S1x1x704 ![2] bcast_S704_S1x1x704_2 k))
    (extractStridedSlice S32x64x704 ![0, 0, s] P h)
    (broadcastInDim S32x64x704 ![] bcast_S_S32x64x704 (constant S_ .f32 0xFF800000#32))

/-- The four query rows of a block, heads in pairs. -/
def quad (p0 p1 p2 p3 : FVec Ideal S32x64x704 .f32) : FVec Ideal S4x16x2x64x704 .f32 :=
  shapeCast S4x16x2x64x704
    (concatenate S4x32x64x704 0 [⟨S1x32x64x704, broadcastInDim S1x32x64x704 ![1, 2, 3] bcast_S32x64x704_S1x32x64x704_1_2_3 p0⟩, ⟨S1x32x64x704, broadcastInDim S1x32x64x704 ![1, 2, 3] bcast_S32x64x704_S1x32x64x704_1_2_3 p1⟩,
      ⟨S1x32x64x704, broadcastInDim S1x32x64x704 ![1, 2, 3] bcast_S32x64x704_S1x32x64x704_1_2_3 p2⟩, ⟨S1x32x64x704, broadcastInDim S1x32x64x704 ![1, 2, 3] bcast_S32x64x704_S1x32x64x704_1_2_3 p3⟩] concatenates_S1x32x64x704_S1x32x64x704_S1x32x64x704_S1x32x64x704_S4x32x64x704_d0)
    shapeCasts_S4x32x64x704_S4x16x2x64x704

/-- The three variants. -/
def biasTable (k : Fin 12 → Vec Ideal S704 .i1) (P : FVec Ideal S32x64x2432 .f32) : FVec Ideal S3x4x16x2x64x704 .f32 :=
  concatenate S3x4x16x2x64x704 0 [
    ⟨S1x4x16x2x64x704, broadcastInDim S1x4x16x2x64x704 ![1, 2, 3, 4, 5] bcast_S4x16x2x64x704_S1x4x16x2x64x704_1_2_3_4_5 (quad (piece (k 0) 1152 P slices_S32x64x2432_S32x64x704_0_0_1152) (piece (k 1) 1088 P slices_S32x64x2432_S32x64x704_0_0_1088) (piece (k 2) 1024 P slices_S32x64x2432_S32x64x704_0_0_1024) (piece (k 3) 960 P slices_S32x64x2432_S32x64x704_0_0_960))⟩,
    ⟨S1x4x16x2x64x704, broadcastInDim S1x4x16x2x64x704 ![1, 2, 3, 4, 5] bcast_S4x16x2x64x704_S1x4x16x2x64x704_1_2_3_4_5 (quad (piece (k 4) 896 P slices_S32x64x2432_S32x64x704_0_0_896) (piece (k 5) 832 P slices_S32x64x2432_S32x64x704_0_0_832) (piece (k 6) 768 P slices_S32x64x2432_S32x64x704_0_0_768) (piece (k 7) 704 P slices_S32x64x2432_S32x64x704_0_0_704))⟩,
    ⟨S1x4x16x2x64x704, broadcastInDim S1x4x16x2x64x704 ![1, 2, 3, 4, 5] bcast_S4x16x2x64x704_S1x4x16x2x64x704_1_2_3_4_5 (quad (piece (k 8) 704 P slices_S32x64x2432_S32x64x704_0_0_704) (piece (k 9) 640 P slices_S32x64x2432_S32x64x704_0_0_640) (piece (k 10) 576 P slices_S32x64x2432_S32x64x704_0_0_576) (piece (k 11) 512 P slices_S32x64x2432_S32x64x704_0_0_512))⟩] concatenates_S1x4x16x2x64x704_S1x4x16x2x64x704_S1x4x16x2x64x704_S3x4x16x2x64x704_d0

theorem cat3_congr {a b c a' b' c' : FVec Ideal S1x4x16x2x64x704 .f32} (ha : a = a') (hb : b = b') (hc : c = c') :
    concatenate S3x4x16x2x64x704 0 [⟨S1x4x16x2x64x704, a⟩, ⟨S1x4x16x2x64x704, b⟩, ⟨S1x4x16x2x64x704, c⟩] concatenates_S1x4x16x2x64x704_S1x4x16x2x64x704_S1x4x16x2x64x704_S3x4x16x2x64x704_d0
      = concatenate S3x4x16x2x64x704 0 [⟨S1x4x16x2x64x704, a'⟩, ⟨S1x4x16x2x64x704, b'⟩, ⟨S1x4x16x2x64x704, c'⟩] concatenates_S1x4x16x2x64x704_S1x4x16x2x64x704_S1x4x16x2x64x704_S3x4x16x2x64x704_d0 := by
  rw [ha, hb, hc]

theorem quad_congr {a b c d a' b' c' d' : FVec Ideal S32x64x704 .f32} (ha : a = a') (hb : b = b') (hc : c = c') (hd : d = d') :
    quad a b c d = quad a' b' c' d' := by
  rw [ha, hb, hc, hd]

theorem cat4_congr {a b c d : FVec Ideal S1x32x64x704 .f32} {a' b' c' d' : FVec Ideal S32x64x704 .f32} (ha : a = broadcastInDim S1x32x64x704 ![1, 2, 3] bcast_S32x64x704_S1x32x64x704_1_2_3 a')
    (hb : b = broadcastInDim S1x32x64x704 ![1, 2, 3] bcast_S32x64x704_S1x32x64x704_1_2_3 b') (hc : c = broadcastInDim S1x32x64x704 ![1, 2, 3] bcast_S32x64x704_S1x32x64x704_1_2_3 c') (hd : d = broadcastInDim S1x32x64x704 ![1, 2, 3] bcast_S32x64x704_S1x32x64x704_1_2_3 d') :
    broadcastInDim S1x4x16x2x64x704 ![1, 2, 3, 4, 5] bcast_S4x16x2x64x704_S1x4x16x2x64x704_1_2_3_4_5 (shapeCast S4x16x2x64x704 (concatenate S4x32x64x704 0 [⟨S1x32x64x704, a⟩, ⟨S1x32x64x704, b⟩, ⟨S1x32x64x704, c⟩, ⟨S1x32x64x704, d⟩] concatenates_S1x32x64x704_S1x32x64x704_S1x32x64x704_S1x32x64x704_S4x32x64x704_d0) shapeCasts_S4x32x64x704_S4x16x2x64x704)
      = broadcastInDim S1x4x16x2x64x704 ![1, 2, 3, 4, 5] bcast_S4x16x2x64x704_S1x4x16x2x64x704_1_2_3_4_5 (quad a' b' c' d') := by
  rw [ha, hb, hc, hd]; rfl

theorem second (W : Valuation τ sig (Elt Ideal)) :
    StableHlo.after (List.flatten [hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) W main_v95 = biasTable ![W main_c, W main_c_0, W main_c_1, W main_c_2, W main_c_3, W main_c_4, W main_c_5, W main_c_6, W main_c_7, W main_c_8, W main_c_9, W main_c_10] (W main_v37) := by
  simp only [hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append]
  after_reads_simp
  unfold biasTable
  refine cat3_congr ?_ ?_ ?_
  · show StableHlo.upto _ W _ (Proc.devRef .tc main_v92) = _
    after_reads_simp
    refine cat4_congr ?_ ?_ ?_ ?_
    · show StableHlo.upto _ W _ (Proc.devRef .tc main_v50) = _
      after_reads_simp
      rfl
    · show StableHlo.upto _ W _ (Proc.devRef .tc main_v51) = _
      after_reads_simp
      rfl
    · show StableHlo.upto _ W _ (Proc.devRef .tc main_v52) = _
      after_reads_simp
      rfl
    · show StableHlo.upto _ W _ (Proc.devRef .tc main_v53) = _
      after_reads_simp
      rfl
  · show StableHlo.upto _ W _ (Proc.devRef .tc main_v93) = _
    after_reads_simp
    refine cat4_congr ?_ ?_ ?_ ?_
    · show StableHlo.upto _ W _ (Proc.devRef .tc main_v68) = _
      after_reads_simp
      rfl
    · show StableHlo.upto _ W _ (Proc.devRef .tc main_v69) = _
      after_reads_simp
      rfl
    · show StableHlo.upto _ W _ (Proc.devRef .tc main_v70) = _
      after_reads_simp
      rfl
    · show StableHlo.upto _ W _ (Proc.devRef .tc main_v71) = _
      after_reads_simp
      rfl
  · show StableHlo.upto _ W _ (Proc.devRef .tc main_v94) = _
    after_reads_simp
    refine cat4_congr ?_ ?_ ?_ ?_
    · show StableHlo.upto _ W _ (Proc.devRef .tc main_v86) = _
      after_reads_simp
      rfl
    · show StableHlo.upto _ W _ (Proc.devRef .tc main_v87) = _
      after_reads_simp
      rfl
    · show StableHlo.upto _ W _ (Proc.devRef .tc main_v88) = _
      after_reads_simp
      rfl
    · show StableHlo.upto _ W _ (Proc.devRef .tc main_v89) = _
      after_reads_simp
      rfl

theorem first (W : Valuation τ sig (Elt Ideal)) :
    StableHlo.after (List.flatten [hostOps0, hostOps0_1, hostOps0_2, hostOps0_3, hostOps0_4, hostOps0_5, hostOps0_6, hostOps0_7]) W main_v37 = padded (W main_arg2) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_0 (W : Valuation τ sig (Elt Ideal)) :
    StableHlo.after (List.flatten [hostOps0, hostOps0_1, hostOps0_2, hostOps0_3, hostOps0_4, hostOps0_5, hostOps0_6, hostOps0_7]) W main_c = fun i : S704.Idx => lit0 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_1 (W : Valuation τ sig (Elt Ideal)) :
    StableHlo.after (List.flatten [hostOps0, hostOps0_1, hostOps0_2, hostOps0_3, hostOps0_4, hostOps0_5, hostOps0_6, hostOps0_7]) W main_c_0 = fun i : S704.Idx => lit1 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_2 (W : Valuation τ sig (Elt Ideal)) :
    StableHlo.after (List.flatten [hostOps0, hostOps0_1, hostOps0_2, hostOps0_3, hostOps0_4, hostOps0_5, hostOps0_6, hostOps0_7]) W main_c_1 = fun i : S704.Idx => lit2 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_3 (W : Valuation τ sig (Elt Ideal)) :
    StableHlo.after (List.flatten [hostOps0, hostOps0_1, hostOps0_2, hostOps0_3, hostOps0_4, hostOps0_5, hostOps0_6, hostOps0_7]) W main_c_2 = fun i : S704.Idx => lit3 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_4 (W : Valuation τ sig (Elt Ideal)) :
    StableHlo.after (List.flatten [hostOps0, hostOps0_1, hostOps0_2, hostOps0_3, hostOps0_4, hostOps0_5, hostOps0_6, hostOps0_7]) W main_c_3 = fun i : S704.Idx => lit4 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_5 (W : Valuation τ sig (Elt Ideal)) :
    StableHlo.after (List.flatten [hostOps0, hostOps0_1, hostOps0_2, hostOps0_3, hostOps0_4, hostOps0_5, hostOps0_6, hostOps0_7]) W main_c_4 = fun i : S704.Idx => lit5 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_6 (W : Valuation τ sig (Elt Ideal)) :
    StableHlo.after (List.flatten [hostOps0, hostOps0_1, hostOps0_2, hostOps0_3, hostOps0_4, hostOps0_5, hostOps0_6, hostOps0_7]) W main_c_5 = fun i : S704.Idx => lit6 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_7 (W : Valuation τ sig (Elt Ideal)) :
    StableHlo.after (List.flatten [hostOps0, hostOps0_1, hostOps0_2, hostOps0_3, hostOps0_4, hostOps0_5, hostOps0_6, hostOps0_7]) W main_c_6 = fun i : S704.Idx => lit7 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_8 (W : Valuation τ sig (Elt Ideal)) :
    StableHlo.after (List.flatten [hostOps0, hostOps0_1, hostOps0_2, hostOps0_3, hostOps0_4, hostOps0_5, hostOps0_6, hostOps0_7]) W main_c_7 = fun i : S704.Idx => lit8 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_9 (W : Valuation τ sig (Elt Ideal)) :
    StableHlo.after (List.flatten [hostOps0, hostOps0_1, hostOps0_2, hostOps0_3, hostOps0_4, hostOps0_5, hostOps0_6, hostOps0_7]) W main_c_8 = fun i : S704.Idx => lit9 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_10 (W : Valuation τ sig (Elt Ideal)) :
    StableHlo.after (List.flatten [hostOps0, hostOps0_1, hostOps0_2, hostOps0_3, hostOps0_4, hostOps0_5, hostOps0_6, hostOps0_7]) W main_c_9 = fun i : S704.Idx => lit10 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem mask_11 (W : Valuation τ sig (Elt Ideal)) :
    StableHlo.after (List.flatten [hostOps0, hostOps0_1, hostOps0_2, hostOps0_3, hostOps0_4, hostOps0_5, hostOps0_6, hostOps0_7]) W main_c_10 = fun i : S704.Idx => lit11 (S704.rowMajor i) := by
  simp only [hostOps0, hostOps0_1, hostOps0_2, hostOps0_3, hostOps0_4, hostOps0_5, hostOps0_6, hostOps0_7, List.flatten_cons, List.flatten_nil, List.append_nil, List.cons_append, List.nil_append]
  after_reads_simp
  rfl

/-- The mask of query row `i % 4` in variant `i / 4`. -/
def mask (i : Fin 12) (x : Fin 704) : BitVec 1 :=
  match i with
  | 0 => lit0 x
  | 1 => lit1 x
  | 2 => lit2 x
  | 3 => lit3 x
  | 4 => lit4 x
  | 5 => lit5 x
  | 6 => lit6 x
  | 7 => lit7 x
  | 8 => lit8 x
  | 9 => lit9 x
  | 10 => lit10 x
  | 11 => lit11 x

/-- The stacked table that the call reads. -/
theorem V_bias (m : (ℓ : Loc nD τ sig) → Buf (Elt Ideal) ℓ) (c : Dev nD) :
    V m c main_v95 = biasTable (fun k i => mask k (S704.rowMajor i)) (padded (m ((c : Thread nD τ).loc main_arg2))) := by
  have e : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] = (List.flatten [hostOps0, hostOps0_1, hostOps0_2, hostOps0_3, hostOps0_4, hostOps0_5, hostOps0_6, hostOps0_7] ++ List.flatten [hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] : List (HloOp τ sig (Elt Ideal))) := by
    simp only [List.flatten_cons, List.flatten_nil, List.append_nil, List.append_assoc]
  unfold V
  rw [e, StableHlo.after_append, second, first, mask_0, mask_1, mask_2, mask_3, mask_4, mask_5, mask_6, mask_7, mask_8, mask_9, mask_10, mask_11]
  clear e
  refine congrArg (fun k => biasTable k _) ?_
  funext k
  match k with
  | 0 => rfl
  | 1 => rfl
  | 2 => rfl
  | 3 => rfl
  | 4 => rfl
  | 5 => rfl
  | 6 => rfl
  | 7 => rfl
  | 8 => rfl
  | 9 => rfl
  | 10 => rfl
  | 11 => rfl

end Cert.Attn
-- ==== Proof.Softmax.lean ====
/- The softmax algebra: a mean weighted by exponentials of scores, some of them −∞, is a real quotient that does not
   depend on the maximum subtracted. -/
module

public import proofs.«01_k».proof.Proof.HeadPair

@[expose] public section

noncomputable section

namespace Cert.Attn

open Idealize.ShloMosaic Idealize.ShloMosaic.TcCoe

/-- A score: `a` where `p` holds and −∞ elsewhere, -/
def score (p : Prop) [Decidable p] (a : ℝ) : EReal := if p then (a : EReal) else ⊥

/-- and its weight. -/
def weight (p : Prop) [Decidable p] (a : ℝ) : ℝ := if p then Real.exp a else 0

theorem weight_nonneg (p : Prop) [Decidable p] (a : ℝ) : 0 ≤ weight p a := by
  unfold weight; split_ifs <;> positivity

theorem exp_score (p : Prop) [Decidable p] (a M : ℝ) :
    Ideal.exp (score p a - (M : EReal)) = ((weight p a * Real.exp (-M) : ℝ) : EReal) := by
  unfold score weight
  split_ifs
  · rw [← EReal.coe_sub, Ideal.exp_coe, sub_eq_add_neg, Real.exp_add]
  · rw [EReal.bot_sub, Ideal.exp_bot, zero_mul, EReal.coe_zero]

theorem coe_sum {ι : Type*} (S : Finset ι) (f : ι → ℝ) : (∑ i ∈ S, (f i : EReal)) = ((∑ i ∈ S, f i : ℝ) : EReal) := by
  classical
  induction S using Finset.induction with
  | empty => simp
  | insert a S h ih => rw [Finset.sum_insert h, Finset.sum_insert h, ih, EReal.coe_add]

theorem fold_max_score {ι : Type*} (S : Finset ι) (p : ι → Prop) [DecidablePred p] (a : ι → ℝ) :
    S.fold max ⊥ (fun i => score (p i) (a i)) = ⊥ ∨ ∃ M : ℝ, S.fold max ⊥ (fun i => score (p i) (a i)) = (M : EReal) := by
  classical
  induction S using Finset.induction with
  | empty => left; simp
  | insert x S h ih =>
    rw [Finset.fold_insert h]
    have hx : score (p x) (a x) = ⊥ ∨ ∃ M : ℝ, score (p x) (a x) = (M : EReal) := by
      unfold score; split_ifs
      · exact Or.inr ⟨_, rfl⟩
      · exact Or.inl rfl
    rcases hx with hx | ⟨M, hx⟩ <;> rcases ih with ih | ⟨N, ih⟩ <;> rw [hx, ih]
    · left; simp
    · right; exact ⟨N, by simp⟩
    · right; exact ⟨M, by simp⟩
    · right; exact ⟨max M N, (EReal.coe_strictMono.monotone.map_max (a := M) (b := N)).symm⟩

/-- The maximum of scores one of which is not −∞ is a real. -/
theorem fold_max_real {ι : Type*} (S : Finset ι) (p : ι → Prop) [DecidablePred p] (a : ι → ℝ) (i : ι) (hi : i ∈ S) (hp : p i) :
    ∃ M : ℝ, S.fold max ⊥ (fun i => score (p i) (a i)) = (M : EReal) := by
  rcases fold_max_score S p a with h | h
  · exfalso
    have : score (p i) (a i) ≤ S.fold max ⊥ (fun i => score (p i) (a i)) :=
      (Finset.le_fold_max _).2 (Or.inr ⟨i, hi, le_refl _⟩)
    rw [h] at this
    simp [score, hp] at this
  · exact h

theorem div_real {x y : ℝ} (h : y ≠ 0) : Ideal.div (x : EReal) (y : EReal) = ((x / y : ℝ) : EReal) := by
  rw [Ideal.div_coe h, ← EReal.coe_mul]; congr 1; field_simp

/-- The kernel's mean. -/
theorem kernelMean_real {n k : Nat} (hk : 0 < k) (p : Fin n → Prop) [DecidablePred p] (a : Fin n → ℝ) (b : Fin k → ℝ) (u : Fin n → ℝ) (w : Fin k → ℝ) :
    kernelMean (fun x => score (p x) (a x)) (fun m => (b m : EReal)) (fun x => (u x : EReal)) (fun m => (w m : EReal))
      = ((((∑ x, weight (p x) (a x) * u x) + ∑ m, Real.exp (b m) * w m) / ((∑ x, weight (p x) (a x)) + ∑ m, Real.exp (b m)) : ℝ) : EReal) := by
  have hM : ∃ M : ℝ, max (Finset.univ.fold max ⊥ (fun x => score (p x) (a x))) (Finset.univ.fold max ⊥ (fun m => (b m : EReal))) = (M : EReal) := by
    have h2 : ∃ M : ℝ, Finset.univ.fold max ⊥ (fun m => (b m : EReal)) = (M : EReal) := by
      have := fold_max_real Finset.univ (fun _ : Fin k => True) b ⟨0, hk⟩ (Finset.mem_univ _) trivial
      simpa [score] using this
    obtain ⟨N, h2⟩ := h2
    rcases fold_max_score Finset.univ p a with h1 | ⟨M, h1⟩ <;> rw [h1, h2]
    · exact ⟨N, by simp⟩
    · exact ⟨max M N, (EReal.coe_strictMono.monotone.map_max (a := M) (b := N)).symm⟩
  obtain ⟨M, hM⟩ := hM
  unfold kernelMean
  have eb : ∀ m, Ideal.exp ((b m : EReal) - (M : EReal)) = ((Real.exp (b m) * Real.exp (-M) : ℝ) : EReal) := fun m => by
    have := exp_score True (b m) M
    simpa [score, weight] using this
  simp only [hM, exp_score, eb, ← EReal.coe_mul, coe_sum, ← EReal.coe_add]
  have hD : 0 < (∑ x, weight (p x) (a x)) + ∑ m, Real.exp (b m) := by
    have h1 : 0 ≤ ∑ x, weight (p x) (a x) := Finset.sum_nonneg fun x _ => weight_nonneg _ _
    have h2 : 0 < ∑ m, Real.exp (b m) := Finset.sum_pos (fun m _ => Real.exp_pos _) ⟨⟨0, hk⟩, Finset.mem_univ _⟩
    linarith
  have hM0 : Real.exp (-M) ≠ 0 := (Real.exp_pos _).ne'
  have e1 : (∑ x, weight (p x) (a x) * Real.exp (-M) * u x) + ∑ m, Real.exp (b m) * Real.exp (-M) * w m
      = ((∑ x, weight (p x) (a x) * u x) + ∑ m, Real.exp (b m) * w m) * Real.exp (-M) := by
    rw [add_mul, Finset.sum_mul, Finset.sum_mul]
    congr 1 <;> exact Finset.sum_congr rfl fun _ _ => by ring
  have e2 : (∑ x, weight (p x) (a x) * Real.exp (-M)) + ∑ m, Real.exp (b m) * Real.exp (-M)
      = ((∑ x, weight (p x) (a x)) + ∑ m, Real.exp (b m)) * Real.exp (-M) := by
    rw [add_mul, Finset.sum_mul, Finset.sum_mul]
  rw [e1, e2, div_real (mul_ne_zero hD.ne' hM0), mul_div_mul_right _ _ hM0]

/-- The reference's probability of one key. -/
theorem probability_real {ι : Type*} [Fintype ι] (p : ι → Prop) [DecidablePred p] (a : ι → ℝ) (j : ι) (hj : p j) (i : ι) :
    Ideal.div (Ideal.exp (score (p i) (a i) - max ⊥ (Finset.univ.fold max ⊥ fun x => score (p x) (a x))))
        (∑ y, Ideal.exp (score (p y) (a y) - max ⊥ (Finset.univ.fold max ⊥ fun x => score (p x) (a x))))
      = ((weight (p i) (a i) / ∑ y, weight (p y) (a y) : ℝ) : EReal) := by
  obtain ⟨M, hM⟩ := fold_max_real Finset.univ p a j (Finset.mem_univ _) hj
  have hb : max ⊥ (M : EReal) = (M : EReal) := by simp
  rw [hM, hb]
  simp only [exp_score, coe_sum]
  have hD : 0 < ∑ y, weight (p y) (a y) :=
    Finset.sum_pos' (fun y _ => weight_nonneg _ _) ⟨j, Finset.mem_univ _, by simp [weight, hj, Real.exp_pos]⟩
  have hM0 : Real.exp (-M) ≠ 0 := (Real.exp_pos _).ne'
  rw [← Finset.sum_mul, div_real (mul_ne_zero hD.ne' hM0), mul_div_mul_right _ _ hM0]

end Cert.Attn
-- ==== Proof.Closed.lean ====
/- The result in real numbers: what both programs compute from finite arguments, written once. -/
module

public import proofs.«01_k».proof.Proof.Softmax

@[expose] public section

noncomputable section

namespace Cert.Attn

open Idealize.ShloMosaic Idealize.ShloMosaic.TcCoe

/-- Key column `k` lies in the sixteen columns of query column `q`. -/
abbrev ColIn (q k : Nat) : Prop := min (q - 8) 48 ≤ k ∧ k < min (q - 8) 48 + 16

/-- The key row of index `x` is one of the eight from `st`. -/
abbrev RowIn (st x : Nat) : Prop := st ≤ x / 64 ∧ x / 64 < st + 8

/-- The first key row of a query row. -/
def top (row : Nat) : Nat := min (row - 4) 248

variable (q c : Nat → Nat → Nat → ℝ) (rb : Nat → Nat → Nat → ℝ)

/-- The score of the key at row `kr` and column `kc`: the scaled product and the relative position bias. -/
def localScore (b row qc h kr kc : Nat) : ℝ :=
  (∑ e : Fin 64, q b (row * 64 + qc) (h * 64 + e.val) * q b (kr * 64 + kc) (2048 + h * 64 + e.val)) * (1 / 8) + rb h (kr + 7 - row) (kc + 15 - qc)

/-- The score of context key `m`. -/
def contextScore (b row qc h m : Nat) : ℝ :=
  (∑ e : Fin 64, q b (row * 64 + qc) (h * 64 + e.val) * c b m (2048 + h * 64 + e.val)) * (1 / 8)

/-- The weights, unnormalised. -/
def localWeight (b row qc h kj kc : Nat) : ℝ := weight (ColIn qc kc) (localScore q rb b row qc h (top row + kj) kc)

/-- Their sum. -/
def total (b row qc h : Nat) : ℝ :=
  (∑ kj : Fin 8, ∑ kc : Fin 64, localWeight q rb b row qc h kj.val kc.val) + ∑ m : Fin 256, Real.exp (contextScore q c b row qc h m.val)

/-- The weighted sum of the values. -/
def weighted (b row qc h d : Nat) : ℝ :=
  (∑ kj : Fin 8, ∑ kc : Fin 64, localWeight q rb b row qc h kj.val kc.val * q b ((top row + kj.val) * 64 + kc.val) (4096 + h * 64 + d))
    + ∑ m : Fin 256, Real.exp (contextScore q c b row qc h m.val) * c b m.val (4096 + h * 64 + d)

/-- The attention of head `h` at a query, component `d`. -/
def mean (b row qc h d : Nat) : ℝ := weighted q c rb b row qc h d / total q c rb b row qc h

/-- A sum over the rows and columns of a grid of `n` rows of 64. -/
theorem sum_grid {M : Type*} [AddCommMonoid M] (n : Nat) (f : Nat → M) :
    ∑ x : Fin (n * 64), f x.val = ∑ a : Fin n, ∑ k : Fin 64, f (a.val * 64 + k.val) := by
  rw [← finProdFinEquiv.sum_comp, Fintype.sum_prod_type]
  refine Finset.sum_congr rfl fun a _ => Finset.sum_congr rfl fun k _ => ?_
  congr 1
  show k.val + 64 * a.val = _
  omega

/-- A sum over the 768 keys: 8 rows of 64, then the context's 256. -/
theorem sum_keys {M : Type*} [AddCommMonoid M] (f : Nat → M) :
    ∑ x : Fin 768, f x.val = (∑ a : Fin 8, ∑ k : Fin 64, f (a.val * 64 + k.val)) + ∑ m : Fin 256, f (512 + m.val) := by
  rw [← sum_grid 8 f]
  exact Fin.sum_univ_add (a := 512) (b := 256) fun x => f x.val

/-- A sum over the 11 rows of a kernel's window, of which eight from row `st` are kept. -/
theorem sum_window (st : Nat) (hst : st ≤ 3) (f : Nat → Nat → ℝ) :
    ∑ x : Fin 704, (if RowIn st x.val then f (x.val / 64) (x.val % 64) else 0) = ∑ a : Fin 8, ∑ k : Fin 64, f (st + a.val) k.val := by
  have e := sum_grid 11 fun x => if RowIn st x then f (x / 64) (x % 64) else 0
  have e' : ∑ x : Fin 704, (if RowIn st x.val then f (x.val / 64) (x.val % 64) else 0)
      = ∑ a : Fin 11, ∑ k : Fin 64, (if st ≤ a.val ∧ a.val < st + 8 then f a.val k.val else 0) := by
    refine e.trans (Finset.sum_congr rfl fun a _ => Finset.sum_congr rfl fun k _ => ?_)
    have h1 : (a.val * 64 + k.val) / 64 = a.val := by omega
    have h2 : (a.val * 64 + k.val) % 64 = k.val := by omega
    simp only [RowIn, h1, h2]
  rw [e']
  have e2 : ∀ a : Fin 11, (∑ k : Fin 64, (if st ≤ a.val ∧ a.val < st + 8 then f a.val k.val else 0))
      = if st ≤ a.val ∧ a.val < st + 8 then ∑ k : Fin 64, f a.val k.val else 0 := by
    intro a; split_ifs <;> simp
  simp only [e2]
  generalize (fun a => ∑ k : Fin 64, f a k.val) = g at *
  have : st = 0 ∨ st = 1 ∨ st = 2 ∨ st = 3 := by omega
  rcases this with rfl | rfl | rfl | rfl <;> simp [Fin.sum_univ_succ] <;> ring

end Cert.Attn
-- ==== Proof.BiasMask.lean ====
/- The literals of the bias table: which key rows each variant's query rows may see. -/
module

public import proofs.«01_k».proof.Proof.BiasTable
public import proofs.«01_k».proof.Proof.Closed

@[expose] public section

set_option maxRecDepth 16384

noncomputable section

namespace Cert.Attn

open Idealize.ShloMosaic Idealize.ShloMosaic.TcCoe
open Cert.KernelIdeal Cert.KernelIdeal.Gen

theorem lit0_apply : ∀ x : Fin 704, lit0 x = if RowIn 0 x.val then 1#1 else 0#1 := by decide +kernel

theorem lit1_apply : ∀ x : Fin 704, lit1 x = if RowIn 0 x.val then 1#1 else 0#1 := by decide +kernel

theorem lit2_apply : ∀ x : Fin 704, lit2 x = if RowIn 0 x.val then 1#1 else 0#1 := by decide +kernel

theorem lit3_apply : ∀ x : Fin 704, lit3 x = if RowIn 0 x.val then 1#1 else 0#1 := by decide +kernel

theorem lit4_apply : ∀ x : Fin 704, lit4 x = if RowIn 0 x.val then 1#1 else 0#1 := by decide +kernel

theorem lit5_apply : ∀ x : Fin 704, lit5 x = if RowIn 1 x.val then 1#1 else 0#1 := by decide +kernel

theorem lit6_apply : ∀ x : Fin 704, lit6 x = if RowIn 2 x.val then 1#1 else 0#1 := by decide +kernel

theorem lit7_apply : ∀ x : Fin 704, lit7 x = if RowIn 3 x.val then 1#1 else 0#1 := by decide +kernel

theorem lit8_apply : ∀ x : Fin 704, lit8 x = if RowIn 3 x.val then 1#1 else 0#1 := by decide +kernel

theorem lit9_apply : ∀ x : Fin 704, lit9 x = if RowIn 3 x.val then 1#1 else 0#1 := by decide +kernel

theorem lit10_apply : ∀ x : Fin 704, lit10 x = if RowIn 3 x.val then 1#1 else 0#1 := by decide +kernel

theorem lit11_apply : ∀ x : Fin 704, lit11 x = if RowIn 3 x.val then 1#1 else 0#1 := by decide +kernel

end Cert.Attn
-- ==== Proof.BiasValue.lean ====
/- The bias table entry by entry: the relative position bias where the key is in the query's neighbourhood, and −∞
   elsewhere. -/
module

public import proofs.«01_k».proof.Proof.BiasMask
public import proofs.«01_k».proof.Proof.Closed

@[expose] public section

set_option maxRecDepth 16384

noncomputable section

namespace Cert.Attn

open Idealize.ShloMosaic Idealize.ShloMosaic.TcCoe
open Cert.KernelIdeal Cert.KernelIdeal.Gen

theorem inWindow_apply (q k : Fin 64) : inWindow (ix2 q k) = if ColIn q.val k.val then 1#1 else 0#1 := by
  pointwise [inWindow, colStart]
  revert q k; decide +kernel

theorem colOffset_apply (q k : Fin 64) : colOffset (ix2 q k) = BitVec.ofNat 32 (min (k.val + 30 - q.val) 45 - 15) := by
  pointwise [colOffset]
  revert q k; decide +kernel

theorem ofBits_negInf : Ideal.ofBits .f32 4286578688#32 = ⊥ := ofBits_bot

theorem oneHot_apply (o : Fin 31) (q k : Fin 64) (h : ColIn q.val k.val) :
    oneHot (ix3 o q k) = if o.val = k.val + 15 - q.val then (1 : EReal) else 0 := by
  have e : IntOp.cmpi .eq (BitVec.ofNat 32 (min (k.val + 30 - q.val) 45 - 15)) (BitVec.ofNat 32 o.val)
      = if o.val = k.val + 15 - q.val then 1#1 else 0#1 := by
    have h1 : min (k.val + 30 - q.val) 45 - 15 = k.val + 15 - q.val := by omega
    rw [h1]
    show BitVec.ofBool (decide _) = _
    by_cases ho : o.val = k.val + 15 - q.val
    · simp [ho]
    · have : BitVec.ofNat 32 (k.val + 15 - q.val) ≠ BitVec.ofNat 32 o.val := by
        intro hh
        have := congrArg BitVec.toNat hh
        simp only [BitVec.toNat_ofNat] at this
        omega
      simp [ho, this]
  pointwise [oneHot]
  rw [colOffset_apply, e]
  split_ifs <;> simp [FloatOps.uitofp]

theorem rowTable4_apply (R : FVec Ideal S32x15x31 .f32) (rn : Fin 32 → Nat → Nat → ℝ) (hR : ∀ h (r : Fin 15) (c : Fin 31), R (ix3 h r c) = (rn h r.val c.val : EReal))
    (h : Fin 32) (q : Fin 64) (r : Fin 15) (k : Fin 64) :
    rowTable4 R (ix4 h q r k) = if ColIn q.val k.val then (rn h r.val (k.val + 15 - q.val) : EReal) else ⊥ := by
  pointwise [rowTable4]
  rw [inWindow_apply, ofBits_negInf]
  by_cases hc : ColIn q.val k.val
  · rw [if_pos hc, if_pos hc]
    have hl : k.val + 15 - q.val < 31 := by omega
    rw [Finset.sum_eq_single ⟨k.val + 15 - q.val, hl⟩]
    · rw [oneHot_apply _ _ _ hc, hR]; simp; rfl
    · intro b _ hb
      rw [oneHot_apply _ _ _ hc, if_neg (fun hh => hb (Fin.ext hh)), zero_mul]
    · intro hh; exact absurd (Finset.mem_univ _) hh
  · rw [if_neg hc, if_neg hc]; rfl

theorem padded_apply (R : FVec Ideal S32x15x31 .f32) (rn : Fin 32 → Nat → Nat → ℝ) (hR : ∀ h (r : Fin 15) (c : Fin 31), R (ix3 h r c) = (rn h r.val c.val : EReal))
    (h : Fin 32) (q : Fin 64) (x : Fin 2432) (hx : 704 ≤ x.val ∧ x.val - 704 < 960) :
    padded R (ix3 h q x) = if ColIn q.val (x.val % 64) then (rn h ((x.val - 704) / 64) (x.val % 64 + 15 - q.val) : EReal) else ⊥ := by
  pointwise [padded]
  rw [dif_pos hx, rowTable4_apply R rn hR]
  have e : (x.val - 704) % 64 = x.val % 64 := by omega
  simp only [e]

theorem piece_apply (k : Vec Ideal S704 .i1) (s : Nat) (P : FVec Ideal S32x64x2432 .f32) (hs : S32x64x2432.Slices ![0, 0, s] S32x64x704) (h : Fin 32) (q : Fin 64) (x : Fin 704) (hx : s + x.val < 2432) :
    piece k s P hs (ix3 h q x) = if k (ix1 x) = 1#1 then P (ix3 h q ⟨s + x.val, hx⟩) else ⊥ := by
  pointwise [piece]
  rw [ofBits_negInf]
  rfl

theorem piece_value (k : Vec Ideal S704 .i1) (s t st : Nat) (R : FVec Ideal S32x15x31 .f32) (rn : Fin 32 → Nat → Nat → ℝ)
    (hR : ∀ h (r : Fin 15) (c : Fin 31), R (ix3 h r c) = (rn h r.val c.val : EReal))
    (hs : S32x64x2432.Slices ![0, 0, s] S32x64x704) (hk : ∀ x : Fin 704, k (ix1 x) = if RowIn st x.val then 1#1 else 0#1)
    (e : s = 64 * t) (h1 : 11 ≤ st + t) (h2 : st + t ≤ 18) (h3 : t ≤ 18) (h : Fin 32) (q : Fin 64) (x : Fin 704) :
    piece k s (padded R) hs (ix3 h q x)
      = if RowIn st x.val ∧ ColIn q.val (x.val % 64) then (rn h (x.val / 64 + t - 11) (x.val % 64 + 15 - q.val) : EReal) else ⊥ := by
  have hx : s + x.val < 2432 := by have := x.isLt; omega
  rw [piece_apply k s _ hs h q x hx, hk]
  by_cases hr : RowIn st x.val
  · have hp : 704 ≤ s + x.val ∧ s + x.val - 704 < 960 := by have := x.isLt; unfold RowIn at hr; omega
    rw [if_pos (by rw [if_pos hr]), padded_apply R rn hR _ _ _ hp]
    have e1 : (s + x.val) % 64 = x.val % 64 := by omega
    have e2 : (s + x.val - 704) / 64 = x.val / 64 + t - 11 := by omega
    simp only [e1, e2]
    exact if_congr ⟨fun hh => ⟨hr, hh⟩, fun hh => hh.2⟩ rfl rfl
  · rw [if_neg (by rw [if_neg hr]; decide), if_neg (fun hh => hr hh.1)]

theorem quad_apply (p0 p1 p2 p3 : FVec Ideal S32x64x704 .f32) (ri : Fin 4) (n : Fin 16) (hd : Fin 2) (q : Fin 64) (x : Fin 704) :
    quad p0 p1 p2 p3 (ix5 ri n hd q x)
      = if ri.val < 1 then p0 (ix3 ⟨n.val * 2 + hd.val, by omega⟩ q x)
        else if ri.val - 1 < 1 then p1 (ix3 ⟨n.val * 2 + hd.val, by omega⟩ q x)
        else if ri.val - 1 - 1 < 1 then p2 (ix3 ⟨n.val * 2 + hd.val, by omega⟩ q x)
        else p3 (ix3 ⟨n.val * 2 + hd.val, by omega⟩ q x) := by
  pointwise [quad]
  split_ifs <;> first | rfl | contradiction

theorem stack_apply (A B C : FVec Ideal S4x16x2x64x704 .f32) (v : Fin 3) (ri : Fin 4) (n : Fin 16) (hd : Fin 2) (q : Fin 64) (x : Fin 704) :
    concatenate S3x4x16x2x64x704 0 [⟨S1x4x16x2x64x704, broadcastInDim S1x4x16x2x64x704 ![1, 2, 3, 4, 5] bcast_S4x16x2x64x704_S1x4x16x2x64x704_1_2_3_4_5 A⟩, ⟨S1x4x16x2x64x704, broadcastInDim S1x4x16x2x64x704 ![1, 2, 3, 4, 5] bcast_S4x16x2x64x704_S1x4x16x2x64x704_1_2_3_4_5 B⟩, ⟨S1x4x16x2x64x704, broadcastInDim S1x4x16x2x64x704 ![1, 2, 3, 4, 5] bcast_S4x16x2x64x704_S1x4x16x2x64x704_1_2_3_4_5 C⟩] concatenates_S1x4x16x2x64x704_S1x4x16x2x64x704_S1x4x16x2x64x704_S3x4x16x2x64x704_d0 (ix6 v ri n hd q x)
      = if v.val < 1 then A (ix5 ri n hd q x) else if v.val - 1 < 1 then B (ix5 ri n hd q x) else C (ix5 ri n hd q x) := by
  pointwise
  split_ifs <;> first | rfl | contradiction

theorem biasTable_apply (k : Fin 12 → Vec Ideal S704 .i1) (P : FVec Ideal S32x64x2432 .f32) (v : Fin 3) (ri : Fin 4) (n : Fin 16) (hd : Fin 2) (q : Fin 64) (x : Fin 704) :
    biasTable k P (ix6 v ri n hd q x)
      = if v.val < 1 then quad (piece (k 0) 1152 P slices_S32x64x2432_S32x64x704_0_0_1152) (piece (k 1) 1088 P slices_S32x64x2432_S32x64x704_0_0_1088) (piece (k 2) 1024 P slices_S32x64x2432_S32x64x704_0_0_1024) (piece (k 3) 960 P slices_S32x64x2432_S32x64x704_0_0_960) (ix5 ri n hd q x)
        else if v.val - 1 < 1 then quad (piece (k 4) 896 P slices_S32x64x2432_S32x64x704_0_0_896) (piece (k 5) 832 P slices_S32x64x2432_S32x64x704_0_0_832) (piece (k 6) 768 P slices_S32x64x2432_S32x64x704_0_0_768) (piece (k 7) 704 P slices_S32x64x2432_S32x64x704_0_0_704) (ix5 ri n hd q x)
        else quad (piece (k 8) 704 P slices_S32x64x2432_S32x64x704_0_0_704) (piece (k 9) 640 P slices_S32x64x2432_S32x64x704_0_0_640) (piece (k 10) 576 P slices_S32x64x2432_S32x64x704_0_0_576) (piece (k 11) 512 P slices_S32x64x2432_S32x64x704_0_0_512) (ix5 ri n hd q x) := by
  exact stack_apply _ _ _ v ri n hd q x

/-- The first of the eight key rows, from the window's first: by the block's variant and the query row. -/
def startOf (v ri : Nat) : Nat := if v = 0 then 0 else if v = 1 then ri else 3

/-- The row of the bias that a query row's first key row would read were the query row the block's first. -/
def baseOf (v : Nat) : Nat := if v = 0 then 7 else if v = 1 then 3 else 0

theorem rowMajor_ix1 (x : Fin 704) : S704.rowMajor (ix1 x) = x := by
  exact Fin.ext (Shape.rowMajor_val_one _)

theorem biasTable_value (R : FVec Ideal S32x15x31 .f32) (rn : Fin 32 → Nat → Nat → ℝ)
    (hR : ∀ h (r : Fin 15) (c : Fin 31), R (ix3 h r c) = (rn h r.val c.val : EReal))
    (v : Fin 3) (ri : Fin 4) (n : Fin 16) (hd : Fin 2) (q : Fin 64) (x : Fin 704) :
    biasTable (fun k i => mask k (S704.rowMajor i)) (padded R) (ix6 v ri n hd q x)
      = if RowIn (startOf v.val ri.val) x.val ∧ ColIn q.val (x.val % 64)
        then (rn ⟨n.val * 2 + hd.val, by omega⟩ (x.val / 64 + baseOf v.val - ri.val) (x.val % 64 + 15 - q.val) : EReal) else ⊥ := by
  rw [biasTable_apply]
  have go : ∀ (k : Vec Ideal S704 .i1) (s t st : Nat) (hs : S32x64x2432.Slices ![0, 0, s] S32x64x704)
      (hk : ∀ x : Fin 704, k (ix1 x) = if RowIn st x.val then 1#1 else 0#1)
      (e : s = 64 * t) (h1 : 11 ≤ st + t) (h2 : st + t ≤ 18) (h3 : t ≤ 18) (e1 : startOf v.val ri.val = st) (e2 : baseOf v.val + 11 = t + ri.val),
      piece k s (padded R) hs (ix3 ⟨n.val * 2 + hd.val, by omega⟩ q x) = if RowIn (startOf v.val ri.val) x.val ∧ ColIn q.val (x.val % 64)
        then (rn ⟨n.val * 2 + hd.val, by omega⟩ (x.val / 64 + baseOf v.val - ri.val) (x.val % 64 + 15 - q.val) : EReal) else ⊥ := by
    intro k s t st hs hk e h1 h2 h3 e1 e2
    rw [piece_value k s t st R rn hR hs hk e h1 h2 h3, e1]
    have e3 : x.val / 64 + t - 11 = x.val / 64 + baseOf v.val - ri.val := by omega
    rw [e3]
  rw [quad_apply, quad_apply, quad_apply]
  have hv := v.isLt
  have hr := ri.isLt
  by_cases v0 : v.val < 1
  · rw [if_pos v0]
    by_cases r0 : ri.val < 1
    · rw [if_pos r0]; exact go _ 1152 18 0 _ (fun x => (congrArg lit0 (rowMajor_ix1 x)).trans (lit0_apply x)) rfl (by decide) (by decide) (by decide) (by unfold startOf; split_ifs <;> omega) (by unfold baseOf; split_ifs <;> omega)
    rw [if_neg r0]
    by_cases r1 : ri.val - 1 < 1
    · rw [if_pos r1]; exact go _ 1088 17 0 _ (fun x => (congrArg lit1 (rowMajor_ix1 x)).trans (lit1_apply x)) rfl (by decide) (by decide) (by decide) (by unfold startOf; split_ifs <;> omega) (by unfold baseOf; split_ifs <;> omega)
    rw [if_neg r1]
    by_cases r2 : ri.val - 1 - 1 < 1
    · rw [if_pos r2]; exact go _ 1024 16 0 _ (fun x => (congrArg lit2 (rowMajor_ix1 x)).trans (lit2_apply x)) rfl (by decide) (by decide) (by decide) (by unfold startOf; split_ifs <;> omega) (by unfold baseOf; split_ifs <;> omega)
    rw [if_neg r2]
    exact go _ 960 15 0 _ (fun x => (congrArg lit3 (rowMajor_ix1 x)).trans (lit3_apply x)) rfl (by decide) (by decide) (by decide) (by unfold startOf; split_ifs <;> omega) (by unfold baseOf; split_ifs <;> omega)
  rw [if_neg v0]
  by_cases v1 : v.val - 1 < 1
  · rw [if_pos v1]
    by_cases r0 : ri.val < 1
    · rw [if_pos r0]; exact go _ 896 14 0 _ (fun x => (congrArg lit4 (rowMajor_ix1 x)).trans (lit4_apply x)) rfl (by decide) (by decide) (by decide) (by unfold startOf; split_ifs <;> omega) (by unfold baseOf; split_ifs <;> omega)
    rw [if_neg r0]
    by_cases r1 : ri.val - 1 < 1
    · rw [if_pos r1]; exact go _ 832 13 1 _ (fun x => (congrArg lit5 (rowMajor_ix1 x)).trans (lit5_apply x)) rfl (by decide) (by decide) (by decide) (by unfold startOf; split_ifs <;> omega) (by unfold baseOf; split_ifs <;> omega)
    rw [if_neg r1]
    by_cases r2 : ri.val - 1 - 1 < 1
    · rw [if_pos r2]; exact go _ 768 12 2 _ (fun x => (congrArg lit6 (rowMajor_ix1 x)).trans (lit6_apply x)) rfl (by decide) (by decide) (by decide) (by unfold startOf; split_ifs <;> omega) (by unfold baseOf; split_ifs <;> omega)
    rw [if_neg r2]
    exact go _ 704 11 3 _ (fun x => (congrArg lit7 (rowMajor_ix1 x)).trans (lit7_apply x)) rfl (by decide) (by decide) (by decide) (by unfold startOf; split_ifs <;> omega) (by unfold baseOf; split_ifs <;> omega)
  rw [if_neg v1]
  by_cases r0 : ri.val < 1
  · rw [if_pos r0]; exact go _ 704 11 3 _ (fun x => (congrArg lit8 (rowMajor_ix1 x)).trans (lit8_apply x)) rfl (by decide) (by decide) (by decide) (by unfold startOf; split_ifs <;> omega) (by unfold baseOf; split_ifs <;> omega)
  rw [if_neg r0]
  by_cases r1 : ri.val - 1 < 1
  · rw [if_pos r1]; exact go _ 640 10 3 _ (fun x => (congrArg lit9 (rowMajor_ix1 x)).trans (lit9_apply x)) rfl (by decide) (by decide) (by decide) (by unfold startOf; split_ifs <;> omega) (by unfold baseOf; split_ifs <;> omega)
  rw [if_neg r1]
  by_cases r2 : ri.val - 1 - 1 < 1
  · rw [if_pos r2]; exact go _ 576 9 3 _ (fun x => (congrArg lit10 (rowMajor_ix1 x)).trans (lit10_apply x)) rfl (by decide) (by decide) (by decide) (by unfold startOf; split_ifs <;> omega) (by unfold baseOf; split_ifs <;> omega)
  rw [if_neg r2]
  exact go _ 512 8 3 _ (fun x => (congrArg lit11 (rowMajor_ix1 x)).trans (lit11_apply x)) rfl (by decide) (by decide) (by decide) (by unfold startOf; split_ifs <;> omega) (by unfold baseOf; split_ifs <;> omega)

end Cert.Attn
-- ==== Proof.KernelValue.lean ====
/- The kernel's result in real numbers, from finite arguments. -/
module

public import proofs.«01_k».proof.Proof.Array
public import proofs.«01_k».proof.Proof.BiasValue

@[expose] public section

set_option maxRecDepth 16384
set_option backward.isDefEq.respectTransparency false

noncomputable section

namespace Cert.Attn

open Idealize.ShloMosaic Idealize.ShloMosaic.TcCoe
open Cert.KernelIdeal Cert.KernelIdeal.Gen

variable (Q : S2x16384x6144.Idx → EReal) (C : S2x256x6144.Idx → EReal) (R : S32x15x31.Idx → EReal)
variable (qn cn rb : Nat → Nat → Nat → ℝ)
variable (hQ : ∀ (b : Fin 2) (i : Fin 16384) (j : Fin 6144), Q (ix3 b i j) = (qn b.val i.val j.val : EReal))
variable (hC : ∀ (b : Fin 2) (i : Fin 256) (j : Fin 6144), C (ix3 b i j) = (cn b.val i.val j.val : EReal))
variable (hR : ∀ (h : Fin 32) (i : Fin 15) (j : Fin 31), R (ix3 h i j) = (rb h.val i.val j.val : EReal))

/-- The bias table the host makes of `R`. -/
abbrev hostBias : S3x4x16x2x64x704.Idx → EReal := biasTable (fun k i => mask k (S704.rowMajor i)) (padded R)

/-- The rows of a window's queries, relative to it: where the eight rows of query row `4 j + ri` start. -/
theorem start_le (v : Nat) (ri : Fin 4) : startOf v ri ≤ 3 := by
  unfold startOf; split_ifs <;> omega

theorem window_top (j : Fin 64) (ri : Fin 4) :
    firstRow j + startOf (variant j) ri = top (4 * j.val + ri.val) := by
  revert j ri; decide +kernel

theorem window_base (j : Fin 64) (ri : Fin 4) (a : Fin 8) :
    startOf (variant j) ri + a.val + baseOf (variant j) - ri.val
      = top (4 * j.val + ri.val) + a.val + 7 - (4 * j.val + ri.val) := by
  revert j ri a; decide +kernel

/-- A kernel score is the masked real score. -/
theorem add_mask (p : Prop) [Decidable p] (s t : ℝ) : (s : EReal) + (if p then (t : EReal) else ⊥) = score p (s + t) := by
  unfold score
  split_ifs
  · rw [EReal.coe_add]
  · exact EReal.add_bot _

/-- The kernel's score of key `kk` of a window's 704. -/
def windowScore (b j ri qc h fr base kk : Nat) : ℝ :=
  (∑ e : Fin 64, qn b ((4 * j + ri) * 64 + qc) (h * 64 + e.val) * qn b ((fr + kk / 64) * 64 + kk % 64) (2048 + h * 64 + e.val)) * (1 / 8)
    + rb h (kk / 64 + base - ri) (kk % 64 + 15 - qc)

theorem sum_eighth (f g : Fin 64 → ℝ) :
    (∑ e : Fin 64, (f e : EReal) * ((1 / 8 : ℝ) : EReal) * (g e : EReal)) = (((∑ e : Fin 64, f e * g e) * (1 / 8) : ℝ) : EReal) := by
  simp only [← EReal.coe_mul, coe_sum]
  congr 1
  rw [Finset.sum_mul]
  exact Finset.sum_congr rfl fun e _ => by ring

/-- A window's masked sum, over the keys of the query's own eight rows. -/
theorem sum_weight (st : Nat) (hst : st ≤ 3) (P : Nat → Prop) [DecidablePred P] (a u : Nat → Nat → ℝ) :
    (∑ x : Fin 704, weight (RowIn st x.val ∧ P (x.val % 64)) (a (x.val / 64) (x.val % 64)) * u (x.val / 64) (x.val % 64))
      = ∑ kj : Fin 8, ∑ kc : Fin 64, weight (P kc.val) (a (st + kj.val) kc.val) * u (st + kj.val) kc.val := by
  refine Eq.trans ?_ (sum_window st hst fun r k => weight (P k) (a r k) * u r k)
  refine Finset.sum_congr rfl fun x _ => ?_
  unfold weight
  by_cases h1 : RowIn st x.val
  · rw [if_pos h1]
    by_cases h2 : P (x.val % 64)
    · rw [if_pos ⟨h1, h2⟩, if_pos h2]
    · rw [if_neg (fun h => h2 h.2), if_neg h2]
  · rw [if_neg (fun h => h1 h.1), if_neg h1, zero_mul]

include hQ hC hR in
theorem pointOut_real (b : Fin 2) (j : Fin 64) (r : Fin 256) (h : Fin 32) (d : Fin 64) :
    pointOut Q C (hostBias R) b j (ix3 0 r (headCol h d))
      = ((mean qn cn rb b.val (4 * j.val + r.val / 64) (r.val % 64) h.val d.val : ℝ) : EReal) := by
  unfold pointOut
  rw [windowOut_apply]
  have eQ : ∀ e : Fin 64, qBlk Q b j (ix3 0 r (headCol h e)) = (qn b.val ((4 * j.val + r.val / 64) * 64 + r.val % 64) (h.val * 64 + e.val) : EReal) := by
    intro e
    refine (hQ b _ _).trans ?_
    congr 2
    · show 256 * j.val + r.val = _; omega
    · show 64 * h.val + e.val = _; omega
  have eK : ∀ (s : Fin 2) (kk : Fin 704) (e : Fin 64), kBlk Q s b j (ix3 0 kk (headCol h e))
      = (qn b.val ((firstRow j + kk.val / 64) * 64 + kk.val % 64) (2048 + 2048 * s.val + (h.val * 64 + e.val)) : EReal) := by
    intro s kk e
    refine (hQ b _ _).trans ?_
    congr 2
    · show firstRow j * 64 + kk.val = _; omega
    · show 2048 + 2048 * s.val + (64 * h.val + e.val) = _; omega
  have eC : ∀ (s : Fin 2) (m : Fin 256) (e : Fin 64), cBlk C s b (ix3 0 m (headCol h e))
      = (cn b.val m.val (2048 + 2048 * s.val + (h.val * 64 + e.val)) : EReal) := by
    intro s m e
    refine (hC b _ _).trans ?_
    congr 2
    show 2048 + 2048 * s.val + (64 * h.val + e.val) = _; omega
  have eB : ∀ kk : Fin 704, bBlk (hostBias R) j (ix6 0 ⟨r.val / 64, by omega⟩ ⟨h.val / 2, by omega⟩ ⟨h.val % 2, by omega⟩ ⟨r.val % 64, Nat.mod_lt _ (by norm_num)⟩ kk)
      = if RowIn (startOf (variant j) (r.val / 64)) kk.val ∧ ColIn (r.val % 64) (kk.val % 64)
        then (rb h.val (kk.val / 64 + baseOf (variant j) - r.val / 64) (kk.val % 64 + 15 - r.val % 64) : EReal) else ⊥ := by
    intro kk
    refine (biasTable_value R (fun h => rb h.val) hR ⟨variant j, variant_lt j⟩ ⟨r.val / 64, by omega⟩ ⟨h.val / 2, by omega⟩ ⟨h.val % 2, by omega⟩ ⟨r.val % 64, Nat.mod_lt _ (by norm_num)⟩ kk).trans ?_
    have eh : h.val / 2 * 2 + h.val % 2 = h.val := by omega
    simp only [eh]
  simp only [eQ, eK, eC, eB, sum_eighth, add_mask]
  have hs := start_le (variant j) ⟨r.val / 64, by omega⟩
  have ht := window_top j ⟨r.val / 64, by omega⟩
  have hb := window_base j ⟨r.val / 64, by omega⟩
  simp only at ht hb
  generalize startOf (variant j) (r.val / 64) = st at *
  generalize baseOf (variant j) = base at *
  refine (kernelMean_real (by norm_num) _ _ _ _ _).trans ?_
  congr 1
  unfold mean weighted total
  have hw := sum_weight st hs (ColIn (r.val % 64))
    (fun kr kc => (∑ e : Fin 64, qn b.val ((4 * j.val + r.val / 64) * 64 + r.val % 64) (h.val * 64 + e.val) * qn b.val ((firstRow j + kr) * 64 + kc) (2048 + 2048 * 0 + (h.val * 64 + e.val))) * (1 / 8)
      + rb h.val (kr + base - r.val / 64) (kc + 15 - r.val % 64))
  have hv := hw fun kr kc => qn b.val ((firstRow j + kr) * 64 + kc) (2048 + 2048 * 1 + (h.val * 64 + d.val))
  have h1 := hw fun _ _ => 1
  simp only [mul_one] at h1
  have key : ∀ (kj : Fin 8) (kc : Fin 64),
      weight (ColIn (r.val % 64) kc.val) ((∑ e : Fin 64, qn b.val ((4 * j.val + r.val / 64) * 64 + r.val % 64) (h.val * 64 + e.val) * qn b.val ((firstRow j + (st + kj.val)) * 64 + kc.val) (2048 + 2048 * 0 + (h.val * 64 + e.val))) * (1 / 8)
      + rb h.val (st + kj.val + base - r.val / 64) (kc.val + 15 - r.val % 64))
      = localWeight qn rb b.val (4 * j.val + r.val / 64) (r.val % 64) h.val kj.val kc.val := by
    intro kj kc
    unfold localWeight localScore
    rw [hb kj, ← Nat.add_assoc, ht]
    simp only [Nat.mul_zero, Nat.add_zero, Nat.add_assoc]
  have val : ∀ (kj : Fin 8) (kc : Fin 64), qn b.val ((firstRow j + (st + kj.val)) * 64 + kc.val) (2048 + 2048 * 1 + (h.val * 64 + d.val))
      = qn b.val ((top (4 * j.val + r.val / 64) + kj.val) * 64 + kc.val) (4096 + h.val * 64 + d.val) := by
    intro kj kc
    rw [← Nat.add_assoc (firstRow j), ht]
    congr 1
    omega
  have ctx : ∀ m : Fin 256, (∑ e : Fin 64, qn b.val ((4 * j.val + r.val / 64) * 64 + r.val % 64) (h.val * 64 + e.val) * cn b.val m.val (2048 + 2048 * 0 + (h.val * 64 + e.val))) * (1 / 8)
      = contextScore qn cn b.val (4 * j.val + r.val / 64) (r.val % 64) h.val m.val := by
    intro m
    unfold contextScore
    simp only [Nat.mul_zero, Nat.add_zero, Nat.add_assoc]
  have cval : ∀ m : Fin 256, cn b.val m.val (2048 + 2048 * 1 + (h.val * 64 + d.val)) = cn b.val m.val (4096 + h.val * 64 + d.val) := by
    intro m; congr 1; omega
  simp only [key, val] at hv h1
  simp only [Fin.val_zero, Fin.val_one, ctx, cval]
  refine congrArg₂ (· / ·) (congrArg (· + _) ?_) (congrArg (· + _) ?_)
  · exact hv
  · exact h1

include hQ hC hR in
/-- The kernel's result. -/
theorem attnOut_real (b : Fin 2) (i : Fin 16384) (j : Fin 2048) :
    attnOut Q C (hostBias R) (ix3 b i j) = ((mean qn cn rb b.val (i.val / 64) (i.val % 64) (j.val / 64) (j.val % 64) : ℝ) : EReal) := by
  refine (attnOut_at Q C (hostBias R) (ix3 b i j) b ⟨i.val / 256, by omega⟩
    (ix3 0 ⟨i.val % 256, Nat.mod_lt _ (by norm_num)⟩ (headCol ⟨j.val / 64, by omega⟩ ⟨j.val % 64, by omega⟩)) rfl ?_ ?_).trans ?_
  · show i.val = 256 * (i.val / 256) + i.val % 256; omega
  · show j.val = 64 * (j.val / 64) + j.val % 64; omega
  refine (pointOut_real Q C R qn cn rb hQ hC hR b _ _ _ _).trans ?_
  have e1 : 4 * (i.val / 256) + i.val % 256 / 64 = i.val / 64 := by omega
  have e2 : i.val % 256 % 64 = i.val % 64 := by omega
  simp only [e1, e2]

end Cert.Attn
-- ==== Proof.RefTerm.lean ====
/- The reference's result as a function of its three arguments, stage by stage: the same operations as the reference
   program's, each intermediate array under a name. -/
module

public import proofs.«01_k».proof.Proof.Gen.ReferenceIdeal.Run
public import Idealize.ShloMosaic.Lib.Pointwise

@[expose] public section

set_option maxRecDepth 16384
set_option backward.isDefEq.respectTransparency false

noncomputable section

namespace Cert.Ref

open Idealize.ShloMosaic Idealize.ShloMosaic.TcCoe
open Cert.ReferenceIdeal Cert.ReferenceIdeal.Gen

/-- The latent tokens' projections, split into queries, keys and values by head. -/
def latent (x : FVec Ideal S2x16384x6144 .bf16) : FVec Ideal S2x16384x3x32x64 .f32 :=
  shapeCast _ (extf .f32 x bitsLt_bf16_f32) shapeCasts_S2x16384x6144_S2x16384x3x32x64

/-- The context tokens' projections. -/
def context (c : FVec Ideal S2x256x6144 .bf16) : FVec Ideal S2x256x3x32x64 .f32 :=
  shapeCast _ (extf .f32 c bitsLt_bf16_f32) shapeCasts_S2x256x6144_S2x256x3x32x64

/-- The queries on the grid. -/
def queries (x : FVec Ideal S2x16384x6144 .bf16) : FVec Ideal S2x256x64x32x64 .f32 :=
  shapeCast _ (shapeCast _ (extractStridedSlice S2x16384x1x32x64 ![0, 0, 0, 0, 0] (latent x) slices_S2x16384x3x32x64_S2x16384x1x32x64_0_0_0_0_0) shapeCasts_S2x16384x1x32x64_S2x16384x32x64) shapeCasts_S2x16384x32x64_S2x256x64x32x64

/-- The keys on the grid. -/
def keys (x : FVec Ideal S2x16384x6144 .bf16) : FVec Ideal S2x256x64x32x64 .f32 :=
  shapeCast _ (shapeCast _ (extractStridedSlice S2x16384x1x32x64 ![0, 0, 1, 0, 0] (latent x) slices_S2x16384x3x32x64_S2x16384x1x32x64_0_0_1_0_0) shapeCasts_S2x16384x1x32x64_S2x16384x32x64) shapeCasts_S2x16384x32x64_S2x256x64x32x64

/-- The values on the grid. -/
def values (x : FVec Ideal S2x16384x6144 .bf16) : FVec Ideal S2x256x64x32x64 .f32 :=
  shapeCast _ (shapeCast _ (extractStridedSlice S2x16384x1x32x64 ![0, 0, 2, 0, 0] (latent x) slices_S2x16384x3x32x64_S2x16384x1x32x64_0_0_2_0_0) shapeCasts_S2x16384x1x32x64_S2x16384x32x64) shapeCasts_S2x16384x32x64_S2x256x64x32x64

/-- The context's keys. -/
def contextKeys (c : FVec Ideal S2x256x6144 .bf16) : FVec Ideal S2x256x32x64 .f32 :=
  shapeCast _ (extractStridedSlice S2x256x1x32x64 ![0, 0, 1, 0, 0] (context c) slices_S2x256x3x32x64_S2x256x1x32x64_0_0_1_0_0) shapeCasts_S2x256x1x32x64_S2x256x32x64

/-- The context's values. -/
def contextValues (c : FVec Ideal S2x256x6144 .bf16) : FVec Ideal S2x256x32x64 .f32 :=
  shapeCast _ (extractStridedSlice S2x256x1x32x64 ![0, 0, 2, 0, 0] (context c) slices_S2x256x3x32x64_S2x256x1x32x64_0_0_2_0_0) shapeCasts_S2x256x1x32x64_S2x256x32x64

/-- The key column of each pair of columns. -/
def keyCol : Vec Ideal S64x64 .i32 :=
  broadcastInDim S64x64 ![0, 1] bcast_S1x64_S64x64_0_1 (broadcastInDim S1x64 ![1] bcast_S64_S1x64_1 (iotaInDim S64 32 0))

/-- The first key column of each query column. -/
def colStart : Vec Ideal S64x1 .i32 :=
  broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))

/-- The key rows of each query row. -/
def keyRow : Vec Ideal S256x8 .i32 :=
  addi (broadcastInDim S256x8 ![0, 1] bcast_S256x1_S256x8_0_1 (broadcastInDim S256x1 ![0] bcast_S256_S256x1_0 (minsi (broadcastInDim S256 ![] bcast_S_S256 (id (constantI S_ 32 248#32))) (maxsi (broadcastInDim S256 ![] bcast_S_S256 (id (constantI S_ 32 0#32))) (subi (iotaInDim S256 32 0) (broadcastInDim S256 ![] bcast_S_S256 (constantI S_ 32 4#32))))))) (broadcastInDim S256x8 ![0, 1] bcast_S1x8_S256x8_0_1 (broadcastInDim S1x8 ![1] bcast_S8_S1x8_1 (iotaInDim S8 32 0)))

/-- The same, a negative row counted from the end. -/
def rowIndex : Vec Ideal S256x8x1 .i32 :=
  broadcastInDim S256x8x1 ![0, 1] bcast_S256x8_S256x8x1_0_1 (select (cmpi .slt keyRow (broadcastInDim S256x8 ![] bcast_S_S256x8 (constantI S_ 32 0#32))) (addi keyRow (broadcastInDim S256x8 ![] bcast_S_S256x8 (constantI S_ 32 256#32))) keyRow)

/-- The bias row of each query row and key row. -/
def biasRow : Vec Ideal S256x1x8x1 .i32 :=
  broadcastInDim S256x1x8x1 ![0, 2] bcast_S256x8_S256x1x8x1_0_2 (addi (subi keyRow (broadcastInDim S256x8 ![0, 1] bcast_S256x1_S256x8_0_1 (broadcastInDim S256x1 ![0] bcast_S256_S256x1_0 (iotaInDim S256 32 0)))) (broadcastInDim S256x8 ![] bcast_S_S256x8 (constantI S_ 32 7#32)))

/-- The bias column of each query column and key column. -/
def biasCol : Vec Ideal S1x64x1x64 .i32 :=
  broadcastInDim S1x64x1x64 ![1, 3] bcast_S64x64_S1x64x1x64_1_3 (addi (minsi (broadcastInDim S64x64 ![] bcast_S_S64x64 (id (constantI S_ 32 15#32))) (maxsi (broadcastInDim S64x64 ![] bcast_S_S64x64 (id (constantI S_ 32 4294967281#32))) (subi keyCol (broadcastInDim S64x64 ![0, 1] bcast_S64x1_S64x64_0_1 (broadcastInDim S64x1 ![0] bcast_S64_S64x1_0 (iotaInDim S64 32 0)))))) (broadcastInDim S64x64 ![] bcast_S_S64x64 (constantI S_ 32 15#32)))

/-- The two together. -/
def biasIndex : Vec Ideal S256x64x8x64x2 .i32 :=
  concatenate S256x64x8x64x2 4 [⟨S256x64x8x64x1, (broadcastInDim S256x64x8x64x1 ![0, 1, 2, 3] bcast_S256x64x8x64_S256x64x8x64x1_0_1_2_3 (broadcastInDim S256x64x8x64 ![0, 1, 2, 3] bcast_S256x1x8x1_S256x64x8x64_0_1_2_3 (select (cmpi .slt biasRow (broadcastInDim S256x1x8x1 ![] bcast_S_S256x1x8x1 (constantI S_ 32 0#32))) (addi biasRow (broadcastInDim S256x1x8x1 ![] bcast_S_S256x1x8x1 (constantI S_ 32 15#32))) biasRow)))⟩, ⟨S256x64x8x64x1, (broadcastInDim S256x64x8x64x1 ![0, 1, 2, 3] bcast_S256x64x8x64_S256x64x8x64x1_0_1_2_3 (broadcastInDim S256x64x8x64 ![0, 1, 2, 3] bcast_S1x64x1x64_S256x64x8x64_0_1_2_3 (select (cmpi .slt biasCol (broadcastInDim S1x64x1x64 ![] bcast_S_S1x64x1x64 (constantI S_ 32 0#32))) (addi biasCol (broadcastInDim S1x64x1x64 ![] bcast_S_S1x64x1x64 (constantI S_ 32 31#32))) biasCol)))⟩] concatenates_S256x64x8x64x1_S256x64x8x64x1_S256x64x8x64x2_d4

/-- The bias of each pair. -/
def bias (R : FVec Ideal S32x15x31 .f32) : FVec Ideal S256x32x64x8x64 .f32 :=
  transpose S256x32x64x8x64 [1, 0, 2, 3, 4] (Host.gather gather_S32x15x31_S256x64x8x64x2_S32x256x64x8x64_0_12_n_n_12_4_3211 R biasIndex) transposes_S32x256x64x8x64_S256x32x64x8x64_1_0_2_3_4

/-- Whether a key column is in a query column's window. -/
def colValid : Vec Ideal S64x64 .i1 :=
  andi (cmpi .sge keyCol (broadcastInDim S64x64 ![0, 1] bcast_S64x1_S64x64_0_1 colStart)) (cmpi .slt keyCol (broadcastInDim S64x64 ![0, 1] bcast_S64x1_S64x64_0_1 (addi colStart (broadcastInDim S64x1 ![] bcast_S_S64x1 (constantI S_ 32 16#32)))))

/-- The keys of each query row's window. -/
def rowKeys (x : FVec Ideal S2x16384x6144 .bf16) : FVec Ideal S2x256x8x64x32x64 .f32 :=
  Host.gather gather_S2x256x64x32x64_S256x8x1_S2x256x8x64x32x64_0345_1_n_n_1_2_21643264 (keys x) rowIndex

/-- The values of each query row's window. -/
def rowValues (x : FVec Ideal S2x16384x6144 .bf16) : FVec Ideal S2x256x8x64x32x64 .f32 :=
  Host.gather gather_S2x256x64x32x64_S256x8x1_S2x256x8x64x32x64_0345_1_n_n_1_2_21643264 (values x) rowIndex

/-- The scaled products of queries and window keys. -/
def localDots (x : FVec Ideal S2x16384x6144 .bf16) : FVec Ideal S2x256x32x64x8x64 .f32 :=
  mulf (Host.dotGeneral dot_S2x256x64x32x64_S2x256x8x64x32x64_S2x256x32x64x8x64_4_5_2_23_013_014 none (queries x) (rowKeys x)) (broadcastInDim S2x256x32x64x8x64 ![] bcast_S_S2x256x32x64x8x64 (constant S_ .f32 0x3E000000#32))

/-- The window scores on the grid. -/
def gridScores (x : FVec Ideal S2x16384x6144 .bf16) (R : FVec Ideal S32x15x31 .f32) : FVec Ideal S2x256x32x64x8x64 .f32 :=
  select (broadcastInDim S2x256x32x64x8x64 ![0, 1, 2, 3, 4, 5] bcast_S1x1x1x64x1x64_S2x256x32x64x8x64_0_1_2_3_4_5 (broadcastInDim S1x1x1x64x1x64 ![3, 5] bcast_S64x64_S1x1x1x64x1x64_3_5 colValid)) (addf (localDots x) (broadcastInDim S2x256x32x64x8x64 ![0, 1, 2, 3, 4, 5] bcast_S1x256x32x64x8x64_S2x256x32x64x8x64_0_1_2_3_4_5 (broadcastInDim S1x256x32x64x8x64 ![1, 2, 3, 4, 5] bcast_S256x32x64x8x64_S1x256x32x64x8x64_1_2_3_4_5 (bias R)))) (broadcastInDim S2x256x32x64x8x64 ![] bcast_S_S2x256x32x64x8x64 (id (constant S_ .f32 0xFF800000#32)))

/-- The window scores. -/
def localScores (x : FVec Ideal S2x16384x6144 .bf16) (R : FVec Ideal S32x15x31 .f32) : FVec Ideal S2x256x32x64x512 .f32 :=
  shapeCast _ (gridScores x R) shapeCasts_S2x256x32x64x8x64_S2x256x32x64x512

/-- The context scores. -/
def contextScores (x : FVec Ideal S2x16384x6144 .bf16) (c : FVec Ideal S2x256x6144 .bf16) : FVec Ideal S2x256x32x64x256 .f32 :=
  mulf (transpose S2x256x32x64x256 [0, 3, 1, 4, 2] (Host.dotGeneral dot_S2x256x32x64_S2x256x64x32x64_S2x32x256x256x64_3_4_1_12_02_03 none (contextKeys c) (queries x)) transposes_S2x32x256x256x64_S2x256x32x64x256_0_3_1_4_2) (broadcastInDim S2x256x32x64x256 ![] bcast_S_S2x256x32x64x256 (constant S_ .f32 0x3E000000#32))

/-- All scores of a query. -/
def scores (x : FVec Ideal S2x16384x6144 .bf16) (c : FVec Ideal S2x256x6144 .bf16) (R : FVec Ideal S32x15x31 .f32) : FVec Ideal S2x256x32x64x768 .f32 :=
  concatenate S2x256x32x64x768 4 [⟨S2x256x32x64x512, (localScores x R)⟩, ⟨S2x256x32x64x256, (contextScores x c)⟩] concatenates_S2x256x32x64x512_S2x256x32x64x256_S2x256x32x64x768_d4

/-- The greatest score of each query. -/
def rowMax (s : FVec Ideal S2x256x32x64x768 .f32) : FVec Ideal S2x256x32x64 .f32 :=
  Host.reduce FloatOps.maximumf s (constant S_ .f32 0xFF800000#32) reducesTo_S2x256x32x64x768_S2x256x32x64_d4 h_S_

/-- The exponentials of the scores, the maximum subtracted. -/
def exps (s : FVec Ideal S2x256x32x64x768 .f32) : FVec Ideal S2x256x32x64x768 .f32 :=
  Host.exp (subf s (broadcastInDim S2x256x32x64x768 ![0, 1, 2, 3, 4] bcast_S2x256x32x64x1_S2x256x32x64x768_0_1_2_3_4 (broadcastInDim S2x256x32x64x1 ![0, 1, 2, 3] bcast_S2x256x32x64_S2x256x32x64x1_0_1_2_3 (maximumf (broadcastInDim S2x256x32x64 ![] bcast_S_S2x256x32x64 (constant S_ .f32 0xFF800000#32)) (rowMax s)))))

/-- Their sums. -/
def rowSum (e : FVec Ideal S2x256x32x64x768 .f32) : FVec Ideal S2x256x32x64 .f32 :=
  Host.reduceAdd e (constant S_ .f32 0x00000000#32) reducesTo_S2x256x32x64x768_S2x256x32x64_d4 h_S_

/-- The quotients by the sums, -/
def quotients (e : FVec Ideal S2x256x32x64x768 .f32) : FVec Ideal S2x256x32x64x768 .f32 :=
  Host.divf e (broadcastInDim S2x256x32x64x768 ![0, 1, 2, 3, 4] bcast_S2x256x32x64x1_S2x256x32x64x768_0_1_2_3_4 (broadcastInDim S2x256x32x64x1 ![0, 1, 2, 3] bcast_S2x256x32x64_S2x256x32x64x1_0_1_2_3 (rowSum e)))

/-- which are the probabilities. -/
def probs (s : FVec Ideal S2x256x32x64x768 .f32) : FVec Ideal S2x256x32x64x768 .f32 :=
  quotients (exps s)

/-- The window keys' probabilities on the grid. -/
def localProbs (p : FVec Ideal S2x256x32x64x768 .f32) : FVec Ideal S2x256x32x64x8x64 .f32 :=
  shapeCast _ (extractStridedSlice S2x256x32x64x512 ![0, 0, 0, 0, 0] p slices_S2x256x32x64x768_S2x256x32x64x512_0_0_0_0_0) shapeCasts_S2x256x32x64x512_S2x256x32x64x8x64

/-- The window's part of the result. -/
def localPart (x : FVec Ideal S2x16384x6144 .bf16) (p : FVec Ideal S2x256x32x64x768 .f32) : FVec Ideal S2x256x64x32x64 .f32 :=
  transpose S2x256x64x32x64 [0, 1, 4, 2, 3] (Host.dotGeneral dot_S2x256x8x64x32x64_S2x256x32x64x8x64_S2x256x32x64x64_32_54_5_3_014_012 none (rowValues x) (localProbs p)) transposes_S2x256x32x64x64_S2x256x64x32x64_0_1_4_2_3

/-- The context's part of the result. -/
def contextPart (c : FVec Ideal S2x256x6144 .bf16) (p : FVec Ideal S2x256x32x64x768 .f32) : FVec Ideal S2x256x64x32x64 .f32 :=
  transpose S2x256x64x32x64 [0, 3, 4, 1, 2] (Host.dotGeneral dot_S2x256x32x64_S2x256x32x64x256_S2x32x64x256x64_1_4_3_13_02_02 none (contextValues c) (extractStridedSlice S2x256x32x64x256 ![0, 0, 0, 0, 512] p slices_S2x256x32x64x768_S2x256x32x64x256_0_0_0_0_512)) transposes_S2x32x64x256x64_S2x256x64x32x64_0_3_4_1_2

/-- The result from the probabilities, -/
def combine (x : FVec Ideal S2x16384x6144 .bf16) (c : FVec Ideal S2x256x6144 .bf16) (p : FVec Ideal S2x256x32x64x768 .f32) : FVec Ideal S2x16384x2048 .bf16 :=
  truncf .bf16 (shapeCast _ (addf (localPart x p) (contextPart c p)) shapeCasts_S2x256x64x32x64_S2x16384x2048) bitsLt_bf16_f32

/-- and the whole result. -/
def result (x : FVec Ideal S2x16384x6144 .bf16) (c : FVec Ideal S2x256x6144 .bf16) (R : FVec Ideal S32x15x31 .f32) : FVec Ideal S2x16384x2048 .bf16 :=
  combine x c (probs (scores x c R))

theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) := by
  unfold Value.res_out0 Value.res_main_v124
  rfl

end Cert.Ref
-- ==== Proof.RefIndex.lean ====
/- The index arrays of the reference, and its two gathers, read at an index. -/
module

public import proofs.«01_k».proof.Proof.RefTerm
public import proofs.«01_k».proof.Proof.Closed

@[expose] public section

set_option maxRecDepth 16384

noncomputable section

namespace Cert.Ref

open Idealize.ShloMosaic Idealize.ShloMosaic.TcCoe
open Cert.Attn
open Cert.ReferenceIdeal Cert.ReferenceIdeal.Gen

variable (x : FVec Ideal S2x16384x6144 .bf16) (c : FVec Ideal S2x256x6144 .bf16) (R : FVec Ideal S32x15x31 .f32)

theorem toInt_small (n : Nat) (hn : n < 256) : (BitVec.ofNat 32 n).toInt.toNat = n := by
  rw [BitVec.toInt_eq_toNat_of_lt (by simp; omega)]
  simp; omega

theorem gather_row (x : FVec Ideal S2x256x64x32x64 .f32) (idx : Vec Ideal S256x8x1 .i32) (b : Fin 2) (r : Fin 256) (j : Fin 8) (k : Fin 64) (h : Fin 32) (d : Fin 64) (n : Nat) (hn : n < 256) (e : idx (ix3 r j 0) = BitVec.ofNat 32 n) :
    Host.gather gather_S2x256x64x32x64_S256x8x1_S2x256x8x64x32x64_0345_1_n_n_1_2_21643264 x idx (ix6 b r j k h d) = x (ix5 b ⟨n, hn⟩ k h d) := by
  show x _ = x _
  congr 1
  have hsi : ∀ z, (gather_S2x256x64x32x64_S256x8x1_S2x256x8x64x32x64_0345_1_n_n_1_2_21643264).siIdx (ix6 b r j k h d) z = ix3 r j 0 := by
    intro z
    funext (c : Fin 3); refine Fin.ext ?_
    clear e hn
    match c with
    | ⟨0, _⟩ => rfl
    | ⟨1, _⟩ => rfl
    | ⟨2, _⟩ => have := z.isLt; show z.val = 0; exact Nat.lt_one_iff.1 this
  funext (a : Fin 5)
  apply Fin.ext
  show (gather_S2x256x64x32x64_S256x8x1_S2x256x8x64x32x64_0345_1_n_n_1_2_21643264).start (ix6 b r j k h d) idx a + (gather_S2x256x64x32x64_S256x8x1_S2x256x8x64x32x64_0345_1_n_n_1_2_21643264).batchCoord (ix6 b r j k h d) a + (gather_S2x256x64x32x64_S256x8x1_S2x256x8x64x32x64_0345_1_n_n_1_2_21643264).offCoord (ix6 b r j k h d) a = _
  rw [GatherDims.batchCoord_eq_zero _ _ _ List.not_mem_nil, Nat.add_zero]
  match a with
  | ⟨0, _⟩ => exact Nat.zero_add _
  | ⟨1, _⟩ =>
    have ho : (gather_S2x256x64x32x64_S256x8x1_S2x256x8x64x32x64_0345_1_n_n_1_2_21643264).offCoord (ix6 b r j k h d) (1 : Fin 5) = 0 := rfl
    show (gather_S2x256x64x32x64_S256x8x1_S2x256x8x64x32x64_0345_1_n_n_1_2_21643264).start (ix6 b r j k h d) idx (1 : Fin 5) + (gather_S2x256x64x32x64_S256x8x1_S2x256x8x64x32x64_0345_1_n_n_1_2_21643264).offCoord (ix6 b r j k h d) (1 : Fin 5) = n
    rw [ho]
    unfold GatherDims.start
    rw [dif_pos (show (1 : Fin 5) ∈ (gather_S2x256x64x32x64_S256x8x1_S2x256x8x64x32x64_0345_1_n_n_1_2_21643264).startIndexMap from List.mem_singleton.mpr rfl), hsi, e, toInt_small n hn]
    show min n 255 + 0 = n
    omega
  | ⟨2, _⟩ => exact Nat.zero_add _
  | ⟨3, _⟩ => exact Nat.zero_add _
  | ⟨4, _⟩ => exact Nat.zero_add _

theorem gather_bias (idx : Vec Ideal S256x64x8x64x2 .i32) (h : Fin 32) (r : Fin 256) (q : Fin 64) (j : Fin 8) (k : Fin 64) (n m : Nat) (hn : n < 15) (hm : m < 31)
    (e0 : idx (ix5 r q j k 0) = BitVec.ofNat 32 n) (e1 : idx (ix5 r q j k 1) = BitVec.ofNat 32 m) :
    Host.gather gather_S32x15x31_S256x64x8x64x2_S32x256x64x8x64_0_12_n_n_12_4_3211 R idx (ix5 h r q j k) = R (ix3 h ⟨n, hn⟩ ⟨m, hm⟩) := by
  show R _ = R _
  congr 1
  have hsi : ∀ (z : Fin 2), (gather_S32x15x31_S256x64x8x64x2_S32x256x64x8x64_0_12_n_n_12_4_3211).siIdx (ix5 h r q j k) z = ix5 r q j k z := by
    intro z
    funext (c : Fin 5); refine Fin.ext ?_
    clear e0 e1 hn hm
    match c with
    | ⟨0, _⟩ => rfl
    | ⟨1, _⟩ => rfl
    | ⟨2, _⟩ => rfl
    | ⟨3, _⟩ => rfl
    | ⟨4, _⟩ => rfl
  funext (a : Fin 3)
  apply Fin.ext
  show (gather_S32x15x31_S256x64x8x64x2_S32x256x64x8x64_0_12_n_n_12_4_3211).start (ix5 h r q j k) idx a + (gather_S32x15x31_S256x64x8x64x2_S32x256x64x8x64_0_12_n_n_12_4_3211).batchCoord (ix5 h r q j k) a + (gather_S32x15x31_S256x64x8x64x2_S32x256x64x8x64_0_12_n_n_12_4_3211).offCoord (ix5 h r q j k) a = _
  rw [GatherDims.batchCoord_eq_zero _ _ _ List.not_mem_nil, Nat.add_zero]
  match a with
  | ⟨0, _⟩ => exact Nat.zero_add _
  | ⟨1, _⟩ =>
    have ho : (gather_S32x15x31_S256x64x8x64x2_S32x256x64x8x64_0_12_n_n_12_4_3211).offCoord (ix5 h r q j k) (1 : Fin 3) = 0 := rfl
    show (gather_S32x15x31_S256x64x8x64x2_S32x256x64x8x64_0_12_n_n_12_4_3211).start (ix5 h r q j k) idx (1 : Fin 3) + (gather_S32x15x31_S256x64x8x64x2_S32x256x64x8x64_0_12_n_n_12_4_3211).offCoord (ix5 h r q j k) (1 : Fin 3) = n
    rw [ho]
    unfold GatherDims.start
    rw [dif_pos (show (1 : Fin 3) ∈ (gather_S32x15x31_S256x64x8x64x2_S32x256x64x8x64_0_12_n_n_12_4_3211).startIndexMap from List.mem_cons_self), show (gather_S32x15x31_S256x64x8x64x2_S32x256x64x8x64_0_12_n_n_12_4_3211).siIdx (ix5 h r q j k) ⟨List.idxOf (1 : Fin 3) (gather_S32x15x31_S256x64x8x64x2_S32x256x64x8x64_0_12_n_n_12_4_3211).startIndexMap, _⟩ = ix5 r q j k 0 from hsi 0, e0, toInt_small n (by omega)]
    show min n 14 + 0 = n
    omega
  | ⟨2, _⟩ =>
    have ho : (gather_S32x15x31_S256x64x8x64x2_S32x256x64x8x64_0_12_n_n_12_4_3211).offCoord (ix5 h r q j k) (2 : Fin 3) = 0 := rfl
    show (gather_S32x15x31_S256x64x8x64x2_S32x256x64x8x64_0_12_n_n_12_4_3211).start (ix5 h r q j k) idx (2 : Fin 3) + (gather_S32x15x31_S256x64x8x64x2_S32x256x64x8x64_0_12_n_n_12_4_3211).offCoord (ix5 h r q j k) (2 : Fin 3) = m
    rw [ho]
    unfold GatherDims.start
    rw [dif_pos (show (2 : Fin 3) ∈ (gather_S32x15x31_S256x64x8x64x2_S32x256x64x8x64_0_12_n_n_12_4_3211).startIndexMap from List.mem_cons_of_mem _ List.mem_cons_self), show (gather_S32x15x31_S256x64x8x64x2_S32x256x64x8x64_0_12_n_n_12_4_3211).siIdx (ix5 h r q j k) ⟨List.idxOf (2 : Fin 3) (gather_S32x15x31_S256x64x8x64x2_S32x256x64x8x64_0_12_n_n_12_4_3211).startIndexMap, _⟩ = ix5 r q j k 1 from hsi 1, e1, toInt_small m (by omega)]
    show min m 30 + 0 = m
    omega

theorem keyRow_apply (r : Fin 256) (k : Fin 8) : keyRow (ix2 r k) = BitVec.ofNat 32 (min (r.val - 4) 248 + k.val) := by
  pointwise [keyRow, constantI]
  revert r k; decide +kernel

theorem rowIndex_apply (r : Fin 256) (k : Fin 8) : rowIndex (ix3 r k 0) = BitVec.ofNat 32 (min (r.val - 4) 248 + k.val) := by
  pointwise [rowIndex]
  rw [keyRow_apply]
  revert r k; decide +kernel

theorem biasRow_apply (r : Fin 256) (k : Fin 8) : biasRow (ix4 r 0 k 0) = BitVec.ofNat 32 (min (r.val - 4) 248 + k.val + 7 - r.val) := by
  pointwise [biasRow]
  rw [keyRow_apply]
  revert r k; decide +kernel

theorem biasCol_apply (q : Fin 64) (k : Fin 64) : biasCol (ix4 0 q 0 k) = BitVec.ofNat 32 (min (k.val + 30 - q.val) 45 - 15) := by
  pointwise [biasCol, keyCol, constantI]
  revert q k; decide +kernel

theorem colValid_apply (q : Fin 64) (k : Fin 64) : colValid (ix2 q k) = if ColIn q.val k.val then 1#1 else 0#1 := by
  pointwise [colValid, keyCol, colStart, constantI]
  revert q k; decide +kernel

theorem biasIndex_row (r : Fin 256) (q : Fin 64) (j : Fin 8) (k : Fin 64) : biasIndex (ix5 r q j k 0) = BitVec.ofNat 32 (min (r.val - 4) 248 + j.val + 7 - r.val) := by
  pointwise [biasIndex]
  rw [biasRow_apply]
  clear k q
  revert r j; decide +kernel

theorem biasIndex_col (r : Fin 256) (q : Fin 64) (j : Fin 8) (k : Fin 64) : biasIndex (ix5 r q j k 1) = BitVec.ofNat 32 (min (k.val + 30 - q.val) 45 - 15) := by
  pointwise [biasIndex]
  rw [biasCol_apply]
  clear r j
  revert q k; decide +kernel

end Cert.Ref
-- ==== Proof.RefArrays.lean ====
/- The arrays of the reference, each read at an index. -/
module

public import proofs.«01_k».proof.Proof.RefIndex
public import proofs.«01_k».proof.Proof.Closed

@[expose] public section

set_option maxRecDepth 16384

noncomputable section

namespace Cert.Ref

open Idealize.ShloMosaic Idealize.ShloMosaic.TcCoe
open Cert.Attn
open Cert.ReferenceIdeal Cert.ReferenceIdeal.Gen

variable (x : FVec Ideal S2x16384x6144 .bf16) (c : FVec Ideal S2x256x6144 .bf16) (R : FVec Ideal S32x15x31 .f32)

variable (p : FVec Ideal S2x256x32x64x768 .f32)

theorem bot_bits : Ideal.ofBits .f32 4286578688#32 = ⊥ := ofBits_bot

theorem eighth_bits : Ideal.ofBits .f32 1040187392#32 = ((1 / 8 : ℝ) : EReal) := ofBits_eighth

/-! The softmax over the keys. -/

theorem rowMax_apply (b : Fin 2) (r : Fin 256) (h : Fin 32) (q : Fin 64) :
    rowMax p (ix4 b r h q) = Finset.univ.fold max (Ideal.ofBits .f32 0xFF800000#32) (fun j : Fin 768 => p (ix5 b r h q j)) := by
  pointwise [rowMax]

theorem rowSum_apply (b : Fin 2) (r : Fin 256) (h : Fin 32) (q : Fin 64) : rowSum p (ix4 b r h q) = ∑ j : Fin 768, p (ix5 b r h q j) := by
  pointwise [rowSum]

/-- A value per query, repeated over its keys. -/
def spread (v : FVec Ideal S2x256x32x64 .f32) : FVec Ideal S2x256x32x64x768 .f32 :=
  broadcastInDim S2x256x32x64x768 ![0, 1, 2, 3, 4] bcast_S2x256x32x64x1_S2x256x32x64x768_0_1_2_3_4 (broadcastInDim S2x256x32x64x1 ![0, 1, 2, 3] bcast_S2x256x32x64_S2x256x32x64x1_0_1_2_3 v)

theorem spread_apply (v : FVec Ideal S2x256x32x64 .f32) (b : Fin 2) (r : Fin 256) (h : Fin 32) (q : Fin 64) (j : Fin 768) :
    spread v (ix5 b r h q j) = v (ix4 b r h q) := by
  pointwise [spread]

theorem exp_sub_apply {s : Shape} (x y : FVec Ideal s .f32) (i : s.Idx) : Host.exp (subf x y) i = Ideal.exp (x i - y i) := rfl

theorem max_apply {s : Shape} (x y : FVec Ideal s .f32) (i : s.Idx) : maximumf x y i = max (x i) (y i) := rfl

/-- The larger of −∞ and a value. -/
def atLeastBot (v : FVec Ideal S2x256x32x64 .f32) : FVec Ideal S2x256x32x64 .f32 :=
  maximumf (broadcastInDim S2x256x32x64 ![] bcast_S_S2x256x32x64 (constant S_ .f32 0xFF800000#32)) v

theorem atLeastBot_apply (v : FVec Ideal S2x256x32x64 .f32) (i : S2x256x32x64.Idx) :
    atLeastBot v i = max (Ideal.ofBits .f32 0xFF800000#32) (v i) := by
  unfold atLeastBot
  rw [max_apply]
  generalize v i = z
  congr 1

theorem exps_eq : exps p = Host.exp (subf p (spread (atLeastBot (rowMax p)))) := rfl

theorem exps_apply (b : Fin 2) (r : Fin 256) (h : Fin 32) (q : Fin 64) (j : Fin 768) :
    exps p (ix5 b r h q j) = Ideal.exp (p (ix5 b r h q j) - max ⊥ (Finset.univ.fold max ⊥ fun j : Fin 768 => p (ix5 b r h q j))) := by
  rw [exps_eq, exp_sub_apply, spread_apply, atLeastBot_apply, rowMax_apply, ofBits_bot]

theorem quotients_apply (b : Fin 2) (r : Fin 256) (h : Fin 32) (q : Fin 64) (j : Fin 768) :
    quotients p (ix5 b r h q j) = Ideal.div (p (ix5 b r h q j)) (rowSum p (ix4 b r h q)) := by
  pointwise [quotients]

theorem probs_apply (b : Fin 2) (r : Fin 256) (h : Fin 32) (q : Fin 64) (P : Fin 768 → Prop) [DecidablePred P] (A : Fin 768 → ℝ)
    (hp : ∀ j, p (ix5 b r h q j) = score (P j) (A j)) (j0 : Fin 768) (h0 : P j0) (j : Fin 768) :
    probs p (ix5 b r h q j) = ((weight (P j) (A j) / ∑ y, weight (P y) (A y) : ℝ) : EReal) := by
  unfold probs
  rw [quotients_apply, rowSum_apply]
  simp only [exps_apply, hp]
  exact probability_real P A j0 h0 j

/-! The arrays the scores and the result are formed from. -/

theorem queries_apply (b : Fin 2) (r : Fin 256) (q : Fin 64) (h : Fin 32) (d : Fin 64) :
    queries x (ix5 b r q h d) = x (ix3 b ⟨r.val * 64 + q.val, by omega⟩ ⟨h.val * 64 + d.val, by omega⟩) := by
  pointwise [queries, latent]

theorem keys_apply (b : Fin 2) (r : Fin 256) (q : Fin 64) (h : Fin 32) (d : Fin 64) :
    keys x (ix5 b r q h d) = x (ix3 b ⟨r.val * 64 + q.val, by omega⟩ ⟨2048 + h.val * 64 + d.val, by omega⟩) := by
  pointwise [keys, latent]

theorem values_apply (b : Fin 2) (r : Fin 256) (q : Fin 64) (h : Fin 32) (d : Fin 64) :
    values x (ix5 b r q h d) = x (ix3 b ⟨r.val * 64 + q.val, by omega⟩ ⟨4096 + h.val * 64 + d.val, by omega⟩) := by
  pointwise [values, latent]

theorem contextKeys_apply (b : Fin 2) (m : Fin 256) (h : Fin 32) (d : Fin 64) :
    contextKeys c (ix4 b m h d) = c (ix3 b m ⟨2048 + h.val * 64 + d.val, by omega⟩) := by
  pointwise [contextKeys, context]

theorem contextValues_apply (b : Fin 2) (m : Fin 256) (h : Fin 32) (d : Fin 64) :
    contextValues c (ix4 b m h d) = c (ix3 b m ⟨4096 + h.val * 64 + d.val, by omega⟩) := by
  pointwise [contextValues, context]

theorem rowKeys_apply (b : Fin 2) (r : Fin 256) (j : Fin 8) (k : Fin 64) (h : Fin 32) (d : Fin 64) :
    rowKeys x (ix6 b r j k h d) = keys x (ix5 b ⟨top r.val + j.val, by unfold top; omega⟩ k h d) :=
  gather_row _ _ b r j k h d _ _ (rowIndex_apply r j)

theorem rowValues_apply (b : Fin 2) (r : Fin 256) (j : Fin 8) (k : Fin 64) (h : Fin 32) (d : Fin 64) :
    rowValues x (ix6 b r j k h d) = values x (ix5 b ⟨top r.val + j.val, by unfold top; omega⟩ k h d) :=
  gather_row _ _ b r j k h d _ _ (rowIndex_apply r j)

theorem bias_apply (r : Fin 256) (h : Fin 32) (q : Fin 64) (j : Fin 8) (k : Fin 64) :
    bias R (ix5 r h q j k) = R (ix3 h ⟨top r.val + j.val + 7 - r.val, by unfold top; omega⟩ ⟨min (k.val + 30 - q.val) 45 - 15, by omega⟩) := by
  pointwise [bias]
  exact gather_bias R _ h r q j k _ _ _ _ (biasIndex_row r q j k) (biasIndex_col r q j k)

theorem localDots_apply (b : Fin 2) (r : Fin 256) (h : Fin 32) (q : Fin 64) (j : Fin 8) (k : Fin 64) :
    localDots x (ix6 b r h q j k) = (∑ e : Fin 64, queries x (ix5 b r q h e) * rowKeys x (ix6 b r j k h e)) * Ideal.ofBits .f32 1040187392#32 := by
  pointwise [localDots]

theorem gridScores_apply (b : Fin 2) (r : Fin 256) (h : Fin 32) (q : Fin 64) (j : Fin 8) (k : Fin 64) :
    gridScores x R (ix6 b r h q j k) = Scalar.select (colValid (ix2 q k)) (localDots x (ix6 b r h q j k) + bias R (ix5 r h q j k)) (Ideal.ofBits .f32 4286578688#32) := by
  pointwise [gridScores]
  rfl

theorem localScores_apply (b : Fin 2) (r : Fin 256) (h : Fin 32) (q : Fin 64) (j : Fin 512) :
    localScores x R (ix5 b r h q j) = gridScores x R (ix6 b r h q ⟨j.val / 64, by omega⟩ ⟨j.val % 64, by omega⟩) := by
  pointwise [localScores]

theorem contextScores_apply (b : Fin 2) (r : Fin 256) (h : Fin 32) (q : Fin 64) (j : Fin 256) :
    contextScores x c (ix5 b r h q j) = (∑ e : Fin 64, contextKeys c (ix4 b j h e) * queries x (ix5 b r q h e)) * Ideal.ofBits .f32 1040187392#32 := by
  pointwise [contextScores]

theorem scores_apply (b : Fin 2) (r : Fin 256) (h : Fin 32) (q : Fin 64) (j : Fin 768) :
    scores x c R (ix5 b r h q j) = if h1 : j.val < 512 then localScores x R (ix5 b r h q ⟨j.val, h1⟩) else contextScores x c (ix5 b r h q ⟨j.val - 512, by omega⟩) := by
  pointwise [scores]

theorem localProbs_apply (b : Fin 2) (r : Fin 256) (h : Fin 32) (q : Fin 64) (j : Fin 8) (k : Fin 64) :
    localProbs p (ix6 b r h q j k) = p (ix5 b r h q ⟨j.val * 64 + k.val, by omega⟩) := by
  pointwise [localProbs]

theorem localPart_apply (b : Fin 2) (r : Fin 256) (h : Fin 32) (q : Fin 64) (d : Fin 64) :
    localPart x p (ix5 b r q h d) = ∑ k : Fin 64, ∑ j : Fin 8, rowValues x (ix6 b r j k h d) * localProbs p (ix6 b r h q j k) := by
  pointwise [localPart]

theorem contextPart_apply (b : Fin 2) (r : Fin 256) (h : Fin 32) (q : Fin 64) (d : Fin 64) :
    contextPart c p (ix5 b r q h d) = ∑ m : Fin 256, contextValues c (ix4 b m h d) * p (ix5 b r h q ⟨512 + m.val, by omega⟩) := by
  pointwise [contextPart]

theorem combine_apply (b : Fin 2) (i : Fin 16384) (j : Fin 2048) :
    combine x c p (ix3 b i j) = localPart x p (ix5 b ⟨i.val / 64, by omega⟩ ⟨i.val % 64, by omega⟩ ⟨j.val / 64, by omega⟩ ⟨j.val % 64, by omega⟩)
      + contextPart c p (ix5 b ⟨i.val / 64, by omega⟩ ⟨i.val % 64, by omega⟩ ⟨j.val / 64, by omega⟩ ⟨j.val % 64, by omega⟩) := by
  pointwise [combine]

end Cert.Ref
-- ==== Proof.RefValue.lean ====
/- The reference's result in real numbers, from finite arguments. -/
module

public import proofs.«01_k».proof.Proof.RefArrays
public import proofs.«01_k».proof.Proof.Closed

@[expose] public section

set_option maxRecDepth 16384

noncomputable section

namespace Cert.Ref

open Idealize.ShloMosaic Idealize.ShloMosaic.TcCoe
open Cert.Attn
open Cert.ReferenceIdeal Cert.ReferenceIdeal.Gen

variable (x : FVec Ideal S2x16384x6144 .bf16) (c : FVec Ideal S2x256x6144 .bf16) (R : FVec Ideal S32x15x31 .f32)
variable (qn cn rb : Nat → Nat → Nat → ℝ)
variable (hx : ∀ (b : Fin 2) (i : Fin 16384) (j : Fin 6144), x (ix3 b i j) = (qn b.val i.val j.val : EReal))
variable (hc : ∀ (b : Fin 2) (i : Fin 256) (j : Fin 6144), c (ix3 b i j) = (cn b.val i.val j.val : EReal))
variable (hR : ∀ (h : Fin 32) (i : Fin 15) (j : Fin 31), R (ix3 h i j) = (rb h.val i.val j.val : EReal))

include hx in
theorem localDots_real (b : Fin 2) (r : Fin 256) (h : Fin 32) (q : Fin 64) (j : Fin 8) (k : Fin 64) :
    localDots x (ix6 b r h q j k) = (((∑ e : Fin 64, qn b.val (r.val * 64 + q.val) (h.val * 64 + e.val) * qn b.val ((top r.val + j.val) * 64 + k.val) (2048 + h.val * 64 + e.val)) * (1 / 8) : ℝ) : EReal) := by
  rw [localDots_apply, eighth_bits]
  simp only [queries_apply, rowKeys_apply, keys_apply, hx, ← EReal.coe_mul, coe_sum]

include hx hR in
theorem gridScores_real (b : Fin 2) (r : Fin 256) (h : Fin 32) (q : Fin 64) (j : Fin 8) (k : Fin 64) :
    gridScores x R (ix6 b r h q j k) = score (ColIn q.val k.val) (localScore qn rb b.val r.val q.val h.val (top r.val + j.val) k.val) := by
  rw [gridScores_apply, colValid_apply, bot_bits, localDots_real x qn hx, bias_apply, hR]
  unfold score
  by_cases hk : ColIn q.val k.val
  · rw [if_pos hk, if_pos hk]
    have e : min (k.val + 30 - q.val) 45 - 15 = k.val + 15 - q.val := by omega
    simp only [e, ← EReal.coe_add]
    rfl
  · rw [if_neg hk, if_neg hk]; rfl

include hx hc in
theorem contextScores_real (b : Fin 2) (r : Fin 256) (h : Fin 32) (q : Fin 64) (m : Fin 256) :
    contextScores x c (ix5 b r h q m) = ((contextScore qn cn b.val r.val q.val h.val m.val : ℝ) : EReal) := by
  rw [contextScores_apply, eighth_bits]
  simp only [queries_apply, contextKeys_apply, hx, hc, ← EReal.coe_mul, coe_sum]
  unfold contextScore
  congr 2
  exact Finset.sum_congr rfl fun e _ => mul_comm _ _

/-- Whether key `j` of the 768 counts, -/
abbrev Counts (q j : Nat) : Prop := 512 ≤ j ∨ ColIn q (j % 64)

/-- and its score. -/
def keyScore (b r q h j : Nat) : ℝ :=
  if j < 512 then localScore qn rb b r q h (top r + j / 64) (j % 64) else contextScore qn cn b r q h (j - 512)

include hx hc hR in
theorem scores_real (b : Fin 2) (r : Fin 256) (h : Fin 32) (q : Fin 64) (j : Fin 768) :
    scores x c R (ix5 b r h q j) = score (Counts q.val j.val) (keyScore qn cn rb b.val r.val q.val h.val j.val) := by
  rw [scores_apply]
  unfold keyScore
  by_cases hj : j.val < 512
  · rw [dif_pos hj, if_pos hj, localScores_apply, gridScores_real x R qn rb hx hR]
    have e : Counts q.val j.val ↔ ColIn q.val (j.val % 64) := ⟨fun hh => hh.resolve_left (by omega), Or.inr⟩
    unfold score
    exact if_congr e.symm rfl rfl
  · rw [dif_neg hj, if_neg hj, contextScores_real x c qn cn hx hc]
    unfold score
    rw [if_pos (Or.inl (by omega))]

theorem weight_local (b r q h : Nat) (j : Fin 8) (k : Fin 64) :
    weight (Counts q (j.val * 64 + k.val)) (keyScore qn cn rb b r q h (j.val * 64 + k.val)) = localWeight qn rb b r q h j.val k.val := by
  unfold keyScore localWeight
  have h1 : j.val * 64 + k.val < 512 := by omega
  have h2 : (j.val * 64 + k.val) / 64 = j.val := by omega
  have h3 : (j.val * 64 + k.val) % 64 = k.val := by omega
  unfold weight
  rw [if_pos h1]
  refine if_congr ?_ (by rw [h2, h3]) rfl
  unfold Counts
  rw [h3]
  exact ⟨fun hh => hh.resolve_left (by omega), Or.inr⟩

theorem weight_context (b r q h : Nat) (m : Fin 256) :
    weight (Counts q (512 + m.val)) (keyScore qn cn rb b r q h (512 + m.val)) = Real.exp (contextScore qn cn b r q h m.val) := by
  unfold keyScore weight
  rw [if_pos (Or.inl (by omega)), if_neg (by omega), Nat.add_sub_cancel_left]

theorem total_eq (b r q h : Nat) :
    (∑ y : Fin 768, weight (Counts q y.val) (keyScore qn cn rb b r q h y.val)) = total qn cn rb b r q h := by
  rw [sum_keys fun y => weight (Counts q y) (keyScore qn cn rb b r q h y)]
  simp only [weight_local, weight_context]
  rfl

include hx hc hR in
theorem probs_real (b : Fin 2) (r : Fin 256) (h : Fin 32) (q : Fin 64) (j : Fin 768) :
    probs (scores x c R) (ix5 b r h q j)
      = ((weight (Counts q.val j.val) (keyScore qn cn rb b.val r.val q.val h.val j.val) / total qn cn rb b.val r.val q.val h.val : ℝ) : EReal) := by
  rw [probs_apply (scores x c R) b r h q (fun j => Counts q.val j.val) (fun j => keyScore qn cn rb b.val r.val q.val h.val j.val)
    (scores_real x c R qn cn rb hx hc hR b r h q) ⟨512, by decide⟩ (Or.inl (le_refl _)) j, total_eq]

include hx hc hR in
/-- The reference's result. -/
theorem result_real (b : Fin 2) (i : Fin 16384) (j : Fin 2048) :
    result x c R (ix3 b i j) = ((mean qn cn rb b.val (i.val / 64) (i.val % 64) (j.val / 64) (j.val % 64) : ℝ) : EReal) := by
  unfold result
  rw [combine_apply, localPart_apply, contextPart_apply]
  simp only [localProbs_apply, probs_real x c R qn cn rb hx hc hR, rowValues_apply, values_apply, contextValues_apply, hx, hc,
    ← EReal.coe_mul, coe_sum, ← EReal.coe_add, weight_local, weight_context]
  congr 1
  unfold mean weighted
  rw [add_div, Finset.sum_div, Finset.sum_div, Finset.sum_comm]
  congr 1
  · refine Finset.sum_congr rfl fun a _ => ?_
    rw [Finset.sum_div]
    exact Finset.sum_congr rfl fun k _ => by ring
  · exact Finset.sum_congr rfl fun m _ => by ring

end Cert.Ref
-- ==== Proof.Final.lean ====
/- The claims: the frames of the kernel and of its idealization from one side condition, the reference's from its run, and the equality of the results. -/
module

public import proofs.«01_k».proof.Proof.Finite
public import proofs.«01_k».proof.Proof.KernelValue
public import proofs.«01_k».proof.Proof.RefValue
public import proofs.«01_k».proof.Proof.Gen.Kernel
public import proofs.«01_k».proof.Proof.Gen.Kernel.Frame

@[expose] public section

set_option backward.isDefEq.respectTransparency false

noncomputable section

namespace Cert.Attn

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

section
open Cert.KernelIdeal Cert.KernelIdeal.Gen

theorem frame_ideal (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := Cert.KernelIdeal.Gen.frame m g (ok m)

/-- The kernel's result, from any memory. -/
theorem kernel_result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v96)
        = attnOut (m ((c.tc : Thread nD τ).loc main_arg0)) (m ((c.tc : Thread nD τ).loc main_arg1)) (hostBias (m ((c.tc : Thread nD τ).loc main_arg2)))) := by
  refine (θ_run _ _ _).mono (fun r h c => ?_) (run_main m g (ok m))
  refine ((h c).1 6).trans ?_
  refine (arr_eq m c).trans ?_
  rw [V_main_arg0, V_main_arg1, V_bias]

end

set_option maxHeartbeats 4000000 in
/-- The kernel's frame: its tables are its idealization's, so the side condition is the one already proved. -/
theorem frame_kernel : Cert.quiescent_Kernel := fun m g _ =>
  Cert.Kernel.Gen.frame m g (show Cert.Kernel.Gen.Ok m from ok (F := Bits) m)

/-- The reference's frame: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The two results are one array, when every argument entry is finite. -/
theorem results_eq (x : Cert.KernelIdeal.S2x16384x6144.Idx → EReal) (c : Cert.KernelIdeal.S2x256x6144.Idx → EReal) (R : Cert.KernelIdeal.S32x15x31.Idx → EReal)
    (hx : ∀ i, x i = ((x i).toReal : EReal)) (hc : ∀ i, c i = ((c i).toReal : EReal)) (hR : ∀ i, R i = ((R i).toReal : EReal)) :
    Cert.Ref.result x c R = attnOut x c (hostBias R) := by
  funext (y : Cert.KernelIdeal.S2x16384x2048.Idx)
  obtain ⟨b, i, j, rfl⟩ : ∃ (b : Fin 2) (i : Fin 16384) (j : Fin 2048), y = ix3 b i j := ⟨y 0, y 1, y 2, by
    funext (a : Fin 3)
    match a with
    | 0 => rfl
    | 1 => rfl
    | 2 => rfl⟩
  exact (Cert.Ref.result_real x c R (entries x) (entries c) (entries R) (entries_eq x hx) (entries_eq c hc) (entries_eq R hR) b i j).trans
    (attnOut_real x c R (entries x) (entries c) (entries R) (entries_eq x hx) (entries_eq c hc) (entries_eq R hR) b i j).symm

theorem algebraic : Cert.algebraic_KernelIdeal_ReferenceIdeal_pre_finite := by
  intro m g m' g' hpre hm
  refine ⟨fun c => attnOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (hostBias (m ((c.tc : Thread Cert.KernelIdeal.nD Cert.KernelIdeal.τ).loc Cert.KernelIdeal.main_arg2))), ?_, ?_⟩
  · exact (θ_run _ _ _).mono (fun r h c => ⟨h.1 c, h.2.1 c⟩) (θ_run_and (kernel_result m g) (frame_ideal m g))
  · refine (θ_run _ _ _).mono (fun r h c => ⟨(h c).1.trans ?_, (h c).2⟩) (Cert.ReferenceIdeal.Value.run (F := Ideal) m' g')
    obtain ⟨hx, hc, hR⟩ := real_of_finite _ _ _ (hpre c).1 (hpre c).2.1 (hpre c).2.2
    refine (Cert.Ref.res_eq m' c).trans ?_
    rw [(hm c).1, (hm c).2.1, (hm c).2.2]
    exact results_eq _ _ _ hx hc hR

end Cert.Attn
-- ==== Proof.FfnPieces.lean ====
/- What the feed-forward kernel's body leaves at a grid point: in the scratch, at the first chunk of channels, the
   modulated rows of its block; in the output's window the chunk's product, added to what was there, and after the last chunk
   the residual and the final norm. -/
module

public import proofs.«01_k».proof.Proof.Gen.FfnIdeal.Frame
public import Idealize.ShloMosaic.Lib.WholeRead
public import Idealize.ShloMosaic.Lib.VecWindow
public import Idealize.ShloMosaic.Lib.Pipeline.ReadBack
public import Idealize.ShloMosaic.Lib.ValueIdx

@[expose] public section

set_option maxRecDepth 16384
set_option backward.isDefEq.respectTransparency false

noncomputable section

namespace Cert.Feed

open Idealize.ShloMosaic Idealize.ShloMosaic.TcCoe Idealize.ShloMosaic.Tactic
open Cert.FfnIdeal Cert.FfnIdeal.Gen

variable {F : FTy → Type} [FloatOps F]

/-- The rows one above, at, and one below the block's own rows. -/
def above (u : Vec F S544x512 .f32) : Vec F S512x512 .f32 := View.ld u (Rect.unit ![15, 0] ![512, 512] inb_S544x512_S512x512_15_0)
def level (u : Vec F S544x512 .f32) : Vec F S512x512 .f32 := View.ld u (Rect.unit ![16, 0] ![512, 512] inb_S544x512_S512x512_16_0)
def below (u : Vec F S544x512 .f32) : Vec F S512x512 .f32 := View.ld u (Rect.unit ![17, 0] ![512, 512] inb_S544x512_S512x512_17_0)
/-- The three taps of a chunk's filter. -/
def tapA (k : Vec F S3x512 .f32) : Vec F S1x512 .f32 := View.ld k (Rect.unit ![0, 0] ![1, 512] inb_S3x512_S1x512_0_0)
def tapB (k : Vec F S3x512 .f32) : Vec F S1x512 .f32 := View.ld k (Rect.unit ![1, 0] ![1, 512] inb_S3x512_S1x512_1_0)
def tapC (k : Vec F S3x512 .f32) : Vec F S1x512 .f32 := View.ld k (Rect.unit ![2, 0] ![1, 512] inb_S3x512_S1x512_2_0)
/-- The modulation's shift, scale and gate. -/
def shiftRow (x3 : Vec F S1x6x2048 .f32) : FVec F S1x2048 .f32 := k0_pay1 (View.ld x3 (Rect.unit ![0, 3, 0] ![1, 1, 2048] inb_S1x6x2048_S1x1x2048_0_3_0))
def scaleRow (x3 : Vec F S1x6x2048 .f32) : FVec F S1x2048 .f32 := k0_pay2 (View.ld x3 (Rect.unit ![0, 4, 0] ![1, 1, 2048] inb_S1x6x2048_S1x1x2048_0_4_0))
def gateRow (x3 : Vec F S1x6x2048 .f32) : Vec F S1x1x2048 .f32 := View.ld x3 (Rect.unit ![0, 5, 0] ![1, 1, 2048] inb_S1x6x2048_S1x1x2048_0_5_0)

/-- The modulated rows of a block: sixteen before it, its own, sixteen after it. -/
def rowsOf (i : grid0.Coords) (x0 : Vec F S1x512x2048 .f32) (x1 x2 : Vec F S1x16x2048 .f32) (x3 : Vec F S1x6x2048 .f32) : FVec F S544x2048 .bf16 :=
  k0_pay8 (shiftRow x3) (scaleRow x3) (k0_pay6 (BitVec.ofNat 32 (i 1).val) (shiftRow x3) (scaleRow x3) x1) (k0_pay7 (shiftRow x3) (scaleRow x3) x0)
    (Scalar.cmpi CmpIPredicate.slt (BitVec.ofNat 32 (i 1).val) 31#32) x2

/-- The chunk's product from the rows, at the first chunk, -/
def firstChunk (h : FVec F S544x2048 .bf16) (x4 x5 : Vec F S2048x512 .bf16) (x6 x7 : Vec F S3x512 .f32) (x8 x9 : Vec F S1x512 .f32)
    (x10 : Vec F S512x2048 .bf16) : FVec F S1x512x2048 .f32 :=
  k0_pay3
    (k0_pay12 (tapA x6) (above (k0_pay14 h x4)) (tapB x6) (level (k0_pay14 h x4)) (tapC x6) (below (k0_pay14 h x4)) x8)
    (k0_pay13 (tapA x7) (above (k0_pay15 h x5)) (tapB x7) (level (k0_pay15 h x5)) (tapC x7) (below (k0_pay15 h x5))) x9 x10

/-- and at a later one, added to the window's contents. -/
def nextChunk (h : FVec F S544x2048 .bf16) (x4 x5 : Vec F S2048x512 .bf16) (x6 x7 : Vec F S3x512 .f32) (x8 x9 : Vec F S1x512 .f32)
    (x10 : Vec F S512x2048 .bf16) (acc : Vec F S1x512x2048 .f32) : FVec F S1x512x2048 .f32 :=
  k0_pay4
    (k0_pay16 (tapA x6) (above (k0_pay14 h x4)) (tapB x6) (level (k0_pay14 h x4)) (tapC x6) (below (k0_pay14 h x4)) x8)
    (k0_pay17 (tapA x6) (above (k0_pay14 h x4)) (tapB x6) (level (k0_pay14 h x4)) (tapC x6) (below (k0_pay14 h x4)) x8)
    (tapA x7) (above (k0_pay15 h x5)) (tapB x7) (level (k0_pay15 h x5)) (tapC x7) (below (k0_pay15 h x5)) x9 x10 acc

theorem read_whole {s : Shape} {e : EltTy} (x : Vec F s e) {off : Fin s.rank → ℕ} (inb : ∀ a, off a + s.size a ≤ s.size a) :
    (fun y => x ((Rect.unit off s.size inb).idx y)) = x :=
  funext fun y => congrArg x (Rect.emb_unit_full inb y)

theorem cov_above (v : View sig .tc .vmem S544x512 .f32) (w : Vec F S544x512 .f32) :
    v.readCov [(⟨Rect.unit ![0, 0] ![544, 512] inb_S544x512_S544x512_0_0, w⟩ : View.Piece (Elt F) S544x512 .f32)] (Rect.unit ![15, 0] ![512, 512] inb_S544x512_S512x512_15_0).toLoadRect = above w :=
  View.readCov_fill v inb_S544x512_S544x512_0_0 w [] _ (by decide)
theorem cov_level (v : View sig .tc .vmem S544x512 .f32) (w : Vec F S544x512 .f32) :
    v.readCov [(⟨Rect.unit ![0, 0] ![544, 512] inb_S544x512_S544x512_0_0, w⟩ : View.Piece (Elt F) S544x512 .f32)] (Rect.unit ![16, 0] ![512, 512] inb_S544x512_S512x512_16_0).toLoadRect = level w :=
  View.readCov_fill v inb_S544x512_S544x512_0_0 w [] _ (by decide)
theorem cov_below (v : View sig .tc .vmem S544x512 .f32) (w : Vec F S544x512 .f32) :
    v.readCov [(⟨Rect.unit ![0, 0] ![544, 512] inb_S544x512_S544x512_0_0, w⟩ : View.Piece (Elt F) S544x512 .f32)] (Rect.unit ![17, 0] ![512, 512] inb_S544x512_S512x512_17_0).toLoadRect = below w :=
  View.readCov_fill v inb_S544x512_S544x512_0_0 w [] _ (by decide)
theorem cov_block (v : View sig .tc .vmem S1x512x2048 .f32) (w : Vec F S1x512x2048 .f32) :
    v.readCov [(⟨Rect.unit ![0, 0, 0] ![1, 512, 2048] inb_S1x512x2048_S1x512x2048_0_0_0, w⟩ : View.Piece (Elt F) S1x512x2048 .f32)] (Rect.unit ![0, 0, 0] ![1, 512, 2048] inb_S1x512x2048_S1x512x2048_0_0_0).toLoadRect = w :=
  View.readCov_full (s := S1x512x2048) v inb_S1x512x2048_S1x512x2048_0_0_0 inb_S1x512x2048_S1x512x2048_0_0_0 w []

theorem pay10_eq (v1 : FVec F S1x2048 .f32) (v3 : FVec F S1x2048 .f32) (v38 : FVec F S16x2048 .bf16) (v57 : FVec F S512x2048 .bf16) (v58 : BitVec 1) (v59 : Vec F S1x16x2048 .f32) (w : Vec F S2048x512 .bf16) :
    k0_pay10 v1 v3 v38 v57 v58 v59 w = k0_pay14 (k0_pay8 v1 v3 v38 v57 v58 v59) w := rfl
theorem pay11_eq (v1 : FVec F S1x2048 .f32) (v3 : FVec F S1x2048 .f32) (v38 : FVec F S16x2048 .bf16) (v57 : FVec F S512x2048 .bf16) (v58 : BitVec 1) (v59 : Vec F S1x16x2048 .f32) (w : Vec F S2048x512 .bf16) :
    k0_pay11 v1 v3 v38 v57 v58 v59 w = k0_pay15 (k0_pay8 v1 v3 v38 v57 v58 v59) w := rfl

theorem pay18_eq (h : Vec F S544x2048 .bf16) (w : Vec F S2048x512 .bf16) : k0_pay18 h w = k0_pay14 h w := rfl
theorem pay19_eq (h : Vec F S544x2048 .bf16) (w : Vec F S2048x512 .bf16) : k0_pay19 h w = k0_pay15 h w := rfl
theorem pay20_eq (a c e : Vec F S1x512 .f32) (b d f : Vec F S512x512 .f32) (g : Vec F S1x512 .f32) : k0_pay20 a b c d e f g = k0_pay16 a b c d e f g := rfl
theorem pay21_eq (a c e : Vec F S1x512 .f32) (b d f : Vec F S512x512 .f32) (g : Vec F S1x512 .f32) : k0_pay21 a b c d e f g = k0_pay17 a b c d e f g := rfl
theorem pay22_eq (s t : FVec F S512x512 .f32) (a c e : Vec F S1x512 .f32) (b d f : Vec F S512x512 .f32) (g : Vec F S1x512 .f32) (w : Vec F S512x2048 .bf16) (o : Vec F S1x512x2048 .f32) :
    k0_pay22 s t a b c d e f g w o = k0_pay4 s t a b c d e f g w o := rfl
theorem pay9_eq (v1 : FVec F S1x2048 .f32) (v3 : FVec F S1x2048 .f32) (v38 : FVec F S16x2048 .bf16) (v57 : FVec F S512x2048 .bf16) (v58 : BitVec 1) (v59 : Vec F S1x16x2048 .f32) :
    k0_pay9 v1 v3 v38 v57 v58 v59 = k0_pay8 v1 v3 v38 v57 v58 v59 := by
  unfold k0_pay9
  funext y
  exact congrFun (shapeCast_self _ _) y

/-- At the first chunk the window holds its product. -/
theorem out_A (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : cond0_0 i) (hc1 : ¬cond0_1 i) (hc2 : ¬cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = firstChunk (rowsOf i x0 x1 x2 x3) x4 x5 x6 x7 x8 x9 x10 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  have w_x11 : (fun y => x11 ((Rect.unit ![0, 0] ![1, 2048] inb_S1x2048_S1x2048_0_0).idx y)) = x11 := read_whole x11 _
  unfold out0_A_12 kernelRun0_A
  dsimp only
  rw [View.read_writes_full]
  simp only [kernelRun0_A.sl.r, kernelRun0_A.sl.r_1, kernelRun0_A.sl.r_2, kernelRun0_A.sl.r_3, kernelRun0_A.sl.v58, kernelRun0_A.sl.v97, kernelRun0_A.sl.v101, kernelRun0_A.sl.v106, kernelRun0_A.sl.v117, kernelRun0_A.sl.v121, kernelRun0_A.sl.v126, kernelRun0_A.sl.HS1_1, kernelRun0_A.sl.HS2_1, e0, e1, e2, e3, e4, e5, e6, e7, e8, e9, e10, e11]
  simp only [w_x0, w_x1, w_x2, w_x4, w_x5, w_x8, w_x9, w_x10, w_x11, cov_above, cov_level, cov_below, cov_block, pay9_eq, pay10_eq, pay11_eq, pay18_eq, pay19_eq, pay20_eq, pay21_eq, pay22_eq]
  rfl

/-- At the first chunk the scratch takes the rows. -/
theorem rows_A (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : cond0_0 i) (hc1 : ¬cond0_1 i) (hc2 : ¬cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = rowsOf i x0 x1 x2 x3 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  have w_x11 : (fun y => x11 ((Rect.unit ![0, 0] ![1, 2048] inb_S1x2048_S1x2048_0_0).idx y)) = x11 := read_whole x11 _
  unfold sout0_A_0 kernelRun0_A
  dsimp only
  rw [View.read_writes_full]
  simp only [kernelRun0_A.sl.r, kernelRun0_A.sl.r_1, kernelRun0_A.sl.r_2, kernelRun0_A.sl.r_3, kernelRun0_A.sl.v58, kernelRun0_A.sl.v97, kernelRun0_A.sl.v101, kernelRun0_A.sl.v106, kernelRun0_A.sl.v117, kernelRun0_A.sl.v121, kernelRun0_A.sl.v126, kernelRun0_A.sl.HS1_1, kernelRun0_A.sl.HS2_1, e0, e1, e2, e3, e4, e5, e6, e7, e8, e9, e10, e11]
  simp only [w_x0, w_x1, w_x2, w_x4, w_x5, w_x8, w_x9, w_x10, w_x11, cov_above, cov_level, cov_below, cov_block, pay9_eq, pay10_eq, pay11_eq, pay18_eq, pay19_eq, pay20_eq, pay21_eq, pay22_eq]
  rfl

/-- At a middle chunk the product is added. -/
theorem out_B (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : ¬cond0_0 i) (hc1 : cond0_1 i) (hc2 : ¬cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) (xo12 : Vec F S1x512x2048 .f32) (xs0 : Vec F S544x2048 .bf16) :
    out0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = nextChunk xs0 x4 x5 x6 x7 x8 x9 x10 xo12 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have e12 : ∀ B, View.readAt (Elt F) arg15.view B (harg15.unread xo12) = fun y => xo12 (B.idx y) := fun B => funext fun y => harg15.readAt_unread xo12 B y
  have e13 : ∀ B, View.readAt (Elt F) arg16.view B (harg16.unread xs0) = fun y => xs0 (B.idx y) := fun B => funext fun y => harg16.readAt_unread xs0 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  have w_x11 : (fun y => x11 ((Rect.unit ![0, 0] ![1, 2048] inb_S1x2048_S1x2048_0_0).idx y)) = x11 := read_whole x11 _
  have w_xo12 : (fun y => xo12 ((Rect.unit ![0, 0, 0] ![1, 512, 2048] inb_S1x512x2048_S1x512x2048_0_0_0).idx y)) = xo12 := read_whole xo12 _
  have w_xs0 : (fun y => xs0 ((Rect.unit ![0, 0] ![544, 2048] inb_S544x2048_S544x2048_0_0).idx y)) = xs0 := read_whole xs0 _
  unfold out0_B_12 kernelRun0_B
  dsimp only
  rw [View.read_writes_full]
  simp only [kernelRun0_B.sl.r, kernelRun0_B.sl.r_1, kernelRun0_B.sl.v31, kernelRun0_B.sl.v35, kernelRun0_B.sl.v40, kernelRun0_B.sl.v51, kernelRun0_B.sl.v55, kernelRun0_B.sl.v60, kernelRun0_B.sl.HS1_1, kernelRun0_B.sl.HS2_1, e0, e1, e2, e3, e4, e5, e6, e7, e8, e9, e10, e11, e12, e13]
  simp only [w_x0, w_x1, w_x2, w_x4, w_x5, w_x8, w_x9, w_x10, w_x11, w_xo12, w_xs0, cov_above, cov_level, cov_below, cov_block, pay9_eq, pay10_eq, pay11_eq, pay18_eq, pay19_eq, pay20_eq, pay21_eq, pay22_eq]
  rfl

/-- At the last chunk it is added, and then come the residual and the norm. -/
theorem out_C (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : ¬cond0_0 i) (hc1 : ¬cond0_1 i) (hc2 : cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) (xo12 : Vec F S1x512x2048 .f32) (xs0 : Vec F S544x2048 .bf16) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = k0_pay5 (gateRow x3) (k0_pay23 x0) (nextChunk xs0 x4 x5 x6 x7 x8 x9 x10 xo12) x11 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have e12 : ∀ B, View.readAt (Elt F) arg15.view B (harg15.unread xo12) = fun y => xo12 (B.idx y) := fun B => funext fun y => harg15.readAt_unread xo12 B y
  have e13 : ∀ B, View.readAt (Elt F) arg16.view B (harg16.unread xs0) = fun y => xs0 (B.idx y) := fun B => funext fun y => harg16.readAt_unread xs0 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  have w_x11 : (fun y => x11 ((Rect.unit ![0, 0] ![1, 2048] inb_S1x2048_S1x2048_0_0).idx y)) = x11 := read_whole x11 _
  have w_xo12 : (fun y => xo12 ((Rect.unit ![0, 0, 0] ![1, 512, 2048] inb_S1x512x2048_S1x512x2048_0_0_0).idx y)) = xo12 := read_whole xo12 _
  have w_xs0 : (fun y => xs0 ((Rect.unit ![0, 0] ![544, 2048] inb_S544x2048_S544x2048_0_0).idx y)) = xs0 := read_whole xs0 _
  unfold out0_C_12 kernelRun0_C
  dsimp only
  rw [View.read_writes_full]
  simp only [kernelRun0_C.sl.r, kernelRun0_C.sl.r_1, kernelRun0_C.sl.r_2, kernelRun0_C.sl.v31, kernelRun0_C.sl.v35, kernelRun0_C.sl.v40, kernelRun0_C.sl.v51, kernelRun0_C.sl.v55, kernelRun0_C.sl.v60, kernelRun0_C.sl.v81, kernelRun0_C.sl.H12_1, kernelRun0_C.sl.HS1_1, kernelRun0_C.sl.HS2_1, e0, e1, e2, e3, e4, e5, e6, e7, e8, e9, e10, e11, e12, e13]
  simp only [w_x0, w_x1, w_x2, w_x4, w_x5, w_x8, w_x9, w_x10, w_x11, w_xo12, w_xs0, cov_above, cov_level, cov_below, cov_block, pay9_eq, pay10_eq, pay11_eq, pay18_eq, pay19_eq, pay20_eq, pay21_eq, pay22_eq]
  rfl

end Cert.Feed
end
-- ==== Proof.FfnClosed.lean ====
/- The feed-forward call over the extended reals, row by row: the formulas that both the kernel and the reference compute. -/
module

public import Idealize.ShloMosaic.Lib.Pointwise

@[expose] public section

noncomputable section

namespace Cert.Feed

open Idealize.ShloMosaic

/-- The f32 words of 2048 and of the norm's epsilon, as extended reals. -/
def width : EReal := Ideal.ofBits .f32 0x45000000#32
def eps : EReal := Ideal.ofBits .f32 0x358637BD#32

/-- The reciprocal root mean square of a row. -/
def normFactor (row : Fin 2048 → EReal) : EReal :=
  Ideal.rsqrt (Ideal.div (∑ d, row d * row d) width + eps)

/-- `g · 1 / (1 + exp (−g))`. -/
def silu (g : EReal) : EReal := g * Ideal.div 1 (1 + Ideal.exp (-g))

end Cert.Feed

end
-- ==== Proof.FfnStep.lean ====
/- The feed-forward kernel's payloads over the extended reals, each read at an index. -/
module

public import proofs.«01_k».proof.Proof.FfnPieces
public import proofs.«01_k».proof.Proof.FfnClosed
public import Idealize.ShloMosaic.Lib.Pointwise

@[expose] public section

set_option maxRecDepth 16384
set_option backward.isDefEq.respectTransparency false

noncomputable section

namespace Cert.Feed

open Idealize.ShloMosaic Idealize.ShloMosaic.TcCoe
open Cert.FfnIdeal Cert.FfnIdeal.Gen

/-- A row over its root mean square, scaled and shifted. -/
def modulated (x sc sh : Fin 2048 → EReal) (d : Fin 2048) : EReal := x d * normFactor x * (1 + sc d) + sh d

theorem shiftRow_apply (x3 : Vec Ideal S1x6x2048 .f32) (d : Fin 2048) : shiftRow x3 (ix2 0 d) = x3 (ix3 0 3 d) := by
  unfold shiftRow
  pointwise [k0_pay1]

theorem scaleRow_apply (x3 : Vec Ideal S1x6x2048 .f32) (d : Fin 2048) : scaleRow x3 (ix2 0 d) = x3 (ix3 0 4 d) := by
  unfold scaleRow
  pointwise [k0_pay2]

theorem gateRow_apply (x3 : Vec Ideal S1x6x2048 .f32) (d : Fin 2048) : gateRow x3 (ix3 0 0 d) = x3 (ix3 0 5 d) := by
  unfold gateRow
  pointwise

theorem pay6_apply (n : BitVec 32) (v1 v3 : FVec Ideal S1x2048 .f32) (x : Vec Ideal S1x16x2048 .f32) (r : Fin 16) (d : Fin 2048) :
    k0_pay6 n v1 v3 x (ix2 r d) = Scalar.select (Scalar.cmpi .sgt n 0#32)
      (modulated (fun e => x (ix3 0 r e)) (fun e => v3 (ix2 0 e)) (fun e => v1 (ix2 0 e)) d) 0 := by
  pointwise [k0_pay6]
  rfl

theorem pay7_apply (v1 v3 : FVec Ideal S1x2048 .f32) (x : Vec Ideal S1x512x2048 .f32) (r : Fin 512) (d : Fin 2048) :
    k0_pay7 v1 v3 x (ix2 r d) = modulated (fun e => x (ix3 0 r e)) (fun e => v3 (ix2 0 e)) (fun e => v1 (ix2 0 e)) d := by
  pointwise [k0_pay7]
  rfl

theorem pay8_apply (v1 v3 : FVec Ideal S1x2048 .f32) (v38 : FVec Ideal S16x2048 .bf16) (v57 : FVec Ideal S512x2048 .bf16) (v58 : BitVec 1)
    (x : Vec Ideal S1x16x2048 .f32) (r : Fin 544) (d : Fin 2048) :
    k0_pay8 v1 v3 v38 v57 v58 x (ix2 r d) = if h : r.val < 16 then v38 (ix2 ⟨r.val, h⟩ d) else if h' : r.val - 16 < 512 then v57 (ix2 ⟨r.val - 16, h'⟩ d)
      else Scalar.select v58 (modulated (fun e => x (ix3 0 ⟨r.val - 16 - 512, by omega⟩ e)) (fun e => v3 (ix2 0 e)) (fun e => v1 (ix2 0 e)) d) 0 := by
  pointwise [k0_pay8]
  rfl

theorem pay14_apply (h : FVec Ideal S544x2048 .bf16) (w : FVec Ideal S2048x512 .bf16) (r : Fin 544) (j : Fin 512) :
    (k0_pay14 (F := Ideal) h w (ix2 r j) : EReal) = ∑ d : Fin 2048, h (ix2 r d) * w (ix2 d j) := by
  pointwise [k0_pay14]

theorem pay15_apply (h : FVec Ideal S544x2048 .bf16) (w : FVec Ideal S2048x512 .bf16) (r : Fin 544) (j : Fin 512) :
    (k0_pay15 (F := Ideal) h w (ix2 r j) : EReal) = ∑ d : Fin 2048, h (ix2 r d) * w (ix2 d j) := by
  pointwise [k0_pay15]

/-- Three taps. -/
def taps (a u b v c w : EReal) : EReal := a * u + b * v + c * w

theorem pay12_apply (a b c : Vec Ideal S1x512 .f32) (u v w : Vec Ideal S512x512 .f32) (g : Vec Ideal S1x512 .f32) (r : Fin 512) (j : Fin 512) :
    k0_pay12 a u b v c w g (ix2 r j) =
      silu (taps (a (ix2 0 j)) (u (ix2 r j)) (b (ix2 0 j)) (v (ix2 r j)) (c (ix2 0 j)) (w (ix2 r j)) + g (ix2 0 j)) := by
  pointwise [k0_pay12]
  rfl

theorem pay13_apply (a b c : Vec Ideal S1x512 .f32) (u v w : Vec Ideal S512x512 .f32) (r : Fin 512) (j : Fin 512) :
    k0_pay13 a u b v c w (ix2 r j) = taps (a (ix2 0 j)) (u (ix2 r j)) (b (ix2 0 j)) (v (ix2 r j)) (c (ix2 0 j)) (w (ix2 r j)) := by
  pointwise [k0_pay13]
  rfl

theorem pay16_apply (a b c : Vec Ideal S1x512 .f32) (u v w : Vec Ideal S512x512 .f32) (g : Vec Ideal S1x512 .f32) (r : Fin 512) (j : Fin 512) :
    k0_pay16 a u b v c w g (ix2 r j) =
      taps (a (ix2 0 j)) (u (ix2 r j)) (b (ix2 0 j)) (v (ix2 r j)) (c (ix2 0 j)) (w (ix2 r j)) + g (ix2 0 j) := by
  pointwise [k0_pay16]
  rfl

theorem pay17_apply (a b c : Vec Ideal S1x512 .f32) (u v w : Vec Ideal S512x512 .f32) (g : Vec Ideal S1x512 .f32) (r : Fin 512) (j : Fin 512) :
    k0_pay17 a u b v c w g (ix2 r j) = Ideal.div 1 (1 + Ideal.exp (-(k0_pay16 a u b v c w g (ix2 r j)))) := by
  unfold k0_pay17
  rfl

theorem pay3_apply (s t : FVec Ideal S512x512 .f32) (b : Vec Ideal S1x512 .f32) (w : Vec Ideal S512x2048 .bf16) (r : Fin 512) (d : Fin 2048) :
    k0_pay3 s t b w (ix3 0 r d) = ∑ j : Fin 512, s (ix2 r j) * (t (ix2 r j) + b (ix2 0 j)) * w (ix2 j d) := by
  pointwise [k0_pay3]

theorem pay4_apply (s t : FVec Ideal S512x512 .f32) (a b c : Vec Ideal S1x512 .f32) (u v w : Vec Ideal S512x512 .f32) (g : Vec Ideal S1x512 .f32)
    (wd : Vec Ideal S512x2048 .bf16) (acc : Vec Ideal S1x512x2048 .f32) (r : Fin 512) (d : Fin 2048) :
    k0_pay4 s t a u b v c w g wd acc (ix3 0 r d) = acc (ix3 0 r d) + ∑ j : Fin 512, s (ix2 r j) * t (ix2 r j) *
      (taps (a (ix2 0 j)) (u (ix2 r j)) (b (ix2 0 j)) (v (ix2 r j)) (c (ix2 0 j)) (w (ix2 r j)) + g (ix2 0 j)) * wd (ix2 j d) := by
  pointwise [k0_pay4]
  rfl

theorem pay5_apply (g : Vec Ideal S1x1x2048 .f32) (x : Vec Ideal S1x512x2048 .f32) (acc : Vec Ideal S1x512x2048 .f32) (fg : Vec Ideal S1x2048 .f32) (r : Fin 512) (d : Fin 2048) :
    k0_pay5 g (k0_pay23 x) acc fg (ix3 0 r d) =
      (x (ix3 0 r d) + g (ix3 0 0 d) * acc (ix3 0 r d)) * normFactor (fun e => x (ix3 0 r e) + g (ix3 0 0 e) * acc (ix3 0 r e)) * fg (ix2 0 d) := by
  pointwise [k0_pay5, k0_pay23]
  rfl

theorem above_apply (u : Vec Ideal S544x512 .f32) (r : Fin 512) (j : Fin 512) : above u (ix2 r j) = u (ix2 ⟨15 + r.val, by omega⟩ j) := by
  unfold above
  pointwise
theorem level_apply (u : Vec Ideal S544x512 .f32) (r : Fin 512) (j : Fin 512) : level u (ix2 r j) = u (ix2 ⟨16 + r.val, by omega⟩ j) := by
  unfold level
  pointwise
theorem below_apply (u : Vec Ideal S544x512 .f32) (r : Fin 512) (j : Fin 512) : below u (ix2 r j) = u (ix2 ⟨17 + r.val, by omega⟩ j) := by
  unfold below
  pointwise
theorem tapA_apply (k : Vec Ideal S3x512 .f32) (j : Fin 512) : tapA k (ix2 0 j) = k (ix2 0 j) := by
  unfold tapA
  pointwise
theorem tapB_apply (k : Vec Ideal S3x512 .f32) (j : Fin 512) : tapB k (ix2 0 j) = k (ix2 1 j) := by
  unfold tapB
  pointwise
theorem tapC_apply (k : Vec Ideal S3x512 .f32) (j : Fin 512) : tapC k (ix2 0 j) = k (ix2 2 j) := by
  unfold tapC
  pointwise

/-- A channel of the up projection of a row. -/
def up (h : FVec Ideal S544x2048 .bf16) (w : FVec Ideal S2048x512 .bf16) (r : Fin 544) (j : Fin 512) : EReal :=
  ∑ d : Fin 2048, h (ix2 r d) * w (ix2 d j)

/-- The convolution over positions, with its bias. -/
def conv3 (h : FVec Ideal S544x2048 .bf16) (w : FVec Ideal S2048x512 .bf16) (k : Vec Ideal S3x512 .f32) (b : Vec Ideal S1x512 .f32) (r : Fin 512) (j : Fin 512) : EReal :=
  taps (k (ix2 0 j)) (up h w ⟨15 + r.val, by omega⟩ j) (k (ix2 1 j)) (up h w ⟨16 + r.val, by omega⟩ j) (k (ix2 2 j)) (up h w ⟨17 + r.val, by omega⟩ j) + b (ix2 0 j)

/-- The chunk's product. -/
def chunk (h : FVec Ideal S544x2048 .bf16) (x4 x5 : Vec Ideal S2048x512 .bf16) (x6 x7 : Vec Ideal S3x512 .f32) (x8 x9 : Vec Ideal S1x512 .f32)
    (x10 : Vec Ideal S512x2048 .bf16) (r : Fin 512) (d : Fin 2048) : EReal :=
  ∑ j : Fin 512, silu (conv3 h x4 x6 x8 r j) * conv3 h x5 x7 x9 r j * x10 (ix2 j d)

theorem firstChunk_apply (h : FVec Ideal S544x2048 .bf16) (x4 x5 : Vec Ideal S2048x512 .bf16) (x6 x7 : Vec Ideal S3x512 .f32) (x8 x9 : Vec Ideal S1x512 .f32)
    (x10 : Vec Ideal S512x2048 .bf16) (r : Fin 512) (d : Fin 2048) :
    firstChunk h x4 x5 x6 x7 x8 x9 x10 (ix3 0 r d) = chunk h x4 x5 x6 x7 x8 x9 x10 r d := by
  unfold firstChunk
  rw [pay3_apply]
  refine Finset.sum_congr rfl fun j _ => ?_
  rw [pay12_apply, pay13_apply]
  simp only [above_apply, level_apply, below_apply, tapA_apply, tapB_apply, tapC_apply, pay14_apply, pay15_apply]
  rfl

theorem nextChunk_apply (h : FVec Ideal S544x2048 .bf16) (x4 x5 : Vec Ideal S2048x512 .bf16) (x6 x7 : Vec Ideal S3x512 .f32) (x8 x9 : Vec Ideal S1x512 .f32)
    (x10 : Vec Ideal S512x2048 .bf16) (acc : Vec Ideal S1x512x2048 .f32) (r : Fin 512) (d : Fin 2048) :
    nextChunk h x4 x5 x6 x7 x8 x9 x10 acc (ix3 0 r d) = acc (ix3 0 r d) + chunk h x4 x5 x6 x7 x8 x9 x10 r d := by
  unfold nextChunk
  rw [pay4_apply]
  refine congrArg (acc (ix3 0 r d) + ·) (Finset.sum_congr rfl fun j _ => ?_)
  rw [pay17_apply, pay16_apply]
  simp only [above_apply, level_apply, below_apply, tapA_apply, tapB_apply, tapC_apply, pay14_apply, pay15_apply]
  rfl

/-- The rows' modulation, read at a row: the sixteen rows before the block (zero at the sequence's start), the block's own, and
    the sixteen after it (zero at the sequence's end). -/
theorem rowsOf_apply (i : grid0.Coords) (x0 : Vec Ideal S1x512x2048 .f32) (x1 x2 : Vec Ideal S1x16x2048 .f32) (x3 : Vec Ideal S1x6x2048 .f32) (r : Fin 544) (d : Fin 2048) :
    rowsOf i x0 x1 x2 x3 (ix2 r d) =
      if h : r.val < 16 then Scalar.select (Scalar.cmpi .sgt (BitVec.ofNat 32 (i 1).val) 0#32)
        (modulated (fun e => x1 (ix3 0 ⟨r.val, h⟩ e)) (fun e => x3 (ix3 0 4 e)) (fun e => x3 (ix3 0 3 e)) d) 0
      else if h' : r.val - 16 < 512 then modulated (fun e => x0 (ix3 0 ⟨r.val - 16, h'⟩ e)) (fun e => x3 (ix3 0 4 e)) (fun e => x3 (ix3 0 3 e)) d
      else Scalar.select (Scalar.cmpi .slt (BitVec.ofNat 32 (i 1).val) 31#32)
        (modulated (fun e => x2 (ix3 0 ⟨r.val - 16 - 512, by omega⟩ e)) (fun e => x3 (ix3 0 4 e)) (fun e => x3 (ix3 0 3 e)) d) 0 := by
  unfold rowsOf
  rw [pay8_apply]
  simp only [pay6_apply, pay7_apply, shiftRow_apply, scaleRow_apply]

end Cert.Feed
end
-- ==== Proof.FfnBlocks.lean ====
/- The blocks that the feed-forward call's index maps place at a grid point (batch b, row block s, chunk f), as functions of the
   arrays. -/
module

public import proofs.«01_k».proof.Proof.FfnStep
public import Idealize.ShloMosaic.Lib.Pipeline.ValueKit.Geometry
public import Idealize.ShloMosaic.Lib.Pipeline.Covers

@[expose] public section

set_option maxRecDepth 16384
set_option backward.isDefEq.respectTransparency false

noncomputable section

namespace Cert.Feed

open Idealize.ShloMosaic Idealize.ShloMosaic.TcCoe
open Cert.FfnIdeal Cert.FfnIdeal.Gen

variable (m : (ℓ : Loc nD τ sig) → Buf (Elt Ideal) ℓ) (c : Dev nD)

/-- The grid's words. -/
theorem word_batch (b : Fin 2) : (BitVec.ofNat 32 b.val).toNat = b.val := by revert b; decide +kernel
theorem word_block (s : Fin 32) : (BitVec.ofNat 32 s.val).toNat = s.val := by revert s; decide +kernel
theorem word_chunk (f : Fin 11) : (BitVec.ofNat 32 f.val).toNat = f.val := by revert f; decide +kernel
theorem word_half (f : Fin 11) : (Scalar.addi 11#32 (BitVec.ofNat 32 f.val)).toNat = 11 + f.val := by revert f; decide +kernel
theorem word_prev (s : Fin 32) : (Scalar.maxsi (Scalar.subi (Scalar.muli (BitVec.ofNat 32 s.val) 32#32) 1#32) 0#32).toNat = 32 * s.val - 1 := by
  revert s; decide +kernel
theorem word_next (s : Fin 32) : (Scalar.minsi (Scalar.muli (Scalar.addi (BitVec.ofNat 32 s.val) 1#32) 32#32) 1023#32).toNat = min (32 * s.val + 32) 1023 := by
  revert s; decide +kernel

/-- The blocks of point (b, s, f): the block's rows, -/
def xBlk (X : S2x16384x2048.Idx → EReal) (b : Fin 2) (s : Fin 32) : Vec Ideal S1x512x2048 .f32 :=
  fun y => X (ix3 b ⟨512 * s.val + (y 1).val, by have h : (y 1).val < 512 := (y 1).isLt; omega⟩ ⟨(y 2).val, (y 2).isLt⟩)

/-- the sixteen rows before them, -/
def prevBlk (X : S2x16384x2048.Idx → EReal) (b : Fin 2) (s : Fin 32) : Vec Ideal S1x16x2048 .f32 :=
  fun y => X (ix3 b ⟨16 * (32 * s.val - 1) + (y 1).val, by have h : (y 1).val < 16 := (y 1).isLt; omega⟩ ⟨(y 2).val, (y 2).isLt⟩)

/-- the sixteen after them, -/
def nextBlk (X : S2x16384x2048.Idx → EReal) (b : Fin 2) (s : Fin 32) : Vec Ideal S1x16x2048 .f32 :=
  fun y => X (ix3 b ⟨16 * min (32 * s.val + 32) 1023 + (y 1).val, by have h : (y 1).val < 16 := (y 1).isLt; omega⟩ ⟨(y 2).val, (y 2).isLt⟩)

/-- the batch's modulation, -/
def mBlk (M : S2x6x2048.Idx → EReal) (b : Fin 2) : Vec Ideal S1x6x2048 .f32 :=
  fun y => M (ix3 b ⟨(y 1).val, (y 1).isLt⟩ ⟨(y 2).val, (y 2).isLt⟩)

/-- the chunk's columns of the up projection, in the gate's half (`o = 0`) and in the value's (`o = 1`), -/
def wBlk (W : S2048x11264.Idx → EReal) (o : Fin 2) (f : Fin 11) : Vec Ideal S2048x512 .bf16 :=
  fun y => W (ix2 ⟨(y 0).val, (y 0).isLt⟩ ⟨(11 * o.val + f.val) * 512 + (y 1).val, by have h : (y 1).val < 512 := (y 1).isLt; omega⟩)

/-- of the filter, -/
def kBlk (K : S3x11264.Idx → EReal) (o : Fin 2) (f : Fin 11) : Vec Ideal S3x512 .f32 :=
  fun y => K (ix2 ⟨(y 0).val, (y 0).isLt⟩ ⟨(11 * o.val + f.val) * 512 + (y 1).val, by have h : (y 1).val < 512 := (y 1).isLt; omega⟩)

/-- of the bias, -/
def bBlk (B : S1x11264.Idx → EReal) (o : Fin 2) (f : Fin 11) : Vec Ideal S1x512 .f32 :=
  fun y => B (ix2 ⟨(y 0).val, (y 0).isLt⟩ ⟨(11 * o.val + f.val) * 512 + (y 1).val, by have h : (y 1).val < 512 := (y 1).isLt; omega⟩)

/-- and its rows of the down projection. -/
def dBlk (D : S5632x2048.Idx → EReal) (f : Fin 11) : Vec Ideal S512x2048 .bf16 :=
  fun y => D (ix2 ⟨f.val * 512 + (y 0).val, by have h : (y 0).val < 512 := (y 0).isLt; omega⟩ ⟨(y 1).val, (y 1).isLt⟩)

variable (t : Fin cfg0.N)

theorem place_0 (y : S1x512x2048.Idx) (a : Fin 3) :
    (((cfg0.win 0).blk t).view.emb y a).val = (![((grid0.coords t) 0).val * 1, ((grid0.coords t) 1).val * 512, 0 * 2048] : Fin 3 → Nat) a + (y a).val := by
  refine (Pipeline.Window.rect_emb_val_off (cfg0.win 0) t y a).trans ?_
  have i0 : (cfg0.win 0).index t a = (![((grid0.coords t) 0).val, ((grid0.coords t) 1).val, 0] : Fin 3 → Nat) a := by
    show cc0_transform_0 (grid0.coords t) a = _
    have e : cc0_transform_0 (grid0.coords t) = ![(BitVec.ofNat 32 ((grid0.coords t) 0).val).toNat, (BitVec.ofNat 32 ((grid0.coords t) 1).val).toNat, (0#32).toNat] := rfl
    rw [e, word_batch, word_block]; rfl
  rw [i0]
  clear i0
  match a with
  | 0 => rfl
  | 1 => rfl
  | 2 => rfl

theorem blk_0 : (iblk m c 0 t : S1x512x2048.Idx → EReal) = xBlk (V m c main_arg0) ((grid0.coords t) 0) ((grid0.coords t) 1) := by
  funext (y : S1x512x2048.Idx)
  have e := place_0 t y
  unfold xBlk
  refine congrArg (V m c main_arg0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show ((grid0.coords t) 1).val * 512 + (y 1).val = 512 * ((grid0.coords t) 1).val + (y 1).val; omega
  | 2 => show 0 * 2048 + (y 2).val = (y 2).val; omega

theorem place_1 (y : S1x16x2048.Idx) (a : Fin 3) :
    (((cfg0.win 1).blk t).view.emb y a).val = (![((grid0.coords t) 0).val * 1, (32 * ((grid0.coords t) 1).val - 1) * 16, 0 * 2048] : Fin 3 → Nat) a + (y a).val := by
  refine (Pipeline.Window.rect_emb_val_off (cfg0.win 1) t y a).trans ?_
  have i0 : (cfg0.win 1).index t a = (![((grid0.coords t) 0).val, (32 * ((grid0.coords t) 1).val - 1), 0] : Fin 3 → Nat) a := by
    show cc0_transform_1 (grid0.coords t) a = _
    have e : cc0_transform_1 (grid0.coords t) = ![(BitVec.ofNat 32 ((grid0.coords t) 0).val).toNat, (Scalar.maxsi (Scalar.subi (Scalar.muli (BitVec.ofNat 32 ((grid0.coords t) 1).val) 32#32) 1#32) 0#32).toNat, (0#32).toNat] := rfl
    rw [e, word_batch, word_prev]; rfl
  rw [i0]
  clear i0
  match a with
  | 0 => rfl
  | 1 => rfl
  | 2 => rfl

theorem blk_1 : (iblk m c 1 t : S1x16x2048.Idx → EReal) = prevBlk (V m c main_arg0) ((grid0.coords t) 0) ((grid0.coords t) 1) := by
  funext (y : S1x16x2048.Idx)
  have e := place_1 t y
  unfold prevBlk
  refine congrArg (V m c main_arg0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show (32 * ((grid0.coords t) 1).val - 1) * 16 + (y 1).val = 16 * (32 * ((grid0.coords t) 1).val - 1) + (y 1).val; omega
  | 2 => show 0 * 2048 + (y 2).val = (y 2).val; omega

theorem place_2 (y : S1x16x2048.Idx) (a : Fin 3) :
    (((cfg0.win 2).blk t).view.emb y a).val = (![((grid0.coords t) 0).val * 1, min (32 * ((grid0.coords t) 1).val + 32) 1023 * 16, 0 * 2048] : Fin 3 → Nat) a + (y a).val := by
  refine (Pipeline.Window.rect_emb_val_off (cfg0.win 2) t y a).trans ?_
  have i0 : (cfg0.win 2).index t a = (![((grid0.coords t) 0).val, min (32 * ((grid0.coords t) 1).val + 32) 1023, 0] : Fin 3 → Nat) a := by
    show cc0_transform_2 (grid0.coords t) a = _
    have e : cc0_transform_2 (grid0.coords t) = ![(BitVec.ofNat 32 ((grid0.coords t) 0).val).toNat, (Scalar.minsi (Scalar.muli (Scalar.addi (BitVec.ofNat 32 ((grid0.coords t) 1).val) 1#32) 32#32) 1023#32).toNat, (0#32).toNat] := rfl
    rw [e, word_batch, word_next]; rfl
  rw [i0]
  clear i0
  match a with
  | 0 => rfl
  | 1 => rfl
  | 2 => rfl

theorem blk_2 : (iblk m c 2 t : S1x16x2048.Idx → EReal) = nextBlk (V m c main_arg0) ((grid0.coords t) 0) ((grid0.coords t) 1) := by
  funext (y : S1x16x2048.Idx)
  have e := place_2 t y
  unfold nextBlk
  refine congrArg (V m c main_arg0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show min (32 * ((grid0.coords t) 1).val + 32) 1023 * 16 + (y 1).val = 16 * min (32 * ((grid0.coords t) 1).val + 32) 1023 + (y 1).val; omega
  | 2 => show 0 * 2048 + (y 2).val = (y 2).val; omega

theorem place_3 (y : S1x6x2048.Idx) (a : Fin 3) :
    (((cfg0.win 3).blk t).view.emb y a).val = (![((grid0.coords t) 0).val * 1, 0 * 6, 0 * 2048] : Fin 3 → Nat) a + (y a).val := by
  refine (Pipeline.Window.rect_emb_val_off (cfg0.win 3) t y a).trans ?_
  have i0 : (cfg0.win 3).index t a = (![((grid0.coords t) 0).val, 0, 0] : Fin 3 → Nat) a := by
    show cc0_transform_3 (grid0.coords t) a = _
    have e : cc0_transform_3 (grid0.coords t) = ![(BitVec.ofNat 32 ((grid0.coords t) 0).val).toNat, (0#32).toNat, (0#32).toNat] := rfl
    rw [e, word_batch]; rfl
  rw [i0]
  clear i0
  match a with
  | 0 => rfl
  | 1 => rfl
  | 2 => rfl

theorem blk_3 : (iblk m c 3 t : S1x6x2048.Idx → EReal) = mBlk (V m c main_v0) ((grid0.coords t) 0) := by
  funext (y : S1x6x2048.Idx)
  have e := place_3 t y
  unfold mBlk
  refine congrArg (V m c main_v0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show 0 * 6 + (y 1).val = (y 1).val; omega
  | 2 => show 0 * 2048 + (y 2).val = (y 2).val; omega

theorem place_4 (y : S2048x512.Idx) (a : Fin 2) :
    (((cfg0.win 4).blk t).view.emb y a).val = (![0 * 2048, ((grid0.coords t) 2).val * 512] : Fin 2 → Nat) a + (y a).val := by
  refine (Pipeline.Window.rect_emb_val_off (cfg0.win 4) t y a).trans ?_
  have i0 : (cfg0.win 4).index t a = (![0, ((grid0.coords t) 2).val] : Fin 2 → Nat) a := by
    show cc0_transform_4 (grid0.coords t) a = _
    have e : cc0_transform_4 (grid0.coords t) = ![(0#32).toNat, (BitVec.ofNat 32 ((grid0.coords t) 2).val).toNat] := rfl
    rw [e, word_chunk]; rfl
  rw [i0]
  clear i0
  match a with
  | 0 => rfl
  | 1 => rfl

theorem blk_4 : (iblk m c 4 t : S2048x512.Idx → EReal) = wBlk (V m c main_v1) 0 ((grid0.coords t) 2) := by
  funext (y : S2048x512.Idx)
  have e := place_4 t y
  unfold wBlk
  refine congrArg (V m c main_v1) ?_
  funext (a : Fin 2)
  refine Fin.ext ((e a).trans ?_)
  match a with
  | 0 => show 0 * 2048 + (y 0).val = (y 0).val; omega
  | 1 => show ((grid0.coords t) 2).val * 512 + (y 1).val = (11 * 0 + ((grid0.coords t) 2).val) * 512 + (y 1).val; omega

theorem place_5 (y : S2048x512.Idx) (a : Fin 2) :
    (((cfg0.win 5).blk t).view.emb y a).val = (![0 * 2048, (11 + ((grid0.coords t) 2).val) * 512] : Fin 2 → Nat) a + (y a).val := by
  refine (Pipeline.Window.rect_emb_val_off (cfg0.win 5) t y a).trans ?_
  have i0 : (cfg0.win 5).index t a = (![0, (11 + ((grid0.coords t) 2).val)] : Fin 2 → Nat) a := by
    show cc0_transform_5 (grid0.coords t) a = _
    have e : cc0_transform_5 (grid0.coords t) = ![(0#32).toNat, (Scalar.addi 11#32 (BitVec.ofNat 32 ((grid0.coords t) 2).val)).toNat] := rfl
    rw [e, word_half]; rfl
  rw [i0]
  clear i0
  match a with
  | 0 => rfl
  | 1 => rfl

theorem blk_5 : (iblk m c 5 t : S2048x512.Idx → EReal) = wBlk (V m c main_v1) 1 ((grid0.coords t) 2) := by
  funext (y : S2048x512.Idx)
  have e := place_5 t y
  unfold wBlk
  refine congrArg (V m c main_v1) ?_
  funext (a : Fin 2)
  refine Fin.ext ((e a).trans ?_)
  match a with
  | 0 => show 0 * 2048 + (y 0).val = (y 0).val; omega
  | 1 => show (11 + ((grid0.coords t) 2).val) * 512 + (y 1).val = (11 * 1 + ((grid0.coords t) 2).val) * 512 + (y 1).val; omega

theorem place_6 (y : S3x512.Idx) (a : Fin 2) :
    (((cfg0.win 6).blk t).view.emb y a).val = (![0 * 3, ((grid0.coords t) 2).val * 512] : Fin 2 → Nat) a + (y a).val := by
  refine (Pipeline.Window.rect_emb_val_off (cfg0.win 6) t y a).trans ?_
  have i0 : (cfg0.win 6).index t a = (![0, ((grid0.coords t) 2).val] : Fin 2 → Nat) a := by
    show cc0_transform_6 (grid0.coords t) a = _
    have e : cc0_transform_6 (grid0.coords t) = ![(0#32).toNat, (BitVec.ofNat 32 ((grid0.coords t) 2).val).toNat] := rfl
    rw [e, word_chunk]; rfl
  rw [i0]
  clear i0
  match a with
  | 0 => rfl
  | 1 => rfl

theorem blk_6 : (iblk m c 6 t : S3x512.Idx → EReal) = kBlk (V m c main_arg3) 0 ((grid0.coords t) 2) := by
  funext (y : S3x512.Idx)
  have e := place_6 t y
  unfold kBlk
  refine congrArg (V m c main_arg3) ?_
  funext (a : Fin 2)
  refine Fin.ext ((e a).trans ?_)
  match a with
  | 0 => show 0 * 3 + (y 0).val = (y 0).val; omega
  | 1 => show ((grid0.coords t) 2).val * 512 + (y 1).val = (11 * 0 + ((grid0.coords t) 2).val) * 512 + (y 1).val; omega

theorem place_7 (y : S3x512.Idx) (a : Fin 2) :
    (((cfg0.win 7).blk t).view.emb y a).val = (![0 * 3, (11 + ((grid0.coords t) 2).val) * 512] : Fin 2 → Nat) a + (y a).val := by
  refine (Pipeline.Window.rect_emb_val_off (cfg0.win 7) t y a).trans ?_
  have i0 : (cfg0.win 7).index t a = (![0, (11 + ((grid0.coords t) 2).val)] : Fin 2 → Nat) a := by
    show cc0_transform_7 (grid0.coords t) a = _
    have e : cc0_transform_7 (grid0.coords t) = ![(0#32).toNat, (Scalar.addi 11#32 (BitVec.ofNat 32 ((grid0.coords t) 2).val)).toNat] := rfl
    rw [e, word_half]; rfl
  rw [i0]
  clear i0
  match a with
  | 0 => rfl
  | 1 => rfl

theorem blk_7 : (iblk m c 7 t : S3x512.Idx → EReal) = kBlk (V m c main_arg3) 1 ((grid0.coords t) 2) := by
  funext (y : S3x512.Idx)
  have e := place_7 t y
  unfold kBlk
  refine congrArg (V m c main_arg3) ?_
  funext (a : Fin 2)
  refine Fin.ext ((e a).trans ?_)
  match a with
  | 0 => show 0 * 3 + (y 0).val = (y 0).val; omega
  | 1 => show (11 + ((grid0.coords t) 2).val) * 512 + (y 1).val = (11 * 1 + ((grid0.coords t) 2).val) * 512 + (y 1).val; omega

theorem place_8 (y : S1x512.Idx) (a : Fin 2) :
    (((cfg0.win 8).blk t).view.emb y a).val = (![0 * 1, ((grid0.coords t) 2).val * 512] : Fin 2 → Nat) a + (y a).val := by
  refine (Pipeline.Window.rect_emb_val_off (cfg0.win 8) t y a).trans ?_
  have i0 : (cfg0.win 8).index t a = (![0, ((grid0.coords t) 2).val] : Fin 2 → Nat) a := by
    show cc0_transform_8 (grid0.coords t) a = _
    have e : cc0_transform_8 (grid0.coords t) = ![(0#32).toNat, (BitVec.ofNat 32 ((grid0.coords t) 2).val).toNat] := rfl
    rw [e, word_chunk]; rfl
  rw [i0]
  clear i0
  match a with
  | 0 => rfl
  | 1 => rfl

theorem blk_8 : (iblk m c 8 t : S1x512.Idx → EReal) = bBlk (V m c main_v2) 0 ((grid0.coords t) 2) := by
  funext (y : S1x512.Idx)
  have e := place_8 t y
  unfold bBlk
  refine congrArg (V m c main_v2) ?_
  funext (a : Fin 2)
  refine Fin.ext ((e a).trans ?_)
  match a with
  | 0 => have h : (y 0).val < 1 := (y 0).isLt; show 0 * 1 + (y 0).val = (y 0).val; omega
  | 1 => show ((grid0.coords t) 2).val * 512 + (y 1).val = (11 * 0 + ((grid0.coords t) 2).val) * 512 + (y 1).val; omega

theorem place_9 (y : S1x512.Idx) (a : Fin 2) :
    (((cfg0.win 9).blk t).view.emb y a).val = (![0 * 1, (11 + ((grid0.coords t) 2).val) * 512] : Fin 2 → Nat) a + (y a).val := by
  refine (Pipeline.Window.rect_emb_val_off (cfg0.win 9) t y a).trans ?_
  have i0 : (cfg0.win 9).index t a = (![0, (11 + ((grid0.coords t) 2).val)] : Fin 2 → Nat) a := by
    show cc0_transform_9 (grid0.coords t) a = _
    have e : cc0_transform_9 (grid0.coords t) = ![(0#32).toNat, (Scalar.addi 11#32 (BitVec.ofNat 32 ((grid0.coords t) 2).val)).toNat] := rfl
    rw [e, word_half]; rfl
  rw [i0]
  clear i0
  match a with
  | 0 => rfl
  | 1 => rfl

theorem blk_9 : (iblk m c 9 t : S1x512.Idx → EReal) = bBlk (V m c main_v2) 1 ((grid0.coords t) 2) := by
  funext (y : S1x512.Idx)
  have e := place_9 t y
  unfold bBlk
  refine congrArg (V m c main_v2) ?_
  funext (a : Fin 2)
  refine Fin.ext ((e a).trans ?_)
  match a with
  | 0 => have h : (y 0).val < 1 := (y 0).isLt; show 0 * 1 + (y 0).val = (y 0).val; omega
  | 1 => show (11 + ((grid0.coords t) 2).val) * 512 + (y 1).val = (11 * 1 + ((grid0.coords t) 2).val) * 512 + (y 1).val; omega

theorem place_10 (y : S512x2048.Idx) (a : Fin 2) :
    (((cfg0.win 10).blk t).view.emb y a).val = (![((grid0.coords t) 2).val * 512, 0 * 2048] : Fin 2 → Nat) a + (y a).val := by
  refine (Pipeline.Window.rect_emb_val_off (cfg0.win 10) t y a).trans ?_
  have i0 : (cfg0.win 10).index t a = (![((grid0.coords t) 2).val, 0] : Fin 2 → Nat) a := by
    show cc0_transform_10 (grid0.coords t) a = _
    have e : cc0_transform_10 (grid0.coords t) = ![(BitVec.ofNat 32 ((grid0.coords t) 2).val).toNat, (0#32).toNat] := rfl
    rw [e, word_chunk]; rfl
  rw [i0]
  clear i0
  match a with
  | 0 => rfl
  | 1 => rfl

theorem blk_10 : (iblk m c 10 t : S512x2048.Idx → EReal) = dBlk (V m c main_v3) ((grid0.coords t) 2) := by
  funext (y : S512x2048.Idx)
  have e := place_10 t y
  unfold dBlk
  refine congrArg (V m c main_v3) ?_
  funext (a : Fin 2)
  refine Fin.ext ((e a).trans ?_)
  match a with
  | 0 => show ((grid0.coords t) 2).val * 512 + (y 0).val = ((grid0.coords t) 2).val * 512 + (y 0).val; omega
  | 1 => show 0 * 2048 + (y 1).val = (y 1).val; omega

theorem place_11 (y : S1x2048.Idx) (a : Fin 2) :
    (((cfg0.win 11).blk t).view.emb y a).val = (![0 * 1, 0 * 2048] : Fin 2 → Nat) a + (y a).val := by
  refine (Pipeline.Window.rect_emb_val_off (cfg0.win 11) t y a).trans ?_
  have i0 : (cfg0.win 11).index t a = (![0, 0] : Fin 2 → Nat) a := by
    show cc0_transform_11 (grid0.coords t) a = _
    have e : cc0_transform_11 (grid0.coords t) = ![(0#32).toNat, (0#32).toNat] := rfl
    rw [e]; rfl
  rw [i0]
  clear i0
  match a with
  | 0 => rfl
  | 1 => rfl

theorem blk_11 : (iblk m c 11 t : S1x2048.Idx → EReal) = V m c main_v4 := by
  funext (y : S1x2048.Idx)
  have e := place_11 t y
  refine congrArg (V m c main_v4) ?_
  funext (a : Fin 2)
  refine Fin.ext ((e a).trans ?_)
  match a with
  | 0 => have h : (y 0).val < 1 := (y 0).isLt; show 0 * 1 + (y 0).val = (y 0).val; omega
  | 1 => show 0 * 2048 + (y 1).val = (y 1).val; omega

theorem place_12 (y : S1x512x2048.Idx) (a : Fin 3) :
    (((cfg0.win 12).blk t).view.emb y a).val = (![((grid0.coords t) 0).val * 1, ((grid0.coords t) 1).val * 512, 0 * 2048] : Fin 3 → Nat) a + (y a).val := by
  refine (Pipeline.Window.rect_emb_val_off (cfg0.win 12) t y a).trans ?_
  have i0 : (cfg0.win 12).index t a = (![((grid0.coords t) 0).val, ((grid0.coords t) 1).val, 0] : Fin 3 → Nat) a := by
    show cc0_transform_12 (grid0.coords t) a = _
    have e : cc0_transform_12 (grid0.coords t) = ![(BitVec.ofNat 32 ((grid0.coords t) 0).val).toNat, (BitVec.ofNat 32 ((grid0.coords t) 1).val).toNat, (0#32).toNat] := rfl
    rw [e, word_batch, word_block]; rfl
  rw [i0]
  clear i0
  match a with
  | 0 => rfl
  | 1 => rfl
  | 2 => rfl

end Cert.Feed
end
-- ==== Proof.FfnRun.lean ====
/- What the feed-forward call holds after each grid point: the block's rows of modulated activations, and the sum of the chunks so far. -/
module

public import proofs.«01_k».proof.Proof.FfnBlocks

@[expose] public section

set_option maxRecDepth 16384
set_option backward.isDefEq.respectTransparency false

noncomputable section

namespace Cert.Feed

open Idealize.ShloMosaic Idealize.ShloMosaic.TcCoe
open Cert.FfnIdeal Cert.FfnIdeal.Gen

/-- The grid point's coordinates. -/
theorem coord_batch (t : Fin cfg0.N) : ((grid0.coords t) 0).val = t.val / 352 := by revert t; decide +kernel
theorem coord_block (t : Fin cfg0.N) : ((grid0.coords t) 1).val = t.val / 11 % 32 := by revert t; decide +kernel
theorem coord_chunk (t : Fin cfg0.N) : ((grid0.coords t) 2).val = t.val % 11 := by revert t; decide +kernel

variable (X : S2x16384x2048.Idx → EReal) (M : S2x6x2048.Idx → EReal) (W : S2048x11264.Idx → EReal) (K : S3x11264.Idx → EReal)
  (B : S1x11264.Idx → EReal) (D : S5632x2048.Idx → EReal) (G : S1x2048.Idx → EReal)

/-- Row `r` of the activations that block `s` of batch `b` holds. -/
def rowVal (b : Fin 2) (s : Fin 32) (r : Fin 544) (d : Fin 2048) : EReal :=
  if h : r.val < 16 then Scalar.select (Scalar.cmpi .sgt (BitVec.ofNat 32 s.val) 0#32)
    (modulated (fun e => prevBlk X b s (ix3 0 ⟨r.val, h⟩ e)) (fun e => mBlk M b (ix3 0 4 e)) (fun e => mBlk M b (ix3 0 3 e)) d) 0
  else if h' : r.val - 16 < 512 then
    modulated (fun e => xBlk X b s (ix3 0 ⟨r.val - 16, h'⟩ e)) (fun e => mBlk M b (ix3 0 4 e)) (fun e => mBlk M b (ix3 0 3 e)) d
  else Scalar.select (Scalar.cmpi .slt (BitVec.ofNat 32 s.val) 31#32)
    (modulated (fun e => nextBlk X b s (ix3 0 ⟨r.val - 16 - 512, by omega⟩ e)) (fun e => mBlk M b (ix3 0 4 e)) (fun e => mBlk M b (ix3 0 3 e)) d) 0

def rowsAt (b : Fin 2) (s : Fin 32) : Vec Ideal S544x2048 .bf16 :=
  fun y => rowVal X M b s ⟨(y 0).val, (y 0).isLt⟩ ⟨(y 1).val, (y 1).isLt⟩

/-- Chunk `f`'s share of output row `r`. -/
def share (b : Fin 2) (s : Fin 32) (r : Fin 512) (d : Fin 2048) (f : Fin 11) : EReal :=
  chunk (rowsAt X M b s) (wBlk W 0 f) (wBlk W 1 f) (kBlk K 0 f) (kBlk K 1 f) (bBlk B 0 f) (bBlk B 1 f) (dBlk D f) r d

/-- The shares of the first `n` chunks, added up. -/
def sumTo (b : Fin 2) (s : Fin 32) (r : Fin 512) (d : Fin 2048) (n : Nat) : EReal :=
  ∑ k ∈ Finset.range n, if h : k < 11 then share X M W K B D b s r d ⟨k, h⟩ else 0

theorem sumTo_succ (b : Fin 2) (s : Fin 32) (r : Fin 512) (d : Fin 2048) (f : Fin 11) :
    sumTo X M W K B D b s r d (f.val + 1) = sumTo X M W K B D b s r d f.val + share X M W K B D b s r d f := by
  unfold sumTo
  rw [Finset.sum_range_succ, dif_pos f.isLt]

theorem sumTo_zero (b : Fin 2) (s : Fin 32) (r : Fin 512) (d : Fin 2048) : sumTo X M W K B D b s r d 0 = 0 := by
  unfold sumTo; exact Finset.sum_range_zero _

theorem sumTo_all (b : Fin 2) (s : Fin 32) (r : Fin 512) (d : Fin 2048) :
    sumTo X M W K B D b s r d 11 = ∑ f : Fin 11, share X M W K B D b s r d f := by
  unfold sumTo
  rw [Finset.sum_range]
  exact Finset.sum_congr rfl fun f _ => dif_pos f.isLt

theorem rowsOf_blocks (i : grid0.Coords) :
    rowsOf i (xBlk X (i 0) (i 1)) (prevBlk X (i 0) (i 1)) (nextBlk X (i 0) (i 1)) (mBlk M (i 0)) = rowsAt X M (i 0) (i 1) := by
  funext (y : S544x2048.Idx)
  obtain ⟨r, d, rfl⟩ : ∃ (r : Fin 544) (d : Fin 2048), y = ix2 r d := ⟨y 0, y 1, by
    funext (a : Fin 2)
    match a with
    | 0 => rfl
    | 1 => rfl⟩
  exact rowsOf_apply i _ _ _ _ r d

variable (m : (ℓ : Loc nD τ sig) → Buf (Elt Ideal) ℓ) (c : Dev nD)

abbrev aX : S2x16384x2048.Idx → EReal := V m c main_arg0
abbrev aM : S2x6x2048.Idx → EReal := V m c main_v0
abbrev aW : S2048x11264.Idx → EReal := V m c main_v1
abbrev aK : S3x11264.Idx → EReal := V m c main_arg3
abbrev aB : S1x11264.Idx → EReal := V m c main_v2
abbrev aD : S5632x2048.Idx → EReal := V m c main_v3
abbrev aG : S1x2048.Idx → EReal := V m c main_v4

/-- The rows, and before the last chunk the sum, after point `t`. -/
def Held (t : Fin cfg0.N) : Prop :=
  (outsAt0 m c t.val t.isLt).2 = rowsAt (aX m c) (aM m c) ((grid0.coords t) 0) ((grid0.coords t) 1)
  ∧ (t.val % 11 ≤ 9 → ∀ (r : Fin 512) (d : Fin 2048), ((outsAt0 m c t.val t.isLt).1 (ix3 0 r d) : EReal)
      = sumTo (aX m c) (aM m c) (aW m c) (aK m c) (aB m c) (aD m c) ((grid0.coords t) 0) ((grid0.coords t) 1) r d (t.val % 11 + 1))

/-- The point before, within a block. -/
def before (t : Fin cfg0.N) : Fin cfg0.N := ⟨t.val - 1, lt_of_le_of_lt (Nat.sub_le _ _) t.isLt⟩

theorem before_batch (t : Fin cfg0.N) (h : ¬t.val % 11 = 0) : (grid0.coords (before t)) 0 = (grid0.coords t) 0 := by
  refine Fin.ext ?_
  rw [coord_batch, coord_batch]
  show (t.val - 1) / 352 = t.val / 352; omega

theorem before_block (t : Fin cfg0.N) (h : ¬t.val % 11 = 0) : (grid0.coords (before t)) 1 = (grid0.coords t) 1 := by
  refine Fin.ext ?_
  rw [coord_block, coord_block]
  show (t.val - 1) / 11 % 32 = t.val / 11 % 32; omega

/-- Point `t`'s batch, block and chunk. -/
abbrev batchAt (t : Fin cfg0.N) : Fin 2 := (grid0.coords t) 0
abbrev blockAt (t : Fin cfg0.N) : Fin 32 := (grid0.coords t) 1
abbrev chunkAt (t : Fin cfg0.N) : Fin 11 := (grid0.coords t) 2

/-- The first chunk's point, one result at a time. -/
theorem first_rows (t : Fin cfg0.N) (h : t.val % 11 = 0) :
    (outsAt0 m c t.val t.isLt).2 = rowsAt (aX m c) (aM m c) (batchAt t) (blockAt t) := by
  rw [outsAt0_A m c t h (by omega) (by omega)]
  dsimp only
  rw [rows_A]
  rw [blk_0, blk_1, blk_2, blk_3]
  exact rowsOf_blocks _ _ _

theorem first_out (t : Fin cfg0.N) (h : t.val % 11 = 0) :
    (outsAt0 m c t.val t.isLt).1 = firstChunk (rowsAt (aX m c) (aM m c) (batchAt t) (blockAt t)) (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t)) := by
  rw [outsAt0_A m c t h (by omega) (by omega)]
  dsimp only
  rw [out_A]
  rw [blk_0, blk_1, blk_2, blk_3, blk_4, blk_5, blk_6, blk_7, blk_8, blk_9, blk_10]
  exact congrArg (fun H => firstChunk H _ _ _ _ _ _ _) (rowsOf_blocks _ _ _)

/-- A later chunk's point. -/
theorem middle_rows (t : Fin cfg0.N) (h : ¬t.val % 11 = 0) (h2 : ¬t.val % 11 = 10) :
    (outsAt0 m c t.val t.isLt).2 = (outsAt0 m c (before t).val (before t).isLt).2 := by
  rw [outsAt0_B m c t h (by omega) h2]
  dsimp only [sout0_B_0]
  rfl

theorem middle_out (t : Fin cfg0.N) (h : ¬t.val % 11 = 0) (h2 : ¬t.val % 11 = 10) :
    (outsAt0 m c t.val t.isLt).1 = nextChunk (outsAt0 m c (before t).val (before t).isLt).2 (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t))
      (outsAt0 m c (before t).val (before t).isLt).1 := by
  rw [outsAt0_B m c t h (by omega) h2]
  dsimp only
  rw [out_B]
  rw [blk_4, blk_5, blk_6, blk_7, blk_8, blk_9, blk_10]
  rfl

/-- The last chunk's. -/
theorem last_rows (t : Fin cfg0.N) (h2 : t.val % 11 = 10) :
    (outsAt0 m c t.val t.isLt).2 = (outsAt0 m c (before t).val (before t).isLt).2 := by
  rw [outsAt0_C m c t (by omega) (by omega) h2]
  dsimp only [sout0_C_0]
  rfl

theorem last_out (t : Fin cfg0.N) (h2 : t.val % 11 = 10) :
    (outsAt0 m c t.val t.isLt).1 = k0_pay5 (gateRow (mBlk (aM m c) (batchAt t))) (k0_pay23 (xBlk (aX m c) (batchAt t) (blockAt t)))
      (nextChunk (outsAt0 m c (before t).val (before t).isLt).2 (wBlk (aW m c) 0 (chunkAt t)) (wBlk (aW m c) 1 (chunkAt t))
        (kBlk (aK m c) 0 (chunkAt t)) (kBlk (aK m c) 1 (chunkAt t)) (bBlk (aB m c) 0 (chunkAt t)) (bBlk (aB m c) 1 (chunkAt t)) (dBlk (aD m c) (chunkAt t))
        (outsAt0 m c (before t).val (before t).isLt).1) (aG m c) := by
  rw [outsAt0_C m c t (by omega) (by omega) h2]
  dsimp only
  rw [out_C]
  rw [blk_0, blk_3, blk_4, blk_5, blk_6, blk_7, blk_8, blk_9, blk_10, blk_11]
  rfl

theorem sumTo_congr (b : Fin 2) (s : Fin 32) (r : Fin 512) (d : Fin 2048) {n k : Nat} (h : n = k) :
    sumTo X M W K B D b s r d n = sumTo X M W K B D b s r d k := by rw [h]

theorem held_first (t : Fin cfg0.N) (h : t.val % 11 = 0) : Held m c t := by
  refine ⟨first_rows m c t h, fun _ r d => ?_⟩
  refine (congrFun (first_out m c t h) (ix3 0 r d)).trans ?_
  refine (firstChunk_apply _ _ _ _ _ _ _ _ r d).trans ?_
  have z : (chunkAt t).val = 0 := (coord_chunk t).trans h
  refine Eq.trans ?_ (sumTo_congr _ _ _ _ _ _ _ _ r d (congrArg (· + 1) (coord_chunk t)))
  refine Eq.symm ((sumTo_succ _ _ _ _ _ _ _ _ r d (chunkAt t)).trans ?_)
  refine (congrArg (· + _) ((sumTo_congr _ _ _ _ _ _ _ _ r d z).trans (sumTo_zero _ _ _ _ _ _ _ _ r d))).trans ?_
  exact zero_add _

/-- The sum one chunk on. -/
theorem add_chunk (t : Fin cfg0.N) (h : ¬t.val % 11 = 0) (ih : Held m c (before t)) (r : Fin 512) (d : Fin 2048) :
    (nextChunk (outsAt0 m c (before t).val (before t).isLt).2 (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t))
      (outsAt0 m c (before t).val (before t).isLt).1 (ix3 0 r d) : EReal)
      = sumTo (aX m c) (aM m c) (aW m c) (aK m c) (aB m c) (aD m c) (batchAt t) (blockAt t) r d (t.val % 11 + 1) := by
  obtain ⟨ih2, ih1⟩ := ih
  have ih1' := ih1 (by show (t.val - 1) % 11 ≤ 9; omega) r d
  unfold batchAt blockAt
  rw [← before_batch t h, ← before_block t h]
  refine (nextChunk_apply _ _ _ _ _ _ _ _ _ r d).trans ?_
  have q : (before t).val % 11 + 1 = (chunkAt t).val := by
    refine Eq.trans ?_ (coord_chunk t).symm
    show (t.val - 1) % 11 + 1 = t.val % 11; omega
  refine (congrArg₂ (· + ·) (ih1'.trans (sumTo_congr _ _ _ _ _ _ _ _ r d q)) (congrArg (fun H => chunk H _ _ _ _ _ _ _ r d) ih2)).trans ?_
  refine Eq.trans ?_ (sumTo_congr _ _ _ _ _ _ _ _ r d (congrArg (· + 1) (coord_chunk t)))
  exact (sumTo_succ _ _ _ _ _ _ _ _ r d (chunkAt t)).symm

theorem held_next (t : Fin cfg0.N) (h : ¬t.val % 11 = 0) (ih : Held m c (before t)) : Held m c t := by
  have ih2 : _ = rowsAt (aX m c) (aM m c) ((grid0.coords (before t)) 0) ((grid0.coords (before t)) 1) := ih.1
  rw [before_batch t h, before_block t h] at ih2
  by_cases h2 : t.val % 11 = 10
  · exact ⟨(last_rows m c t h2).trans ih2, fun hn => absurd hn (by omega)⟩
  · exact ⟨(middle_rows m c t h h2).trans ih2, fun _ r d => (congrFun (middle_out m c t h h2) (ix3 0 r d)).trans (add_chunk m c t h ih r d)⟩

theorem held (n : Nat) (hn : n < cfg0.N) : Held m c ⟨n, hn⟩ := by
  induction n with
  | zero => exact held_first m c ⟨0, hn⟩ rfl
  | succ k ih =>
    by_cases h : (k + 1) % 11 = 0
    · exact held_first m c ⟨k + 1, hn⟩ h
    · exact held_next m c ⟨k + 1, hn⟩ h (ih (Nat.lt_of_succ_lt hn))

/-- A block's whole sum, -/
def total (b : Fin 2) (s : Fin 32) : Vec Ideal S1x512x2048 .f32 :=
  fun y => sumTo X M W K B D b s ⟨(y 1).val, (y 1).isLt⟩ ⟨(y 2).val, (y 2).isLt⟩ 11

/-- reached at the last chunk's point, -/
theorem add_last (t : Fin cfg0.N) (h : t.val % 11 = 10) :
    nextChunk (outsAt0 m c (before t).val (before t).isLt).2 (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t))
      (outsAt0 m c (before t).val (before t).isLt).1
      = total (aX m c) (aM m c) (aW m c) (aK m c) (aB m c) (aD m c) (batchAt t) (blockAt t) := by
  funext (y : S1x512x2048.Idx)
  obtain ⟨r, d, rfl⟩ : ∃ (r : Fin 512) (d : Fin 2048), y = ix3 0 r d := ⟨y 1, y 2, by
    funext (a : Fin 3)
    match a with
    | 0 => exact Subsingleton.elim (α := Fin 1) _ _
    | 1 => rfl
    | 2 => rfl⟩
  refine (add_chunk m c t (by omega) (held m c (before t).val (before t).isLt) r d).trans ?_
  exact sumTo_congr _ _ _ _ _ _ _ _ r d (congrArg (· + 1) h)

/-- and what that point writes. -/
theorem written (t : Fin cfg0.N) (h : t.val % 11 = 10) :
    (outsAt0 m c t.val t.isLt).1
      = k0_pay5 (gateRow (mBlk (aM m c) (batchAt t))) (k0_pay23 (xBlk (aX m c) (batchAt t) (blockAt t)))
          (total (aX m c) (aM m c) (aW m c) (aK m c) (aB m c) (aD m c) (batchAt t) (blockAt t)) (aG m c) := by
  rw [last_out m c t h, add_last m c t h]

end Cert.Feed
end
-- ==== Proof.FfnArray.lean ====
/- The feed-forward call's output array as a function of its arguments: every block is written once, at its last chunk's point. -/
module

public import proofs.«01_k».proof.Proof.FfnRun

@[expose] public section

set_option maxRecDepth 16384
set_option backward.isDefEq.respectTransparency false

noncomputable section

namespace Cert.Feed

open Idealize.ShloMosaic Idealize.ShloMosaic.TcCoe Idealize.ShloMosaic.Tactic
open Cert.FfnIdeal Cert.FfnIdeal.Gen

variable (X : S2x16384x2048.Idx → EReal) (M : S2x6x2048.Idx → EReal) (W : S2048x11264.Idx → EReal) (K : S3x11264.Idx → EReal)
  (B : S1x11264.Idx → EReal) (D : S5632x2048.Idx → EReal) (G : S1x2048.Idx → EReal)

/-- The residual stream at row `r` of block `s`. -/
def stream (b : Fin 2) (s : Fin 32) (r : Fin 512) (d : Fin 2048) : EReal :=
  X (ix3 b ⟨512 * s.val + r.val, by omega⟩ d) + M (ix3 b 5 d) * sumTo X M W K B D b s r d 11

/-- The call's output at row `r` of block `s`. -/
def outVal (b : Fin 2) (s : Fin 32) (r : Fin 512) (d : Fin 2048) : EReal :=
  stream X M W K B D b s r d * normFactor (fun e => stream X M W K B D b s r e) * G (ix2 0 d)

/-- The call's output array. -/
def feedOut : S2x16384x2048.Idx → EReal := fun y =>
  outVal X M W K B D G ⟨(y 0).val, (y 0).isLt⟩ ⟨(y 1).val / 512, by have h : (y 1).val < 16384 := (y 1).isLt; omega⟩
    ⟨(y 1).val % 512, Nat.mod_lt _ (by omega)⟩ ⟨(y 2).val, (y 2).isLt⟩

/-- The output at an index named by its block and its place in it. -/
theorem feedOut_at (b : Fin 2) (s : Fin 32) (r : Fin 512) (d : Fin 2048) (z : S2x16384x2048.Idx)
    (h0 : (z 0).val = b.val) (h1 : (z 1).val = 512 * s.val + r.val) (h2 : (z 2).val = d.val) :
    feedOut X M W K B D G z = outVal X M W K B D G b s r d := by
  unfold feedOut
  congr 1
  · exact Fin.ext h0
  · refine Fin.ext ?_
    show (z 1).val / 512 = s.val; omega
  · refine Fin.ext ?_
    show (z 1).val % 512 = r.val; omega
  · exact Fin.ext h2

variable (m : (ℓ : Loc nD τ sig) → Buf (Elt Ideal) ℓ) (c : Dev nD)

theorem map_12 (i : grid0.Coords) : cc0_transform_12 i = ![(i 0).val, (i 1).val, 0] := by
  have e : cc0_transform_12 i = ![(BitVec.ofNat 32 (i 0).val).toNat, (BitVec.ofNat 32 (i 1).val).toNat, (0#32).toNat] := rfl
  rw [e, word_batch, word_block]; rfl

/-- A point of block `s` of batch `b`. -/
def point (b : Fin 2) (s : Fin 32) : grid0.Coords := fun (a : Fin 3) => match a with | 0 => b | 1 => s | 2 => (0 : Fin 11)

theorem covers_12 : (cfg0.win 12).Covers :=
  Pipeline.Window.covers_of_indexMap_surj (w := cfg0.win 12) rfl (by intro (a : Fin 3); revert a; show ∀ a : Fin 3, 0 < S1x512x2048.size a; decide) fun β => by
    have h0 : (β (0 : Fin 3)).val < 2 := lt_of_lt_of_eq (β (0 : Fin 3)).isLt (by first | rfl | sl_kernel_rfl)
    have h1 : (β (1 : Fin 3)).val < 32 := lt_of_lt_of_eq (β (1 : Fin 3)).isLt (by first | rfl | sl_kernel_rfl)
    have h2 : (β (2 : Fin 3)).val < 1 := lt_of_lt_of_eq (β (2 : Fin 3)).isLt (by first | rfl | sl_kernel_rfl)
    refine ⟨point ⟨(β (0 : Fin 3)).val, h0⟩ ⟨(β (1 : Fin 3)).val, h1⟩, fun (a : Fin 3) => ?_⟩
    refine (congrFun (map_12 (point ⟨(β (0 : Fin 3)).val, h0⟩ ⟨(β (1 : Fin 3)).val, h1⟩)) a).trans ?_
    match a with
    | 0 => rfl
    | 1 => rfl
    | 2 => show 0 = (β (2 : Fin 3)).val; omega

/-- The last chunk's result, entry by entry. -/
theorem last_apply (b : Fin 2) (s : Fin 32) (r : Fin 512) (d : Fin 2048) :
    (k0_pay5 (gateRow (mBlk M b)) (k0_pay23 (xBlk X b s)) (total X M W K B D b s) G (ix3 0 r d) : EReal) = outVal X M W K B D G b s r d := by
  refine (pay5_apply _ _ _ _ r d).trans ?_
  have e : ∀ e : Fin 2048, xBlk X b s (ix3 0 r e) + gateRow (mBlk M b) (ix3 0 0 e) * total X M W K B D b s (ix3 0 r e) = stream X M W K B D b s r e := by
    intro e
    rw [gateRow_apply]
    rfl
  unfold outVal
  refine congrArg₂ (· * ·) (congrArg₂ (· * ·) (e d) (congrArg normFactor (funext e))) rfl

theorem arr_eq : (dats m 0 c).arrAt 12 cfg0.N = feedOut (aX m c) (aM m c) (aW m c) (aK m c) (aB m c) (aD m c) (aG m c) := by
  refine Pipeline.Dat.arrAt_eq_of_covers (dats m 0 c) 12 _ covers_12 fun t hf (y : S1x512x2048.Idx) => ?_
  blk_simp
  rw [after0_12, written m c t ((flush0_12 t).mp hf)]
  obtain ⟨r, d, rfl⟩ : ∃ (r : Fin 512) (d : Fin 2048), y = ix3 0 r d := ⟨y 1, y 2, by
    funext (a : Fin 3)
    match a with
    | 0 => exact Subsingleton.elim (α := Fin 1) _ _
    | 1 => rfl
    | 2 => rfl⟩
  refine (last_apply _ _ _ _ _ _ _ (batchAt t) (blockAt t) r d).trans ?_
  refine (feedOut_at _ _ _ _ _ _ _ (batchAt t) (blockAt t) r d _ ?_ ?_ ?_).symm
  · refine (place_12 t (ix3 0 r d) 0).trans ?_
    show (batchAt t).val * 1 + 0 = _; omega
  · refine (place_12 t (ix3 0 r d) 1).trans ?_
    show (blockAt t).val * 512 + r.val = _; omega
  · refine (place_12 t (ix3 0 r d) 2).trans ?_
    show 0 * 2048 + d.val = _; omega

end Cert.Feed
end
-- ==== Proof.FfnRef.lean ====
/- The reference of the feed-forward call as a function of its seven arguments, stage by stage: the same operations as the
   reference program's, each intermediate array under a name, and each read at an index. -/
module

public import proofs.«01_k».proof.Proof.Gen.FfnRefIdeal.Run
public import proofs.«01_k».proof.Proof.FfnClosed
public import Idealize.ShloMosaic.Lib.Pointwise

@[expose] public section

set_option maxRecDepth 16384
set_option backward.isDefEq.respectTransparency false

noncomputable section

namespace Cert.FfnRef

open Idealize.ShloMosaic Idealize.ShloMosaic.TcCoe
open Cert.Feed
open Cert.FfnRefIdeal Cert.FfnRefIdeal.Gen

/-- Each row over its root mean square. -/
def normed (x : FVec Ideal S2x16384x2048 .f32) : FVec Ideal S2x16384x2048 .f32 :=
  mulf x (broadcastInDim S2x16384x2048 ![0, 1, 2] bcast_S2x16384x1_S2x16384x2048_0_1_2
    (Host.rsqrt (addf (Host.divf (broadcastInDim S2x16384x1 ![0, 1] bcast_S2x16384_S2x16384x1_0_1
        (Host.reduceAdd (mulf x x) (constant S_ .f32 0x00000000#32) reducesTo_S2x16384x2048_S2x16384_d2 h_S_))
      (broadcastInDim S2x16384x1 ![] bcast_S_S2x16384x1 (constant S_ .f32 0x45000000#32)))
      (broadcastInDim S2x16384x1 ![] bcast_S_S2x16384x1 (constant S_ .f32 0x358637BD#32)))))

/-- The rows scaled and shifted by the modulation. -/
def ada (x : FVec Ideal S2x16384x2048 .f32) (mo : FVec Ideal S2x6x1x2048 .f32) : FVec Ideal S2x16384x2048 .f32 :=
  addf (mulf (normed x) (broadcastInDim S2x16384x2048 ![0, 1, 2] bcast_S2x1x2048_S2x16384x2048_0_1_2
      (addf (broadcastInDim S2x1x2048 ![] bcast_S_S2x1x2048 (constant S_ .f32 0x3F800000#32))
        (shapeCast S2x1x2048 (extractStridedSlice S2x1x1x2048 ![0, 4, 0, 0] mo slices_S2x6x1x2048_S2x1x1x2048_0_4_0_0) shapeCasts_S2x1x1x2048_S2x1x2048))))
    (broadcastInDim S2x16384x2048 ![0, 1, 2] bcast_S2x1x2048_S2x16384x2048_0_1_2
      (shapeCast S2x1x2048 (extractStridedSlice S2x1x1x2048 ![0, 3, 0, 0] mo slices_S2x6x1x2048_S2x1x1x2048_0_3_0_0) shapeCasts_S2x1x1x2048_S2x1x2048))

/-- The up projection, -/
def upProj (h : FVec Ideal S2x16384x2048 .f32) (w : FVec Ideal S2048x11264 .f32) : FVec Ideal S2x16384x11264 .f32 :=
  Host.dotGeneral dot_S2x16384x2048_S2048x11264_S2x16384x11264_2_0_01_1_n_n none h w

/-- with a row of zeros before and after, -/
def padded (u : FVec Ideal S2x16384x11264 .f32) : FVec Ideal S2x16386x11264 .f32 :=
  pad S2x16386x11264 ![0, 1, 0] ![0, 1, 0] ![0, 0, 0] u (sitofp .f32 (constantI S_ 32 0#32)) pads_S2x16384x11264_S2x16386x11264_000_110_000 h_S_

/-- a row of the filter, repeated over the positions, -/
def tap0 (k : FVec Ideal S3x11264 .f32) : FVec Ideal S2x16384x11264 .f32 :=
  broadcastInDim S2x16384x11264 ![0, 1, 2] bcast_S1x1x11264_S2x16384x11264_0_1_2 (broadcastInDim S1x1x11264 ![2] bcast_S11264_S1x1x11264_2
    (shapeCast S11264 (extractStridedSlice S1x11264 ![0, 0] k slices_S3x11264_S1x11264_0_0) shapeCasts_S1x11264_S11264))
def tap1 (k : FVec Ideal S3x11264 .f32) : FVec Ideal S2x16384x11264 .f32 :=
  broadcastInDim S2x16384x11264 ![0, 1, 2] bcast_S1x1x11264_S2x16384x11264_0_1_2 (broadcastInDim S1x1x11264 ![2] bcast_S11264_S1x1x11264_2
    (shapeCast S11264 (extractStridedSlice S1x11264 ![1, 0] k slices_S3x11264_S1x11264_1_0) shapeCasts_S1x11264_S11264))
def tap2 (k : FVec Ideal S3x11264 .f32) : FVec Ideal S2x16384x11264 .f32 :=
  broadcastInDim S2x16384x11264 ![0, 1, 2] bcast_S1x1x11264_S2x16384x11264_0_1_2 (broadcastInDim S1x1x11264 ![2] bcast_S11264_S1x1x11264_2
    (shapeCast S11264 (extractStridedSlice S1x11264 ![2, 0] k slices_S3x11264_S1x11264_2_0) shapeCasts_S1x11264_S11264))

/-- the convolution over positions, -/
def conv (p : FVec Ideal S2x16386x11264 .f32) (k : FVec Ideal S3x11264 .f32) (b : FVec Ideal S11264 .f32) : FVec Ideal S2x16384x11264 .f32 :=
  addf (addf (addf (addf (broadcastInDim S2x16384x11264 ![] bcast_S_S2x16384x11264 (constant S_ .f32 0x00000000#32))
        (mulf (extractStridedSlice S2x16384x11264 ![0, 0, 0] p slices_S2x16386x11264_S2x16384x11264_0_0_0) (tap0 k)))
      (mulf (extractStridedSlice S2x16384x11264 ![0, 1, 0] p slices_S2x16386x11264_S2x16384x11264_0_1_0) (tap1 k)))
    (mulf (extractStridedSlice S2x16384x11264 ![0, 2, 0] p slices_S2x16386x11264_S2x16384x11264_0_2_0) (tap2 k)))
    (broadcastInDim S2x16384x11264 ![0, 1, 2] bcast_S1x1x11264_S2x16384x11264_0_1_2 (broadcastInDim S1x1x11264 ![2] bcast_S11264_S1x1x11264_2 b))

/-- `g · 1 / (1 + exp (−g))`, -/
def siluOf (g : FVec Ideal S2x16384x5632 .f32) : FVec Ideal S2x16384x5632 .f32 :=
  mulf g (Host.divf (broadcastInDim S2x16384x5632 ![] bcast_S_S2x16384x5632 (constant S_ .f32 0x3F800000#32))
    (addf (broadcastInDim S2x16384x5632 ![] bcast_S_S2x16384x5632 (constant S_ .f32 0x3F800000#32)) (Host.exp (Host.negf g))))

/-- the gated activation: the first half of the channels through `siluOf`, times the second half, -/
def act (u : FVec Ideal S2x16384x11264 .f32) : FVec Ideal S2x16384x5632 .f32 :=
  mulf (siluOf (extractStridedSlice S2x16384x5632 ![0, 0, 0] u slices_S2x16384x11264_S2x16384x5632_0_0_0))
    (extractStridedSlice S2x16384x5632 ![0, 0, 5632] u slices_S2x16384x11264_S2x16384x5632_0_0_5632)

/-- the down projection, -/
def downProj (a : FVec Ideal S2x16384x5632 .f32) (w : FVec Ideal S5632x2048 .f32) : FVec Ideal S2x16384x2048 .f32 :=
  Host.dotGeneral dot_S2x16384x5632_S5632x2048_S2x16384x2048_2_0_01_1_n_n none a w

/-- the gated residual, -/
def residual (x : FVec Ideal S2x16384x2048 .f32) (mo : FVec Ideal S2x6x1x2048 .f32) (y : FVec Ideal S2x16384x2048 .f32) : FVec Ideal S2x16384x2048 .f32 :=
  addf x (mulf (broadcastInDim S2x16384x2048 ![0, 1, 2] bcast_S2x1x2048_S2x16384x2048_0_1_2
    (shapeCast S2x1x2048 (extractStridedSlice S2x1x1x2048 ![0, 5, 0, 0] mo slices_S2x6x1x2048_S2x1x1x2048_0_5_0_0) shapeCasts_S2x1x1x2048_S2x1x2048)) y)

/-- and the final norm with its gain. -/
def gained (x : FVec Ideal S2x16384x2048 .f32) (g : FVec Ideal S2048 .f32) : FVec Ideal S2x16384x2048 .f32 :=
  mulf (normed x) (broadcastInDim S2x16384x2048 ![0, 1, 2] bcast_S1x1x2048_S2x16384x2048_0_1_2 (broadcastInDim S1x1x2048 ![2] bcast_S2048_S1x1x2048_2 g))

/-- The reference's result. -/
def result (x : FVec Ideal S2x16384x2048 .f32) (mo : FVec Ideal S2x6x1x2048 .f32) (wu : FVec Ideal S2048x11264 .f32) (k : FVec Ideal S3x11264 .f32)
    (b : FVec Ideal S11264 .f32) (wd : FVec Ideal S5632x2048 .f32) (g : FVec Ideal S2048 .f32) : FVec Ideal S2x16384x2048 .f32 :=
  gained (residual x mo (downProj (act (conv (padded (upProj (ada x mo) wu)) k b)) wd)) g

theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_out0 Value.res_main_v69
  rfl

theorem normed_apply (x : FVec Ideal S2x16384x2048 .f32) (b : Fin 2) (i : Fin 16384) (j : Fin 2048) :
    normed x (ix3 b i j) = x (ix3 b i j) * normFactor (fun d => x (ix3 b i d)) := by
  pointwise [normed]
  rfl

theorem ada_apply (x : FVec Ideal S2x16384x2048 .f32) (mo : FVec Ideal S2x6x1x2048 .f32) (b : Fin 2) (i : Fin 16384) (j : Fin 2048) :
    ada x mo (ix3 b i j) = normed x (ix3 b i j) * (1 + mo (ix4 b 4 0 j)) + mo (ix4 b 3 0 j) := by
  pointwise [ada]

theorem upProj_apply (h : FVec Ideal S2x16384x2048 .f32) (w : FVec Ideal S2048x11264 .f32) (b : Fin 2) (i : Fin 16384) (j : Fin 11264) :
    upProj h w (ix3 b i j) = ∑ d : Fin 2048, h (ix3 b i d) * w (ix2 d j) := by
  pointwise [upProj]

theorem padded_apply (u : FVec Ideal S2x16384x11264 .f32) (b : Fin 2) (i : Fin 16386) (j : Fin 11264) :
    padded u (ix3 b i j) = if h : 1 ≤ i.val ∧ i.val < 16385 then u (ix3 b ⟨i.val - 1, by omega⟩ j) else 0 := by
  pointwise [padded]
  by_cases h : 1 ≤ i.val ∧ i.val < 16385
  · rw [dif_pos h, dif_pos ⟨h.1, by omega⟩]
  · rw [dif_neg h, dif_neg (by omega)]
    simp [FloatOps.sitofp]

theorem tap0_apply (k : FVec Ideal S3x11264 .f32) (b : Fin 2) (i : Fin 16384) (j : Fin 11264) : tap0 k (ix3 b i j) = k (ix2 0 j) := by
  pointwise [tap0]
theorem tap1_apply (k : FVec Ideal S3x11264 .f32) (b : Fin 2) (i : Fin 16384) (j : Fin 11264) : tap1 k (ix3 b i j) = k (ix2 1 j) := by
  pointwise [tap1]
theorem tap2_apply (k : FVec Ideal S3x11264 .f32) (b : Fin 2) (i : Fin 16384) (j : Fin 11264) : tap2 k (ix3 b i j) = k (ix2 2 j) := by
  pointwise [tap2]

theorem conv_apply (p : FVec Ideal S2x16386x11264 .f32) (k : FVec Ideal S3x11264 .f32) (c : FVec Ideal S11264 .f32) (b : Fin 2) (i : Fin 16384) (j : Fin 11264) :
    conv p k c (ix3 b i j) = p (ix3 b ⟨i.val, by omega⟩ j) * tap0 k (ix3 b i j) + p (ix3 b ⟨i.val + 1, by omega⟩ j) * tap1 k (ix3 b i j)
      + p (ix3 b ⟨i.val + 2, by omega⟩ j) * tap2 k (ix3 b i j) + c (ix1 j) := by
  pointwise [conv]
  simp only [Nat.add_comm]

theorem siluOf_apply (g : FVec Ideal S2x16384x5632 .f32) (b : Fin 2) (i : Fin 16384) (j : Fin 5632) :
    siluOf g (ix3 b i j) = silu (g (ix3 b i j)) := by
  pointwise [siluOf]
  rfl

theorem act_apply (u : FVec Ideal S2x16384x11264 .f32) (b : Fin 2) (i : Fin 16384) (j : Fin 5632) :
    act u (ix3 b i j) = silu (u (ix3 b i ⟨j.val, by omega⟩)) * u (ix3 b i ⟨5632 + j.val, by omega⟩) := by
  pointwise [act]
  rw [siluOf_apply]
  pointwise []

theorem downProj_apply (a : FVec Ideal S2x16384x5632 .f32) (w : FVec Ideal S5632x2048 .f32) (b : Fin 2) (i : Fin 16384) (j : Fin 2048) :
    downProj a w (ix3 b i j) = ∑ k : Fin 5632, a (ix3 b i k) * w (ix2 k j) := by
  pointwise [downProj]

theorem residual_apply (x : FVec Ideal S2x16384x2048 .f32) (mo : FVec Ideal S2x6x1x2048 .f32) (y : FVec Ideal S2x16384x2048 .f32) (b : Fin 2) (i : Fin 16384) (j : Fin 2048) :
    residual x mo y (ix3 b i j) = x (ix3 b i j) + mo (ix4 b 5 0 j) * y (ix3 b i j) := by
  pointwise [residual]

theorem gained_apply (x : FVec Ideal S2x16384x2048 .f32) (g : FVec Ideal S2048 .f32) (b : Fin 2) (i : Fin 16384) (j : Fin 2048) :
    gained x g (ix3 b i j) = normed x (ix3 b i j) * g (ix1 j) := by
  pointwise [gained]

end Cert.FfnRef

end
-- ==== Proof.FfnMatch.lean ====
/- The feed-forward call's output is the reference's: the rows a block holds are the reference's modulated rows, a chunk's convolution is the
   reference's over the chunk's channels, and the chunks' sums make the down projection. -/
module

public import proofs.«01_k».proof.Proof.FfnArray
public import proofs.«01_k».proof.Proof.FfnRef

@[expose] public section

set_option maxRecDepth 16384
set_option backward.isDefEq.respectTransparency false

noncomputable section

namespace Cert.Feed

open Idealize.ShloMosaic Idealize.ShloMosaic.TcCoe
open Cert.FfnIdeal Cert.FfnIdeal.Gen
open Cert.FfnRef (ada normed upProj padded conv act downProj residual gained)

/-- Whether a block has rows before it, and after it. -/
theorem has_before (s : Fin 32) : Scalar.cmpi .sgt (BitVec.ofNat 32 s.val) 0#32 = 1 ↔ 0 < s.val := by revert s; decide +kernel
theorem has_after (s : Fin 32) : Scalar.cmpi .slt (BitVec.ofNat 32 s.val) 31#32 = 1 ↔ s.val < 31 := by revert s; decide +kernel

theorem select_before (s : Fin 32) (a b : EReal) : Scalar.select (Scalar.cmpi .sgt (BitVec.ofNat 32 s.val) 0#32) a b = if 0 < s.val then a else b := by
  show (if Scalar.cmpi .sgt (BitVec.ofNat 32 s.val) 0#32 = 1 then a else b) = _
  exact if_congr (has_before s) rfl rfl

theorem select_after (s : Fin 32) (a b : EReal) : Scalar.select (Scalar.cmpi .slt (BitVec.ofNat 32 s.val) 31#32) a b = if s.val < 31 then a else b := by
  show (if Scalar.cmpi .slt (BitVec.ofNat 32 s.val) 31#32 = 1 then a else b) = _
  exact if_congr (has_after s) rfl rfl

/-- A sum over the 5632 channels, chunk by chunk. -/
theorem sum_chunks (F : Fin 5632 → EReal) : (∑ k : Fin 5632, F k) = ∑ f : Fin 11, ∑ j : Fin 512, F ⟨f.val * 512 + j.val, by omega⟩ := by
  refine Eq.trans ?_ (Fintype.sum_prod_type' (fun (f : Fin 11) (j : Fin 512) => F ⟨f.val * 512 + j.val, by omega⟩))
  refine (Fintype.sum_equiv (finProdFinEquiv (m := 11) (n := 512)) _ _ fun p => congrArg F (Fin.ext ?_)).symm
  show p.1.val * 512 + p.2.val = p.2.val + 512 * p.1.val
  omega

variable (x : S2x16384x2048.Idx → EReal) (mo : Cert.FfnRefIdeal.S2x6x1x2048.Idx → EReal) (wu : S2048x11264.Idx → EReal) (k : S3x11264.Idx → EReal)
  (bb : Cert.FfnRefIdeal.S11264.Idx → EReal) (wd : S5632x2048.Idx → EReal) (g : Cert.FfnRefIdeal.S2048.Idx → EReal)
variable (M : S2x6x2048.Idx → EReal) (B : S1x11264.Idx → EReal) (G : S1x2048.Idx → EReal)
variable (hM : ∀ (b : Fin 2) (a : Fin 6) (d : Fin 2048), M (ix3 b a d) = mo (ix4 b a 0 d))
variable (hB : ∀ j : Fin 11264, B (ix2 0 j) = bb (ix1 j)) (hG : ∀ d : Fin 2048, G (ix2 0 d) = g (ix1 d))

include hM in
/-- A modulated row is the reference's. -/
theorem modulated_eq (b : Fin 2) (i : Fin 16384) (d : Fin 2048) :
    modulated (fun e => x (ix3 b i e)) (fun e => mBlk M b (ix3 0 4 e)) (fun e => mBlk M b (ix3 0 3 e)) d = ada x mo (ix3 b i d) := by
  rw [Cert.FfnRef.ada_apply, Cert.FfnRef.normed_apply, ← hM, ← hM]
  rfl

include hM in
/-- The rows of a block that its outputs read, in the reference's positions with a row of zeros at each end. -/
theorem rowVal_eq (b : Fin 2) (s : Fin 32) (r : Fin 544) (d : Fin 2048) (h15 : 15 ≤ r.val) (h528 : r.val ≤ 528) :
    rowVal x M b s r d = if h : 1 ≤ 512 * s.val + (r.val - 15) ∧ 512 * s.val + (r.val - 15) < 16385 then
      ada x mo (ix3 b ⟨512 * s.val + (r.val - 15) - 1, by omega⟩ d) else 0 := by
  unfold rowVal
  have hs : s.val < 32 := s.isLt
  by_cases c1 : r.val < 16
  · rw [dif_pos c1, select_before]
    by_cases c2 : 0 < s.val
    · rw [if_pos c2, dif_pos (by omega)]
      refine Eq.trans ?_ (modulated_eq x mo M hM b _ d)
      refine congrArg (fun q => modulated q _ _ d) (funext fun e => congrArg (fun i => x (ix3 b i e)) (Fin.ext ?_))
      show 16 * (32 * s.val - 1) + r.val = 512 * s.val + (r.val - 15) - 1; omega
    · rw [if_neg c2, dif_neg (by omega)]
  · rw [dif_neg c1]
    by_cases c3 : r.val - 16 < 512
    · rw [dif_pos c3, dif_pos (by omega)]
      refine Eq.trans ?_ (modulated_eq x mo M hM b _ d)
      refine congrArg (fun q => modulated q _ _ d) (funext fun e => congrArg (fun i => x (ix3 b i e)) (Fin.ext ?_))
      show 512 * s.val + (r.val - 16) = 512 * s.val + (r.val - 15) - 1; omega
    · rw [dif_neg c3, select_after]
      by_cases c2 : s.val < 31
      · rw [if_pos c2, dif_pos (by omega)]
        refine Eq.trans ?_ (modulated_eq x mo M hM b _ d)
        refine congrArg (fun q => modulated q _ _ d) (funext fun e => congrArg (fun i => x (ix3 b i e)) (Fin.ext ?_))
        show 16 * min (32 * s.val + 32) 1023 + (r.val - 16 - 512) = 512 * s.val + (r.val - 15) - 1; omega
      · rw [if_neg c2, dif_neg (by omega)]

/-- Channel `j` of chunk `f` in half `o`. -/
abbrev channel (o : Fin 2) (f : Fin 11) (j : Fin 512) : Fin 11264 := ⟨(11 * o.val + f.val) * 512 + j.val, by omega⟩

include hM in
/-- The up projection of a held row. -/
theorem up_eq (b : Fin 2) (s : Fin 32) (o : Fin 2) (f : Fin 11) (r : Fin 544) (j : Fin 512) (p : Fin 16386) (hp : r.val = 15 + (p.val - 512 * s.val))
    (hs : 512 * s.val ≤ p.val) (h528 : r.val ≤ 528) :
    up (rowsAt x M b s) (wBlk wu o f) r j = padded (upProj (ada x mo) wu) (ix3 b p (channel o f j)) := by
  rw [Cert.FfnRef.padded_apply]
  have e : ∀ d : Fin 2048, (rowsAt x M b s (ix2 r d) : EReal) = _ := fun d => rowVal_eq x mo M hM b s r d (by omega) h528
  have q : 512 * s.val + (r.val - 15) = p.val := by omega
  unfold up
  by_cases h : 1 ≤ p.val ∧ p.val < 16385
  · rw [dif_pos h, Cert.FfnRef.upProj_apply]
    refine Finset.sum_congr rfl fun d _ => congrArg₂ (· * ·) ((e d).trans ?_) rfl
    rw [dif_pos (by omega)]
    exact congrArg (fun i => ada x mo (ix3 b i d)) (Fin.ext (by show 512 * s.val + (r.val - 15) - 1 = p.val - 1; omega))
  · rw [dif_neg h]
    refine Finset.sum_eq_zero fun d _ => ?_
    rw [e d, dif_neg (by omega)]
    exact zero_mul _

include hM hB in
/-- A chunk's convolution. -/
theorem conv3_eq (b : Fin 2) (s : Fin 32) (o : Fin 2) (f : Fin 11) (r : Fin 512) (j : Fin 512) :
    conv3 (rowsAt x M b s) (wBlk wu o f) (kBlk k o f) (bBlk B o f) r j
      = conv (padded (upProj (ada x mo) wu)) k bb (ix3 b ⟨512 * s.val + r.val, by omega⟩ (channel o f j)) := by
  rw [Cert.FfnRef.conv_apply, Cert.FfnRef.tap0_apply, Cert.FfnRef.tap1_apply, Cert.FfnRef.tap2_apply]
  unfold conv3 taps
  rw [up_eq x mo wu M hM b s o f ⟨15 + r.val, by omega⟩ j ⟨512 * s.val + r.val, by omega⟩ (by show 15 + r.val = 15 + (512 * s.val + r.val - 512 * s.val); omega) (by show 512 * s.val ≤ 512 * s.val + r.val; omega) (by show 15 + r.val ≤ 528; omega),
    up_eq x mo wu M hM b s o f ⟨16 + r.val, by omega⟩ j ⟨512 * s.val + r.val + 1, by omega⟩ (by show 16 + r.val = 15 + (512 * s.val + r.val + 1 - 512 * s.val); omega) (by show 512 * s.val ≤ 512 * s.val + r.val + 1; omega) (by show 16 + r.val ≤ 528; omega),
    up_eq x mo wu M hM b s o f ⟨17 + r.val, by omega⟩ j ⟨512 * s.val + r.val + 2, by omega⟩ (by show 17 + r.val = 15 + (512 * s.val + r.val + 2 - 512 * s.val); omega) (by show 512 * s.val ≤ 512 * s.val + r.val + 2; omega) (by show 17 + r.val ≤ 528; omega)]
  refine congrArg₂ (· + ·) (congrArg₂ (· + ·) (congrArg₂ (· + ·) ?_ ?_) ?_) (hB (channel o f j))
  · exact mul_comm _ _
  · exact mul_comm _ _
  · exact mul_comm _ _

include hM hB in
/-- A chunk's share of the down projection. -/
theorem share_eq (b : Fin 2) (s : Fin 32) (f : Fin 11) (r : Fin 512) (d : Fin 2048) :
    share x M wu k B wd b s r d f = ∑ j : Fin 512, act (conv (padded (upProj (ada x mo) wu)) k bb)
      (ix3 b ⟨512 * s.val + r.val, by omega⟩ ⟨f.val * 512 + j.val, by omega⟩) * wd (ix2 ⟨f.val * 512 + j.val, by omega⟩ d) := by
  unfold share chunk
  refine Finset.sum_congr rfl fun j _ => congrArg₂ (· * ·) ?_ rfl
  rw [Cert.FfnRef.act_apply, conv3_eq x mo wu k bb M B hM hB, conv3_eq x mo wu k bb M B hM hB]
  refine congrArg₂ (· * ·) (congrArg silu ?_) ?_
  · refine congrArg (fun q => conv (padded (upProj (ada x mo) wu)) k bb (ix3 b _ q)) (Fin.ext ?_)
    show (11 * 0 + f.val) * 512 + j.val = f.val * 512 + j.val; omega
  · refine congrArg (fun q => conv (padded (upProj (ada x mo) wu)) k bb (ix3 b _ q)) (Fin.ext ?_)
    show (11 * 1 + f.val) * 512 + j.val = 5632 + (f.val * 512 + j.val); omega

include hM hB in
theorem sum_eq (b : Fin 2) (s : Fin 32) (r : Fin 512) (d : Fin 2048) :
    sumTo x M wu k B wd b s r d 11 = downProj (act (conv (padded (upProj (ada x mo) wu)) k bb)) wd (ix3 b ⟨512 * s.val + r.val, by omega⟩ d) := by
  rw [sumTo_all, Cert.FfnRef.downProj_apply, sum_chunks]
  exact Finset.sum_congr rfl fun f _ => share_eq x mo wu k bb wd M B hM hB b s f r d

include hM hB in
theorem stream_eq (b : Fin 2) (s : Fin 32) (r : Fin 512) (d : Fin 2048) :
    stream x M wu k B wd b s r d = residual x mo (downProj (act (conv (padded (upProj (ada x mo) wu)) k bb)) wd) (ix3 b ⟨512 * s.val + r.val, by omega⟩ d) := by
  rw [Cert.FfnRef.residual_apply, ← sum_eq x mo wu k bb wd M B hM hB, ← hM]
  rfl

include hM hB hG in
/-- The two outputs are one array. -/
theorem output_eq : Cert.FfnRef.result x mo wu k bb wd g = feedOut x M wu k B wd G := by
  funext (y : S2x16384x2048.Idx)
  obtain ⟨b, i, d, rfl⟩ : ∃ (b : Fin 2) (i : Fin 16384) (d : Fin 2048), y = ix3 b i d := ⟨y 0, y 1, y 2, by
    funext (a : Fin 3)
    match a with
    | 0 => rfl
    | 1 => rfl
    | 2 => rfl⟩
  obtain ⟨s, r, rfl⟩ : ∃ (s : Fin 32) (r : Fin 512), i = ⟨512 * s.val + r.val, by omega⟩ :=
    ⟨⟨i.val / 512, by omega⟩, ⟨i.val % 512, by omega⟩, Fin.ext (by show i.val = 512 * (i.val / 512) + i.val % 512; omega)⟩
  refine Eq.trans ?_ (feedOut_at x M wu k B wd G b s r d _ rfl rfl rfl).symm
  unfold Cert.FfnRef.result outVal
  rw [Cert.FfnRef.gained_apply, Cert.FfnRef.normed_apply]
  have e := fun e => (stream_eq x mo wu k bb wd M B hM hB b s r e).symm
  exact congrArg₂ (· * ·) (congrArg₂ (· * ·) (e d) (congrArg normFactor (funext e))) (hG d).symm

end Cert.Feed
end
-- ==== Proof.FfnFinal.lean ====
/- The feed-forward call's claims: its frames, the reference's, and the equality of the results, from any memory. -/
module

public import proofs.«01_k».proof.Proof.FfnMatch
public import proofs.«01_k».proof.Defs
public import Idealize.ShloMosaic.Lib.StableHlo.RunRead
public import Idealize.ShloMosaic.Lib.StableHlo.ReadAt
public import proofs.«01_k».proof.Proof.Gen.Ffn
public import proofs.«01_k».proof.Proof.Gen.Ffn.Frame

@[expose] public section

set_option maxRecDepth 16384
set_option backward.isDefEq.respectTransparency false

noncomputable section

namespace Cert.Feed

open Idealize.ShloMosaic Idealize.ShloMosaic.TcCoe Idealize.ShloMosaic.Tactic Idealize.SL.Sem

instance : Cert.Ffn.Facts := Cert.Ffn.Gen.facts
instance : Cert.FfnIdeal.Facts := Cert.FfnIdeal.Gen.facts
instance : Cert.FfnRefIdeal.Facts := Cert.FfnRefIdeal.Gen.facts

section
open Cert.FfnIdeal Cert.FfnIdeal.Gen

variable (m : (ℓ : Loc nD τ sig) → Buf (Elt Ideal) ℓ) (c : Dev nD)

/-- What the host hands the call: the modulation, bias and gain reshaped, the two projections unchanged. -/
theorem host_mod (b : Fin 2) (a : Fin 6) (d : Fin 2048) : (aM m c (ix3 b a d) : EReal) = m ((c.tc : Thread nD τ).loc main_arg1) (ix4 b a 0 d) := by
  unfold aM V
  simp only [hostOps0]
  after_reads_simp
  pointwise []
theorem host_up : aW m c = m ((c.tc : Thread nD τ).loc main_arg2) := by
  unfold aW V
  simp only [hostOps0]
  after_reads_simp
  rfl
theorem host_bias (j : Fin 11264) : (aB m c (ix2 0 j) : EReal) = m ((c.tc : Thread nD τ).loc main_arg4) (ix1 j) := by
  unfold aB V
  simp only [hostOps0]
  after_reads_simp
  pointwise []
theorem host_down : aD m c = m ((c.tc : Thread nD τ).loc main_arg5) := by
  unfold aD V
  simp only [hostOps0]
  after_reads_simp
  rfl
theorem host_gain (d : Fin 2048) : (aG m c (ix2 0 d) : EReal) = m ((c.tc : Thread nD τ).loc main_arg6) (ix1 d) := by
  unfold aG V
  simp only [hostOps0]
  after_reads_simp
  pointwise []

/-- The call's result in the reference's terms. -/
theorem arr_result : (dats m 0 c).arrAt 12 cfg0.N
    = Cert.FfnRef.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  refine (arr_eq m c).trans ?_
  refine Eq.trans ?_ (output_eq _ _ _ _ _ _ _ (aM m c) (aB m c) (aG m c) (host_mod m c) (host_bias m c) (host_gain m c)).symm
  rw [host_up, host_down]
  unfold aX aK
  rw [V_main_arg0, V_main_arg3]

theorem frame_ideal (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := Cert.FfnIdeal.Gen.frame m g

/-- The call's result, from any memory. -/
theorem call_result (g : Dev nD → PrngReg) :
    θ_run (defs (F := Ideal)) (onTc (τ := τ) (main (F := Ideal))) ⟨m, fun _ => 0, g⟩ (fun r => ∀ c : Dev nD,
      r.2.mem ((c.tc : Thread nD τ).loc main_v5)
        = Cert.FfnRef.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))) :=
  (θ_run _ _ _).mono (fun r h c => ((h c).1 12).trans (arr_result m c)) (run_main m g)

end

theorem frame_kernel : Cert.quiescent_Ffn := fun m g _ => Cert.Ffn.Gen.frame m g

/-- The reference's frame: it declares no semaphore. -/
theorem frame_reference : Cert.quiescent_FfnRefIdeal := fun m g _ =>
  (θ_run Cert.FfnRefIdeal.defs _ _).mono (fun r h => ⟨fun c => (h c).2, Idealize.ShloMosaic.sem_eq_zero_of_no_sems (by decide) r.2⟩)
    (Cert.FfnRefIdeal.Value.run (F := Ideal) m g)

theorem algebraic : Cert.algebraic_FfnIdeal_FfnRefIdeal := by
  intro m g m' g' _ hm
  refine ⟨fun c => Cert.FfnRef.result (m ((c.tc : Thread Cert.FfnIdeal.nD Cert.FfnIdeal.τ).loc Cert.FfnIdeal.main_arg0))
    (m ((c.tc : Thread Cert.FfnIdeal.nD Cert.FfnIdeal.τ).loc Cert.FfnIdeal.main_arg1)) (m ((c.tc : Thread Cert.FfnIdeal.nD Cert.FfnIdeal.τ).loc Cert.FfnIdeal.main_arg2))
    (m ((c.tc : Thread Cert.FfnIdeal.nD Cert.FfnIdeal.τ).loc Cert.FfnIdeal.main_arg3)) (m ((c.tc : Thread Cert.FfnIdeal.nD Cert.FfnIdeal.τ).loc Cert.FfnIdeal.main_arg4))
    (m ((c.tc : Thread Cert.FfnIdeal.nD Cert.FfnIdeal.τ).loc Cert.FfnIdeal.main_arg5)) (m ((c.tc : Thread Cert.FfnIdeal.nD Cert.FfnIdeal.τ).loc Cert.FfnIdeal.main_arg6)), ?_, ?_⟩
  · exact (θ_run _ _ _).mono (fun r h c => ⟨h.1 c, h.2.1 c⟩) (θ_run_and (call_result m g) (frame_ideal m g))
  · refine (θ_run _ _ _).mono (fun r h c => ⟨(h c).1.trans ?_, (h c).2⟩) (Cert.FfnRefIdeal.Value.run (F := Ideal) m' g')
    obtain ⟨h0, h1, h2, h3, h4, h5, h6⟩ := hm c
    refine (Cert.FfnRef.res_eq m' c).trans ?_
    rw [h0, h1, h2, h3, h4, h5, h6]

end Cert.Feed
end
-- ==== Proof.MidPieces.lean ====
/- What the body of the feed-forward call without the final norm leaves at a grid point: in the scratch, at the first chunk of
   channels, the modulated rows of its block; in the output's window the chunk's product, added to what was there, and after
   the last chunk the residual. -/
module

public import proofs.«01_k».proof.Proof.Gen.MidIdeal.Frame
public import Idealize.ShloMosaic.Lib.WholeRead
public import Idealize.ShloMosaic.Lib.VecWindow
public import Idealize.ShloMosaic.Lib.Pipeline.ReadBack
public import Idealize.ShloMosaic.Lib.ValueIdx

@[expose] public section

set_option maxRecDepth 16384
set_option backward.isDefEq.respectTransparency false

noncomputable section

namespace Cert.MidFeed

open Idealize.ShloMosaic Idealize.ShloMosaic.TcCoe Idealize.ShloMosaic.Tactic
open Cert.MidIdeal Cert.MidIdeal.Gen

variable {F : FTy → Type} [FloatOps F]

/-- The rows one above, at, and one below the block's own rows. -/
def above (u : Vec F S544x512 .f32) : Vec F S512x512 .f32 := View.ld u (Rect.unit ![15, 0] ![512, 512] inb_S544x512_S512x512_15_0)
def level (u : Vec F S544x512 .f32) : Vec F S512x512 .f32 := View.ld u (Rect.unit ![16, 0] ![512, 512] inb_S544x512_S512x512_16_0)
def below (u : Vec F S544x512 .f32) : Vec F S512x512 .f32 := View.ld u (Rect.unit ![17, 0] ![512, 512] inb_S544x512_S512x512_17_0)
/-- The three taps of a chunk's filter. -/
def tapA (k : Vec F S3x512 .f32) : Vec F S1x512 .f32 := View.ld k (Rect.unit ![0, 0] ![1, 512] inb_S3x512_S1x512_0_0)
def tapB (k : Vec F S3x512 .f32) : Vec F S1x512 .f32 := View.ld k (Rect.unit ![1, 0] ![1, 512] inb_S3x512_S1x512_1_0)
def tapC (k : Vec F S3x512 .f32) : Vec F S1x512 .f32 := View.ld k (Rect.unit ![2, 0] ![1, 512] inb_S3x512_S1x512_2_0)
/-- The modulation's shift, scale and gate. -/
def shiftRow (x3 : Vec F S1x6x2048 .f32) : FVec F S1x2048 .f32 := k0_pay1 (View.ld x3 (Rect.unit ![0, 3, 0] ![1, 1, 2048] inb_S1x6x2048_S1x1x2048_0_3_0))
def scaleRow (x3 : Vec F S1x6x2048 .f32) : FVec F S1x2048 .f32 := k0_pay2 (View.ld x3 (Rect.unit ![0, 4, 0] ![1, 1, 2048] inb_S1x6x2048_S1x1x2048_0_4_0))
def gateRow (x3 : Vec F S1x6x2048 .f32) : Vec F S1x1x2048 .f32 := View.ld x3 (Rect.unit ![0, 5, 0] ![1, 1, 2048] inb_S1x6x2048_S1x1x2048_0_5_0)

/-- The modulated rows of a block: sixteen before it, its own, sixteen after it. -/
def rowsOf (i : grid0.Coords) (x0 : Vec F S1x512x2048 .f32) (x1 x2 : Vec F S1x16x2048 .f32) (x3 : Vec F S1x6x2048 .f32) : FVec F S544x2048 .bf16 :=
  k0_pay8 (shiftRow x3) (scaleRow x3) (k0_pay6 (BitVec.ofNat 32 (i 1).val) (shiftRow x3) (scaleRow x3) x1) (k0_pay7 (shiftRow x3) (scaleRow x3) x0)
    (Scalar.cmpi CmpIPredicate.slt (BitVec.ofNat 32 (i 1).val) 31#32) x2

/-- The chunk's product from the rows, at the first chunk, -/
def firstChunk (h : FVec F S544x2048 .bf16) (x4 x5 : Vec F S2048x512 .bf16) (x6 x7 : Vec F S3x512 .f32) (x8 x9 : Vec F S1x512 .f32)
    (x10 : Vec F S512x2048 .bf16) : FVec F S1x512x2048 .f32 :=
  k0_pay3
    (k0_pay12 (tapA x6) (above (k0_pay14 h x4)) (tapB x6) (level (k0_pay14 h x4)) (tapC x6) (below (k0_pay14 h x4)) x8)
    (k0_pay13 (tapA x7) (above (k0_pay15 h x5)) (tapB x7) (level (k0_pay15 h x5)) (tapC x7) (below (k0_pay15 h x5))) x9 x10

/-- and at a later one, added to the window's contents. -/
def nextChunk (h : FVec F S544x2048 .bf16) (x4 x5 : Vec F S2048x512 .bf16) (x6 x7 : Vec F S3x512 .f32) (x8 x9 : Vec F S1x512 .f32)
    (x10 : Vec F S512x2048 .bf16) (acc : Vec F S1x512x2048 .f32) : FVec F S1x512x2048 .f32 :=
  k0_pay4
    (k0_pay16 (tapA x6) (above (k0_pay14 h x4)) (tapB x6) (level (k0_pay14 h x4)) (tapC x6) (below (k0_pay14 h x4)) x8)
    (k0_pay17 (tapA x6) (above (k0_pay14 h x4)) (tapB x6) (level (k0_pay14 h x4)) (tapC x6) (below (k0_pay14 h x4)) x8)
    (tapA x7) (above (k0_pay15 h x5)) (tapB x7) (level (k0_pay15 h x5)) (tapC x7) (below (k0_pay15 h x5)) x9 x10 acc

theorem read_whole {s : Shape} {e : EltTy} (x : Vec F s e) {off : Fin s.rank → ℕ} (inb : ∀ a, off a + s.size a ≤ s.size a) :
    (fun y => x ((Rect.unit off s.size inb).idx y)) = x :=
  funext fun y => congrArg x (Rect.emb_unit_full inb y)

theorem cov_above (v : View sig .tc .vmem S544x512 .f32) (w : Vec F S544x512 .f32) :
    v.readCov [(⟨Rect.unit ![0, 0] ![544, 512] inb_S544x512_S544x512_0_0, w⟩ : View.Piece (Elt F) S544x512 .f32)] (Rect.unit ![15, 0] ![512, 512] inb_S544x512_S512x512_15_0).toLoadRect = above w :=
  View.readCov_fill v inb_S544x512_S544x512_0_0 w [] _ (by decide)
theorem cov_level (v : View sig .tc .vmem S544x512 .f32) (w : Vec F S544x512 .f32) :
    v.readCov [(⟨Rect.unit ![0, 0] ![544, 512] inb_S544x512_S544x512_0_0, w⟩ : View.Piece (Elt F) S544x512 .f32)] (Rect.unit ![16, 0] ![512, 512] inb_S544x512_S512x512_16_0).toLoadRect = level w :=
  View.readCov_fill v inb_S544x512_S544x512_0_0 w [] _ (by decide)
theorem cov_below (v : View sig .tc .vmem S544x512 .f32) (w : Vec F S544x512 .f32) :
    v.readCov [(⟨Rect.unit ![0, 0] ![544, 512] inb_S544x512_S544x512_0_0, w⟩ : View.Piece (Elt F) S544x512 .f32)] (Rect.unit ![17, 0] ![512, 512] inb_S544x512_S512x512_17_0).toLoadRect = below w :=
  View.readCov_fill v inb_S544x512_S544x512_0_0 w [] _ (by decide)
theorem cov_block (v : View sig .tc .vmem S1x512x2048 .f32) (w : Vec F S1x512x2048 .f32) :
    v.readCov [(⟨Rect.unit ![0, 0, 0] ![1, 512, 2048] inb_S1x512x2048_S1x512x2048_0_0_0, w⟩ : View.Piece (Elt F) S1x512x2048 .f32)] (Rect.unit ![0, 0, 0] ![1, 512, 2048] inb_S1x512x2048_S1x512x2048_0_0_0).toLoadRect = w :=
  View.readCov_full (s := S1x512x2048) v inb_S1x512x2048_S1x512x2048_0_0_0 inb_S1x512x2048_S1x512x2048_0_0_0 w []

theorem pay10_eq (v1 : FVec F S1x2048 .f32) (v3 : FVec F S1x2048 .f32) (v38 : FVec F S16x2048 .bf16) (v57 : FVec F S512x2048 .bf16) (v58 : BitVec 1) (v59 : Vec F S1x16x2048 .f32) (w : Vec F S2048x512 .bf16) :
    k0_pay10 v1 v3 v38 v57 v58 v59 w = k0_pay14 (k0_pay8 v1 v3 v38 v57 v58 v59) w := rfl
theorem pay11_eq (v1 : FVec F S1x2048 .f32) (v3 : FVec F S1x2048 .f32) (v38 : FVec F S16x2048 .bf16) (v57 : FVec F S512x2048 .bf16) (v58 : BitVec 1) (v59 : Vec F S1x16x2048 .f32) (w : Vec F S2048x512 .bf16) :
    k0_pay11 v1 v3 v38 v57 v58 v59 w = k0_pay15 (k0_pay8 v1 v3 v38 v57 v58 v59) w := rfl

theorem pay18_eq (h : Vec F S544x2048 .bf16) (w : Vec F S2048x512 .bf16) : k0_pay18 h w = k0_pay14 h w := rfl
theorem pay19_eq (h : Vec F S544x2048 .bf16) (w : Vec F S2048x512 .bf16) : k0_pay19 h w = k0_pay15 h w := rfl
theorem pay20_eq (a c e : Vec F S1x512 .f32) (b d f : Vec F S512x512 .f32) (g : Vec F S1x512 .f32) : k0_pay20 a b c d e f g = k0_pay16 a b c d e f g := rfl
theorem pay21_eq (a c e : Vec F S1x512 .f32) (b d f : Vec F S512x512 .f32) (g : Vec F S1x512 .f32) : k0_pay21 a b c d e f g = k0_pay17 a b c d e f g := rfl
theorem pay22_eq (s t : FVec F S512x512 .f32) (a c e : Vec F S1x512 .f32) (b d f : Vec F S512x512 .f32) (g : Vec F S1x512 .f32) (w : Vec F S512x2048 .bf16) (o : Vec F S1x512x2048 .f32) :
    k0_pay22 s t a b c d e f g w o = k0_pay4 s t a b c d e f g w o := rfl
theorem pay9_eq (v1 : FVec F S1x2048 .f32) (v3 : FVec F S1x2048 .f32) (v38 : FVec F S16x2048 .bf16) (v57 : FVec F S512x2048 .bf16) (v58 : BitVec 1) (v59 : Vec F S1x16x2048 .f32) :
    k0_pay9 v1 v3 v38 v57 v58 v59 = k0_pay8 v1 v3 v38 v57 v58 v59 := by
  unfold k0_pay9
  funext y
  exact congrFun (shapeCast_self _ _) y

/-- At the first chunk the window holds its product. -/
theorem out_A (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : cond0_0 i) (hc1 : ¬cond0_1 i) (hc2 : ¬cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = firstChunk (rowsOf i x0 x1 x2 x3) x4 x5 x6 x7 x8 x9 x10 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  unfold out0_A_12 kernelRun0_A
  dsimp only
  rw [View.read_writes_full]
  simp only [kernelRun0_A.sl.r, kernelRun0_A.sl.r_1, kernelRun0_A.sl.r_2, kernelRun0_A.sl.r_3, kernelRun0_A.sl.v58, kernelRun0_A.sl.v97, kernelRun0_A.sl.v101, kernelRun0_A.sl.v106, kernelRun0_A.sl.v117, kernelRun0_A.sl.v121, kernelRun0_A.sl.v126, kernelRun0_A.sl.HS1_1, kernelRun0_A.sl.HS2_1, e0, e1, e2, e3, e4, e5, e6, e7, e8, e9, e10, e11]
  simp only [w_x0, w_x1, w_x2, w_x4, w_x5, w_x8, w_x9, w_x10, cov_above, cov_level, cov_below, cov_block, pay9_eq, pay10_eq, pay11_eq, pay18_eq, pay19_eq, pay20_eq, pay21_eq, pay22_eq]
  rfl

/-- At the first chunk the scratch takes the rows. -/
theorem rows_A (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : cond0_0 i) (hc1 : ¬cond0_1 i) (hc2 : ¬cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = rowsOf i x0 x1 x2 x3 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  unfold sout0_A_0 kernelRun0_A
  dsimp only
  rw [View.read_writes_full]
  simp only [kernelRun0_A.sl.r, kernelRun0_A.sl.r_1, kernelRun0_A.sl.r_2, kernelRun0_A.sl.r_3, kernelRun0_A.sl.v58, kernelRun0_A.sl.v97, kernelRun0_A.sl.v101, kernelRun0_A.sl.v106, kernelRun0_A.sl.v117, kernelRun0_A.sl.v121, kernelRun0_A.sl.v126, kernelRun0_A.sl.HS1_1, kernelRun0_A.sl.HS2_1, e0, e1, e2, e3, e4, e5, e6, e7, e8, e9, e10, e11]
  simp only [w_x0, w_x1, w_x2, w_x4, w_x5, w_x8, w_x9, w_x10, cov_above, cov_level, cov_below, cov_block, pay9_eq, pay10_eq, pay11_eq, pay18_eq, pay19_eq, pay20_eq, pay21_eq, pay22_eq]
  rfl

/-- At a middle chunk the product is added. -/
theorem out_B (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : ¬cond0_0 i) (hc1 : cond0_1 i) (hc2 : ¬cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) (xo12 : Vec F S1x512x2048 .f32) (xs0 : Vec F S544x2048 .bf16) :
    out0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = nextChunk xs0 x4 x5 x6 x7 x8 x9 x10 xo12 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have e12 : ∀ B, View.readAt (Elt F) arg15.view B (harg15.unread xo12) = fun y => xo12 (B.idx y) := fun B => funext fun y => harg15.readAt_unread xo12 B y
  have e13 : ∀ B, View.readAt (Elt F) arg16.view B (harg16.unread xs0) = fun y => xs0 (B.idx y) := fun B => funext fun y => harg16.readAt_unread xs0 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  have w_xo12 : (fun y => xo12 ((Rect.unit ![0, 0, 0] ![1, 512, 2048] inb_S1x512x2048_S1x512x2048_0_0_0).idx y)) = xo12 := read_whole xo12 _
  have w_xs0 : (fun y => xs0 ((Rect.unit ![0, 0] ![544, 2048] inb_S544x2048_S544x2048_0_0).idx y)) = xs0 := read_whole xs0 _
  unfold out0_B_12 kernelRun0_B
  dsimp only
  rw [View.read_writes_full]
  simp only [kernelRun0_B.sl.r, kernelRun0_B.sl.r_1, kernelRun0_B.sl.v31, kernelRun0_B.sl.v35, kernelRun0_B.sl.v40, kernelRun0_B.sl.v51, kernelRun0_B.sl.v55, kernelRun0_B.sl.v60, kernelRun0_B.sl.HS1_1, kernelRun0_B.sl.HS2_1, e0, e1, e2, e3, e4, e5, e6, e7, e8, e9, e10, e11, e12, e13]
  simp only [w_x0, w_x1, w_x2, w_x4, w_x5, w_x8, w_x9, w_x10, w_xo12, w_xs0, cov_above, cov_level, cov_below, cov_block, pay9_eq, pay10_eq, pay11_eq, pay18_eq, pay19_eq, pay20_eq, pay21_eq, pay22_eq]
  rfl

/-- At the last chunk it is added, and then comes the residual. -/
theorem out_C (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x6x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x512x2048 .f32) (harg15 : arg15.IsWhole) (arg16 : Memref sig .tc .vmem S544x2048 .bf16) (harg16 : arg16.IsWhole) (arg17 : Memref sig .tc .vmem S544x512 .f32) (harg17 : arg17.IsWhole) (arg18 : Memref sig .tc .vmem S544x512 .f32) (harg18 : arg18.IsWhole) (hc0 : ¬cond0_0 i) (hc1 : ¬cond0_1 i) (hc2 : cond0_2 i)
    (x0 : Vec F S1x512x2048 .f32) (x1 : Vec F S1x16x2048 .f32) (x2 : Vec F S1x16x2048 .f32) (x3 : Vec F S1x6x2048 .f32) (x4 : Vec F S2048x512 .bf16) (x5 : Vec F S2048x512 .bf16) (x6 : Vec F S3x512 .f32) (x7 : Vec F S3x512 .f32) (x8 : Vec F S1x512 .f32) (x9 : Vec F S1x512 .f32) (x10 : Vec F S512x2048 .bf16) (x11 : Vec F S1x2048 .f32) (xo12 : Vec F S1x512x2048 .f32) (xs0 : Vec F S544x2048 .bf16) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = k0_pay5 (gateRow x3) (k0_pay23 x0) (nextChunk xs0 x4 x5 x6 x7 x8 x9 x10 xo12) := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have e6 : ∀ B, View.readAt (Elt F) arg9.view B (harg9.unread x6) = fun y => x6 (B.idx y) := fun B => funext fun y => harg9.readAt_unread x6 B y
  have e7 : ∀ B, View.readAt (Elt F) arg10.view B (harg10.unread x7) = fun y => x7 (B.idx y) := fun B => funext fun y => harg10.readAt_unread x7 B y
  have e8 : ∀ B, View.readAt (Elt F) arg11.view B (harg11.unread x8) = fun y => x8 (B.idx y) := fun B => funext fun y => harg11.readAt_unread x8 B y
  have e9 : ∀ B, View.readAt (Elt F) arg12.view B (harg12.unread x9) = fun y => x9 (B.idx y) := fun B => funext fun y => harg12.readAt_unread x9 B y
  have e10 : ∀ B, View.readAt (Elt F) arg13.view B (harg13.unread x10) = fun y => x10 (B.idx y) := fun B => funext fun y => harg13.readAt_unread x10 B y
  have e11 : ∀ B, View.readAt (Elt F) arg14.view B (harg14.unread x11) = fun y => x11 (B.idx y) := fun B => funext fun y => harg14.readAt_unread x11 B y
  have e12 : ∀ B, View.readAt (Elt F) arg15.view B (harg15.unread xo12) = fun y => xo12 (B.idx y) := fun B => funext fun y => harg15.readAt_unread xo12 B y
  have e13 : ∀ B, View.readAt (Elt F) arg16.view B (harg16.unread xs0) = fun y => xs0 (B.idx y) := fun B => funext fun y => harg16.readAt_unread xs0 B y
  have w_x0 : (fun y => x0 ((Rect.unit ![0, 0, 0] ![1, 512, 2048] inb_S1x512x2048_S1x512x2048_0_0_0).idx y)) = x0 := read_whole x0 _
  have w_x1 : (fun y => x1 ((Rect.unit ![0, 0, 0] ![1, 16, 2048] inb_S1x16x2048_S1x16x2048_0_0_0).idx y)) = x1 := read_whole x1 _
  have w_x2 : (fun y => x2 ((Rect.unit ![0, 0, 0] ![1, 16, 2048] inb_S1x16x2048_S1x16x2048_0_0_0).idx y)) = x2 := read_whole x2 _
  have w_x4 : (fun y => x4 ((Rect.unit ![0, 0] ![2048, 512] inb_S2048x512_S2048x512_0_0).idx y)) = x4 := read_whole x4 _
  have w_x5 : (fun y => x5 ((Rect.unit ![0, 0] ![2048, 512] inb_S2048x512_S2048x512_0_0).idx y)) = x5 := read_whole x5 _
  have w_x8 : (fun y => x8 ((Rect.unit ![0, 0] ![1, 512] inb_S1x512_S1x512_0_0).idx y)) = x8 := read_whole x8 _
  have w_x9 : (fun y => x9 ((Rect.unit ![0, 0] ![1, 512] inb_S1x512_S1x512_0_0).idx y)) = x9 := read_whole x9 _
  have w_x10 : (fun y => x10 ((Rect.unit ![0, 0] ![512, 2048] inb_S512x2048_S512x2048_0_0).idx y)) = x10 := read_whole x10 _
  have w_xo12 : (fun y => xo12 ((Rect.unit ![0, 0, 0] ![1, 512, 2048] inb_S1x512x2048_S1x512x2048_0_0_0).idx y)) = xo12 := read_whole xo12 _
  have w_xs0 : (fun y => xs0 ((Rect.unit ![0, 0] ![544, 2048] inb_S544x2048_S544x2048_0_0).idx y)) = xs0 := read_whole xs0 _
  unfold out0_C_12 kernelRun0_C
  dsimp only
  rw [View.read_writes_full]
  simp only [kernelRun0_C.sl.r, kernelRun0_C.sl.r_1, kernelRun0_C.sl.r_2, kernelRun0_C.sl.v31, kernelRun0_C.sl.v35, kernelRun0_C.sl.v40, kernelRun0_C.sl.v51, kernelRun0_C.sl.v55, kernelRun0_C.sl.v60, kernelRun0_C.sl.v81, kernelRun0_C.sl.H12_1, kernelRun0_C.sl.HS1_1, kernelRun0_C.sl.HS2_1, e0, e1, e2, e3, e4, e5, e6, e7, e8, e9, e10, e11, e12, e13]
  simp only [w_x0, w_x1, w_x2, w_x4, w_x5, w_x8, w_x9, w_x10, w_xo12, w_xs0, cov_above, cov_level, cov_below, cov_block, pay9_eq, pay10_eq, pay11_eq, pay18_eq, pay19_eq, pay20_eq, pay21_eq, pay22_eq]
  rfl

end Cert.MidFeed
end
-- ==== Proof.MidStep.lean ====
/- The values of that body: its chunks and rows are those of the call with the final norm, and its last step adds the gated residual. -/
module

public import proofs.«01_k».proof.Proof.MidPieces
public import proofs.«01_k».proof.Proof.FfnRun

@[expose] public section

set_option maxRecDepth 16384
set_option backward.isDefEq.respectTransparency false

noncomputable section

namespace Cert.MidFeed

open Idealize.ShloMosaic Idealize.ShloMosaic.TcCoe
open Cert.MidIdeal Cert.MidIdeal.Gen Cert.Feed

theorem firstChunk_eq (h : FVec Ideal S544x2048 .bf16) (x4 x5 : Vec Ideal S2048x512 .bf16) (x6 x7 : Vec Ideal S3x512 .f32) (x8 x9 : Vec Ideal S1x512 .f32)
    (x10 : Vec Ideal S512x2048 .bf16) : firstChunk h x4 x5 x6 x7 x8 x9 x10 = Cert.Feed.firstChunk h x4 x5 x6 x7 x8 x9 x10 := rfl

theorem nextChunk_eq (h : FVec Ideal S544x2048 .bf16) (x4 x5 : Vec Ideal S2048x512 .bf16) (x6 x7 : Vec Ideal S3x512 .f32) (x8 x9 : Vec Ideal S1x512 .f32)
    (x10 : Vec Ideal S512x2048 .bf16) (acc : Vec Ideal S1x512x2048 .f32) : nextChunk h x4 x5 x6 x7 x8 x9 x10 acc = Cert.Feed.nextChunk h x4 x5 x6 x7 x8 x9 x10 acc := rfl

theorem rowsOf_eq (i : grid0.Coords) (x0 : Vec Ideal S1x512x2048 .f32) (x1 x2 : Vec Ideal S1x16x2048 .f32) (x3 : Vec Ideal S1x6x2048 .f32) :
    rowsOf i x0 x1 x2 x3 = Cert.Feed.rowsOf i x0 x1 x2 x3 := rfl

theorem firstChunk_apply (h : FVec Ideal S544x2048 .bf16) (x4 x5 : Vec Ideal S2048x512 .bf16) (x6 x7 : Vec Ideal S3x512 .f32) (x8 x9 : Vec Ideal S1x512 .f32)
    (x10 : Vec Ideal S512x2048 .bf16) (r : Fin 512) (d : Fin 2048) :
    (firstChunk h x4 x5 x6 x7 x8 x9 x10 (ix3 0 r d) : EReal) = chunk h x4 x5 x6 x7 x8 x9 x10 r d :=
  (congrFun (firstChunk_eq h x4 x5 x6 x7 x8 x9 x10) (ix3 0 r d)).trans (Cert.Feed.firstChunk_apply h x4 x5 x6 x7 x8 x9 x10 r d)

theorem nextChunk_apply (h : FVec Ideal S544x2048 .bf16) (x4 x5 : Vec Ideal S2048x512 .bf16) (x6 x7 : Vec Ideal S3x512 .f32) (x8 x9 : Vec Ideal S1x512 .f32)
    (x10 : Vec Ideal S512x2048 .bf16) (acc : Vec Ideal S1x512x2048 .f32) (r : Fin 512) (d : Fin 2048) :
    (nextChunk h x4 x5 x6 x7 x8 x9 x10 acc (ix3 0 r d) : EReal) = acc (ix3 0 r d) + chunk h x4 x5 x6 x7 x8 x9 x10 r d :=
  (congrFun (nextChunk_eq h x4 x5 x6 x7 x8 x9 x10 acc) (ix3 0 r d)).trans (Cert.Feed.nextChunk_apply h x4 x5 x6 x7 x8 x9 x10 acc r d)

theorem gateRow_apply (x3 : Vec Ideal S1x6x2048 .f32) (d : Fin 2048) : gateRow x3 (ix3 0 0 d) = x3 (ix3 0 5 d) := Cert.Feed.gateRow_apply x3 d

theorem pay5_apply (g : Vec Ideal S1x1x2048 .f32) (x acc : Vec Ideal S1x512x2048 .f32) (r : Fin 512) (d : Fin 2048) :
    k0_pay5 g (k0_pay23 x) acc (ix3 0 r d) = x (ix3 0 r d) + g (ix3 0 0 d) * acc (ix3 0 r d) := by
  pointwise [k0_pay5, k0_pay23]

end Cert.MidFeed
end
-- ==== Proof.MidBlocks.lean ====
/- The blocks at a grid point of the feed-forward call without the final norm: those of the call with it. -/
module

public import proofs.«01_k».proof.Proof.MidStep
public import Idealize.ShloMosaic.Lib.Pipeline.ValueKit.Geometry
public import Idealize.ShloMosaic.Lib.Pipeline.Covers

@[expose] public section

set_option maxRecDepth 16384
set_option backward.isDefEq.respectTransparency false

noncomputable section

namespace Cert.MidFeed

open Idealize.ShloMosaic Idealize.ShloMosaic.TcCoe
open Cert.MidIdeal Cert.MidIdeal.Gen Cert.Feed

variable (m : (ℓ : Loc nD τ sig) → Buf (Elt Ideal) ℓ) (c : Dev nD)

variable (t : Fin cfg0.N)

theorem place_0 (y : S1x512x2048.Idx) (a : Fin 3) :
    (((cfg0.win 0).blk t).view.emb y a).val = (![((grid0.coords t) 0).val * 1, ((grid0.coords t) 1).val * 512, 0 * 2048] : Fin 3 → Nat) a + (y a).val := by
  refine (Pipeline.Window.rect_emb_val_off (cfg0.win 0) t y a).trans ?_
  have i0 : (cfg0.win 0).index t a = (![((grid0.coords t) 0).val, ((grid0.coords t) 1).val, 0] : Fin 3 → Nat) a := by
    show cc0_transform_0 (grid0.coords t) a = _
    have e : cc0_transform_0 (grid0.coords t) = ![(BitVec.ofNat 32 ((grid0.coords t) 0).val).toNat, (BitVec.ofNat 32 ((grid0.coords t) 1).val).toNat, (0#32).toNat] := rfl
    rw [e, word_batch, word_block]; rfl
  rw [i0]
  clear i0
  match a with
  | 0 => rfl
  | 1 => rfl
  | 2 => rfl

theorem blk_0 : (iblk m c 0 t : S1x512x2048.Idx → EReal) = xBlk (V m c main_arg0) ((grid0.coords t) 0) ((grid0.coords t) 1) := by
  funext (y : S1x512x2048.Idx)
  have e := place_0 t y
  unfold xBlk
  refine congrArg (V m c main_arg0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show ((grid0.coords t) 1).val * 512 + (y 1).val = 512 * ((grid0.coords t) 1).val + (y 1).val; omega
  | 2 => show 0 * 2048 + (y 2).val = (y 2).val; omega

theorem place_1 (y : S1x16x2048.Idx) (a : Fin 3) :
    (((cfg0.win 1).blk t).view.emb y a).val = (![((grid0.coords t) 0).val * 1, (32 * ((grid0.coords t) 1).val - 1) * 16, 0 * 2048] : Fin 3 → Nat) a + (y a).val := by
  refine (Pipeline.Window.rect_emb_val_off (cfg0.win 1) t y a).trans ?_
  have i0 : (cfg0.win 1).index t a = (![((grid0.coords t) 0).val, (32 * ((grid0.coords t) 1).val - 1), 0] : Fin 3 → Nat) a := by
    show cc0_transform_1 (grid0.coords t) a = _
    have e : cc0_transform_1 (grid0.coords t) = ![(BitVec.ofNat 32 ((grid0.coords t) 0).val).toNat, (Scalar.maxsi (Scalar.subi (Scalar.muli (BitVec.ofNat 32 ((grid0.coords t) 1).val) 32#32) 1#32) 0#32).toNat, (0#32).toNat] := rfl
    rw [e, word_batch, word_prev]; rfl
  rw [i0]
  clear i0
  match a with
  | 0 => rfl
  | 1 => rfl
  | 2 => rfl

theorem blk_1 : (iblk m c 1 t : S1x16x2048.Idx → EReal) = prevBlk (V m c main_arg0) ((grid0.coords t) 0) ((grid0.coords t) 1) := by
  funext (y : S1x16x2048.Idx)
  have e := place_1 t y
  unfold prevBlk
  refine congrArg (V m c main_arg0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show (32 * ((grid0.coords t) 1).val - 1) * 16 + (y 1).val = 16 * (32 * ((grid0.coords t) 1).val - 1) + (y 1).val; omega
  | 2 => show 0 * 2048 + (y 2).val = (y 2).val; omega

theorem place_2 (y : S1x16x2048.Idx) (a : Fin 3) :
    (((cfg0.win 2).blk t).view.emb y a).val = (![((grid0.coords t) 0).val * 1, min (32 * ((grid0.coords t) 1).val + 32) 1023 * 16, 0 * 2048] : Fin 3 → Nat) a + (y a).val := by
  refine (Pipeline.Window.rect_emb_val_off (cfg0.win 2) t y a).trans ?_
  have i0 : (cfg0.win 2).index t a = (![((grid0.coords t) 0).val, min (32 * ((grid0.coords t) 1).val + 32) 1023, 0] : Fin 3 → Nat) a := by
    show cc0_transform_2 (grid0.coords t) a = _
    have e : cc0_transform_2 (grid0.coords t) = ![(BitVec.ofNat 32 ((grid0.coords t) 0).val).toNat, (Scalar.minsi (Scalar.muli (Scalar.addi (BitVec.ofNat 32 ((grid0.coords t) 1).val) 1#32) 32#32) 1023#32).toNat, (0#32).toNat] := rfl
    rw [e, word_batch, word_next]; rfl
  rw [i0]
  clear i0
  match a with
  | 0 => rfl
  | 1 => rfl
  | 2 => rfl

theorem blk_2 : (iblk m c 2 t : S1x16x2048.Idx → EReal) = nextBlk (V m c main_arg0) ((grid0.coords t) 0) ((grid0.coords t) 1) := by
  funext (y : S1x16x2048.Idx)
  have e := place_2 t y
  unfold nextBlk
  refine congrArg (V m c main_arg0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show min (32 * ((grid0.coords t) 1).val + 32) 1023 * 16 + (y 1).val = 16 * min (32 * ((grid0.coords t) 1).val + 32) 1023 + (y 1).val; omega
  | 2 => show 0 * 2048 + (y 2).val = (y 2).val; omega

theorem place_3 (y : S1x6x2048.Idx) (a : Fin 3) :
    (((cfg0.win 3).blk t).view.emb y a).val = (![((grid0.coords t) 0).val * 1, 0 * 6, 0 * 2048] : Fin 3 → Nat) a + (y a).val := by
  refine (Pipeline.Window.rect_emb_val_off (cfg0.win 3) t y a).trans ?_
  have i0 : (cfg0.win 3).index t a = (![((grid0.coords t) 0).val, 0, 0] : Fin 3 → Nat) a := by
    show cc0_transform_3 (grid0.coords t) a = _
    have e : cc0_transform_3 (grid0.coords t) = ![(BitVec.ofNat 32 ((grid0.coords t) 0).val).toNat, (0#32).toNat, (0#32).toNat] := rfl
    rw [e, word_batch]; rfl
  rw [i0]
  clear i0
  match a with
  | 0 => rfl
  | 1 => rfl
  | 2 => rfl

theorem blk_3 : (iblk m c 3 t : S1x6x2048.Idx → EReal) = mBlk (V m c main_v0) ((grid0.coords t) 0) := by
  funext (y : S1x6x2048.Idx)
  have e := place_3 t y
  unfold mBlk
  refine congrArg (V m c main_v0) ?_
  funext (a : Fin 3)
  refine Fin.ext ((e a).trans ?_)
  match a with
  | 0 => have h : (y 0).val < 1 := (y 0).isLt; show ((grid0.coords t) 0).val * 1 + (y 0).val = ((grid0.coords t) 0).val; omega
  | 1 => show 0 * 6 + (y 1).val = (y 1).val; omega
  | 2 => show 0 * 2048 + (y 2).val = (y 2).val; omega

theorem place_4 (y : S2048x512.Idx) (a : Fin 2) :
    (((cfg0.win 4).blk t).view.emb y a).val = (![0 * 2048, ((grid0.coords t) 2).val * 512] : Fin 2 → Nat) a + (y a).val := by
  refine (Pipeline.Window.rect_emb_val_off (cfg0.win 4) t y a).trans ?_
  have i0 : (cfg0.win 4).index t a = (![0, ((grid0.coords t) 2).val] : Fin 2 → Nat) a := by
    show cc0_transform_4 (grid0.coords t) a = _
    have e : cc0_transform_4 (grid0.coords t) = ![(0#32).toNat, (BitVec.ofNat 32 ((grid0.coords t) 2).val).toNat] := rfl
    rw [e, word_chunk]; rfl
  rw [i0]
  clear i0
  match a with
  | 0 => rfl
  | 1 => rfl

theorem blk_4 : (iblk m c 4 t : S2048x512.Idx → EReal) = wBlk (V m c main_v1) 0 ((grid0.coords t) 2) := by
  funext (y : S2048x512.Idx)
  have e := place_4 t y
  unfold wBlk
  refine congrArg (V m c main_v1) ?_
  funext (a : Fin 2)
  refine Fin.ext ((e a).trans ?_)
  match a with
  | 0 => show 0 * 2048 + (y 0).val = (y 0).val; omega
  | 1 => show ((grid0.coords t) 2).val * 512 + (y 1).val = (11 * 0 + ((grid0.coords t) 2).val) * 512 + (y 1).val; omega

theorem place_5 (y : S2048x512.Idx) (a : Fin 2) :
    (((cfg0.win 5).blk t).view.emb y a).val = (![0 * 2048, (11 + ((grid0.coords t) 2).val) * 512] : Fin 2 → Nat) a + (y a).val := by
  refine (Pipeline.Window.rect_emb_val_off (cfg0.win 5) t y a).trans ?_
  have i0 : (cfg0.win 5).index t a = (![0, (11 + ((grid0.coords t) 2).val)] : Fin 2 → Nat) a := by
    show cc0_transform_5 (grid0.coords t) a = _
    have e : cc0_transform_5 (grid0.coords t) = ![(0#32).toNat, (Scalar.addi 11#32 (BitVec.ofNat 32 ((grid0.coords t) 2).val)).toNat] := rfl
    rw [e, word_half]; rfl
  rw [i0]
  clear i0
  match a with
  | 0 => rfl
  | 1 => rfl

theorem blk_5 : (iblk m c 5 t : S2048x512.Idx → EReal) = wBlk (V m c main_v1) 1 ((grid0.coords t) 2) := by
  funext (y : S2048x512.Idx)
  have e := place_5 t y
  unfold wBlk
  refine congrArg (V m c main_v1) ?_
  funext (a : Fin 2)
  refine Fin.ext ((e a).trans ?_)
  match a with
  | 0 => show 0 * 2048 + (y 0).val = (y 0).val; omega
  | 1 => show (11 + ((grid0.coords t) 2).val) * 512 + (y 1).val = (11 * 1 + ((grid0.coords t) 2).val) * 512 + (y 1).val; omega

theorem place_6 (y : S3x512.Idx) (a : Fin 2) :
    (((cfg0.win 6).blk t).view.emb y a).val = (![0 * 3, ((grid0.coords t) 2).val * 512] : Fin 2 → Nat) a + (y a).val := by
  refine (Pipeline.Window.rect_emb_val_off (cfg0.win 6) t y a).trans ?_
  have i0 : (cfg0.win 6).index t a = (![0, ((grid0.coords t) 2).val] : Fin 2 → Nat) a := by
    show cc0_transform_6 (grid0.coords t) a = _
    have e : cc0_transform_6 (grid0.coords t) = ![(0#32).toNat, (BitVec.ofNat 32 ((grid0.coords t) 2).val).toNat] := rfl
    rw [e, word_chunk]; rfl
  rw [i0]
  clear i0
  match a with
  | 0 => rfl
  | 1 => rfl

theorem blk_6 : (iblk m c 6 t : S3x512.Idx → EReal) = kBlk (V m c main_arg3) 0 ((grid0.coords t) 2) := by
  funext (y : S3x512.Idx)
  have e := place_6 t y
  unfold kBlk
  refine congrArg (V m c main_arg3) ?_
  funext (a : Fin 2)
  refine Fin.ext ((e a).trans ?_)
  match a with
  | 0 => show 0 * 3 + (y 0).val = (y 0).val; omega
  | 1 => show ((grid0.coords t) 2).val * 512 + (y 1).val = (11 * 0 + ((grid0.coords t) 2).val) * 512 + (y 1).val; omega

theorem place_7 (y : S3x512.Idx) (a : Fin 2) :
    (((cfg0.win 7).blk t).view.emb y a).val = (![0 * 3, (11 + ((grid0.coords t) 2).val) * 512] : Fin 2 → Nat) a + (y a).val := by
  refine (Pipeline.Window.rect_emb_val_off (cfg0.win 7) t y a).trans ?_
  have i0 : (cfg0.win 7).index t a = (![0, (11 + ((grid0.coords t) 2).val)] : Fin 2 → Nat) a := by
    show cc0_transform_7 (grid0.coords t) a = _
    have e : cc0_transform_7 (grid0.coords t) = ![(0#32).toNat, (Scalar.addi 11#32 (BitVec.ofNat 32 ((grid0.coords t) 2).val)).toNat] := rfl
    rw [e, word_half]; rfl
  rw [i0]
  clear i0
  match a with
  | 0 => rfl
  | 1 => rfl

theorem blk_7 : (iblk m c 7 t : S3x512.Idx → EReal) = kBlk (V m c main_arg3) 1 ((grid0.coords t) 2) := by
  funext (y : S3x512.Idx)
  have e := place_7 t y
  unfold kBlk
  refine congrArg (V m c main_arg3) ?_
  funext (a : Fin 2)
  refine Fin.ext ((e a).trans ?_)
  match a with
  | 0 => show 0 * 3 + (y 0).val = (y 0).val; omega
  | 1 => show (11 + ((grid0.coords t) 2).val) * 512 + (y 1).val = (11 * 1 + ((grid0.coords t) 2).val) * 512 + (y 1).val; omega

theorem place_8 (y : S1x512.Idx) (a : Fin 2) :
    (((cfg0.win 8).blk t).view.emb y a).val = (![0 * 1, ((grid0.coords t) 2).val * 512] : Fin 2 → Nat) a + (y a).val := by
  refine (Pipeline.Window.rect_emb_val_off (cfg0.win 8) t y a).trans ?_
  have i0 : (cfg0.win 8).index t a = (![0, ((grid0.coords t) 2).val] : Fin 2 → Nat) a := by
    show cc0_transform_8 (grid0.coords t) a = _
    have e : cc0_transform_8 (grid0.coords t) = ![(0#32).toNat, (BitVec.ofNat 32 ((grid0.coords t) 2).val).toNat] := rfl
    rw [e, word_chunk]; rfl
  rw [i0]
  clear i0
  match a with
  | 0 => rfl
  | 1 => rfl

theorem blk_8 : (iblk m c 8 t : S1x512.Idx → EReal) = bBlk (V m c main_v2) 0 ((grid0.coords t) 2) := by
  funext (y : S1x512.Idx)
  have e := place_8 t y
  unfold bBlk
  refine congrArg (V m c main_v2) ?_
  funext (a : Fin 2)
  refine Fin.ext ((e a).trans ?_)
  match a with
  | 0 => have h : (y 0).val < 1 := (y 0).isLt; show 0 * 1 + (y 0).val = (y 0).val; omega
  | 1 => show ((grid0.coords t) 2).val * 512 + (y 1).val = (11 * 0 + ((grid0.coords t) 2).val) * 512 + (y 1).val; omega

theorem place_9 (y : S1x512.Idx) (a : Fin 2) :
    (((cfg0.win 9).blk t).view.emb y a).val = (![0 * 1, (11 + ((grid0.coords t) 2).val) * 512] : Fin 2 → Nat) a + (y a).val := by
  refine (Pipeline.Window.rect_emb_val_off (cfg0.win 9) t y a).trans ?_
  have i0 : (cfg0.win 9).index t a = (![0, (11 + ((grid0.coords t) 2).val)] : Fin 2 → Nat) a := by
    show cc0_transform_9 (grid0.coords t) a = _
    have e : cc0_transform_9 (grid0.coords t) = ![(0#32).toNat, (Scalar.addi 11#32 (BitVec.ofNat 32 ((grid0.coords t) 2).val)).toNat] := rfl
    rw [e, word_half]; rfl
  rw [i0]
  clear i0
  match a with
  | 0 => rfl
  | 1 => rfl

theorem blk_9 : (iblk m c 9 t : S1x512.Idx → EReal) = bBlk (V m c main_v2) 1 ((grid0.coords t) 2) := by
  funext (y : S1x512.Idx)
  have e := place_9 t y
  unfold bBlk
  refine congrArg (V m c main_v2) ?_
  funext (a : Fin 2)
  refine Fin.ext ((e a).trans ?_)
  match a with
  | 0 => have h : (y 0).val < 1 := (y 0).isLt; show 0 * 1 + (y 0).val = (y 0).val; omega
  | 1 => show (11 + ((grid0.coords t) 2).val) * 512 + (y 1).val = (11 * 1 + ((grid0.coords t) 2).val) * 512 + (y 1).val; omega

theorem place_10 (y : S512x2048.Idx) (a : Fin 2) :
    (((cfg0.win 10).blk t).view.emb y a).val = (![((grid0.coords t) 2).val * 512, 0 * 2048] : Fin 2 → Nat) a + (y a).val := by
  refine (Pipeline.Window.rect_emb_val_off (cfg0.win 10) t y a).trans ?_
  have i0 : (cfg0.win 10).index t a = (![((grid0.coords t) 2).val, 0] : Fin 2 → Nat) a := by
    show cc0_transform_10 (grid0.coords t) a = _
    have e : cc0_transform_10 (grid0.coords t) = ![(BitVec.ofNat 32 ((grid0.coords t) 2).val).toNat, (0#32).toNat] := rfl
    rw [e, word_chunk]; rfl
  rw [i0]
  clear i0
  match a with
  | 0 => rfl
  | 1 => rfl

theorem blk_10 : (iblk m c 10 t : S512x2048.Idx → EReal) = dBlk (V m c main_v3) ((grid0.coords t) 2) := by
  funext (y : S512x2048.Idx)
  have e := place_10 t y
  unfold dBlk
  refine congrArg (V m c main_v3) ?_
  funext (a : Fin 2)
  refine Fin.ext ((e a).trans ?_)
  match a with
  | 0 => show ((grid0.coords t) 2).val * 512 + (y 0).val = ((grid0.coords t) 2).val * 512 + (y 0).val; omega
  | 1 => show 0 * 2048 + (y 1).val = (y 1).val; omega

theorem place_11 (y : S1x2048.Idx) (a : Fin 2) :
    (((cfg0.win 11).blk t).view.emb y a).val = (![0 * 1, 0 * 2048] : Fin 2 → Nat) a + (y a).val := by
  refine (Pipeline.Window.rect_emb_val_off (cfg0.win 11) t y a).trans ?_
  have i0 : (cfg0.win 11).index t a = (![0, 0] : Fin 2 → Nat) a := by
    show cc0_transform_11 (grid0.coords t) a = _
    have e : cc0_transform_11 (grid0.coords t) = ![(0#32).toNat, (0#32).toNat] := rfl
    rw [e]; rfl
  rw [i0]
  clear i0
  match a with
  | 0 => rfl
  | 1 => rfl

theorem blk_11 : (iblk m c 11 t : S1x2048.Idx → EReal) = V m c main_v4 := by
  funext (y : S1x2048.Idx)
  have e := place_11 t y
  refine congrArg (V m c main_v4) ?_
  funext (a : Fin 2)
  refine Fin.ext ((e a).trans ?_)
  match a with
  | 0 => have h : (y 0).val < 1 := (y 0).isLt; show 0 * 1 + (y 0).val = (y 0).val; omega
  | 1 => show 0 * 2048 + (y 1).val = (y 1).val; omega

theorem place_12 (y : S1x512x2048.Idx) (a : Fin 3) :
    (((cfg0.win 12).blk t).view.emb y a).val = (![((grid0.coords t) 0).val * 1, ((grid0.coords t) 1).val * 512, 0 * 2048] : Fin 3 → Nat) a + (y a).val := by
  refine (Pipeline.Window.rect_emb_val_off (cfg0.win 12) t y a).trans ?_
  have i0 : (cfg0.win 12).index t a = (![((grid0.coords t) 0).val, ((grid0.coords t) 1).val, 0] : Fin 3 → Nat) a := by
    show cc0_transform_12 (grid0.coords t) a = _
    have e : cc0_transform_12 (grid0.coords t) = ![(BitVec.ofNat 32 ((grid0.coords t) 0).val).toNat, (BitVec.ofNat 32 ((grid0.coords t) 1).val).toNat, (0#32).toNat] := rfl
    rw [e, word_batch, word_block]; rfl
  rw [i0]
  clear i0
  match a with
  | 0 => rfl
  | 1 => rfl
  | 2 => rfl

end Cert.MidFeed
end
-- ==== Proof.MidRun.lean ====
/- What the feed-forward call without the final norm holds after each grid point: the block's rows of modulated activations, and the sum of the chunks so far. -/
module

public import proofs.«01_k».proof.Proof.MidBlocks

@[expose] public section

set_option maxRecDepth 16384
set_option backward.isDefEq.respectTransparency false

noncomputable section

namespace Cert.MidFeed

open Idealize.ShloMosaic Idealize.ShloMosaic.TcCoe
open Cert.MidIdeal Cert.MidIdeal.Gen Cert.Feed

/-- The grid point's coordinates. -/
theorem coord_batch (t : Fin cfg0.N) : ((grid0.coords t) 0).val = t.val / 352 := by revert t; decide +kernel
theorem coord_block (t : Fin cfg0.N) : ((grid0.coords t) 1).val = t.val / 11 % 32 := by revert t; decide +kernel
theorem coord_chunk (t : Fin cfg0.N) : ((grid0.coords t) 2).val = t.val % 11 := by revert t; decide +kernel

variable (X : S2x16384x2048.Idx → EReal) (M : S2x6x2048.Idx → EReal) (W : S2048x11264.Idx → EReal) (K : S3x11264.Idx → EReal)
  (B : S1x11264.Idx → EReal) (D : S5632x2048.Idx → EReal) (G : S1x2048.Idx → EReal)

theorem rowsOf_blocks (i : grid0.Coords) :
    rowsOf i (xBlk X (i 0) (i 1)) (prevBlk X (i 0) (i 1)) (nextBlk X (i 0) (i 1)) (mBlk M (i 0)) = rowsAt X M (i 0) (i 1) :=
  (rowsOf_eq i _ _ _ _).trans (Cert.Feed.rowsOf_blocks X M i)

variable (m : (ℓ : Loc nD τ sig) → Buf (Elt Ideal) ℓ) (c : Dev nD)

abbrev aX : S2x16384x2048.Idx → EReal := V m c main_arg0
abbrev aM : S2x6x2048.Idx → EReal := V m c main_v0
abbrev aW : S2048x11264.Idx → EReal := V m c main_v1
abbrev aK : S3x11264.Idx → EReal := V m c main_arg3
abbrev aB : S1x11264.Idx → EReal := V m c main_v2
abbrev aD : S5632x2048.Idx → EReal := V m c main_v3
abbrev aG : S1x2048.Idx → EReal := V m c main_v4

/-- The rows, and before the last chunk the sum, after point `t`. -/
def Held (t : Fin cfg0.N) : Prop :=
  (outsAt0 m c t.val t.isLt).2 = rowsAt (aX m c) (aM m c) ((grid0.coords t) 0) ((grid0.coords t) 1)
  ∧ (t.val % 11 ≤ 9 → ∀ (r : Fin 512) (d : Fin 2048), ((outsAt0 m c t.val t.isLt).1 (ix3 0 r d) : EReal)
      = sumTo (aX m c) (aM m c) (aW m c) (aK m c) (aB m c) (aD m c) ((grid0.coords t) 0) ((grid0.coords t) 1) r d (t.val % 11 + 1))

/-- The point before, within a block. -/
def before (t : Fin cfg0.N) : Fin cfg0.N := ⟨t.val - 1, lt_of_le_of_lt (Nat.sub_le _ _) t.isLt⟩

theorem before_batch (t : Fin cfg0.N) (h : ¬t.val % 11 = 0) : (grid0.coords (before t)) 0 = (grid0.coords t) 0 := by
  refine Fin.ext ?_
  rw [coord_batch, coord_batch]
  show (t.val - 1) / 352 = t.val / 352; omega

theorem before_block (t : Fin cfg0.N) (h : ¬t.val % 11 = 0) : (grid0.coords (before t)) 1 = (grid0.coords t) 1 := by
  refine Fin.ext ?_
  rw [coord_block, coord_block]
  show (t.val - 1) / 11 % 32 = t.val / 11 % 32; omega

/-- Point `t`'s batch, block and chunk. -/
abbrev batchAt (t : Fin cfg0.N) : Fin 2 := (grid0.coords t) 0
abbrev blockAt (t : Fin cfg0.N) : Fin 32 := (grid0.coords t) 1
abbrev chunkAt (t : Fin cfg0.N) : Fin 11 := (grid0.coords t) 2

/-- The first chunk's point, one result at a time. -/
theorem first_rows (t : Fin cfg0.N) (h : t.val % 11 = 0) :
    (outsAt0 m c t.val t.isLt).2 = rowsAt (aX m c) (aM m c) (batchAt t) (blockAt t) := by
  rw [outsAt0_A m c t h (by omega) (by omega)]
  dsimp only
  rw [rows_A]
  rw [blk_0, blk_1, blk_2, blk_3]
  exact rowsOf_blocks _ _ _

theorem first_out (t : Fin cfg0.N) (h : t.val % 11 = 0) :
    (outsAt0 m c t.val t.isLt).1 = firstChunk (rowsAt (aX m c) (aM m c) (batchAt t) (blockAt t)) (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t)) := by
  rw [outsAt0_A m c t h (by omega) (by omega)]
  dsimp only
  rw [out_A]
  rw [blk_0, blk_1, blk_2, blk_3, blk_4, blk_5, blk_6, blk_7, blk_8, blk_9, blk_10]
  exact congrArg (fun H => firstChunk H _ _ _ _ _ _ _) (rowsOf_blocks _ _ _)

/-- A later chunk's point. -/
theorem middle_rows (t : Fin cfg0.N) (h : ¬t.val % 11 = 0) (h2 : ¬t.val % 11 = 10) :
    (outsAt0 m c t.val t.isLt).2 = (outsAt0 m c (before t).val (before t).isLt).2 := by
  rw [outsAt0_B m c t h (by omega) h2]
  dsimp only [sout0_B_0]
  rfl

theorem middle_out (t : Fin cfg0.N) (h : ¬t.val % 11 = 0) (h2 : ¬t.val % 11 = 10) :
    (outsAt0 m c t.val t.isLt).1 = nextChunk (outsAt0 m c (before t).val (before t).isLt).2 (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t))
      (outsAt0 m c (before t).val (before t).isLt).1 := by
  rw [outsAt0_B m c t h (by omega) h2]
  dsimp only
  rw [out_B]
  rw [blk_4, blk_5, blk_6, blk_7, blk_8, blk_9, blk_10]
  rfl

/-- The last chunk's. -/
theorem last_rows (t : Fin cfg0.N) (h2 : t.val % 11 = 10) :
    (outsAt0 m c t.val t.isLt).2 = (outsAt0 m c (before t).val (before t).isLt).2 := by
  rw [outsAt0_C m c t (by omega) (by omega) h2]
  dsimp only [sout0_C_0]
  rfl

theorem last_out (t : Fin cfg0.N) (h2 : t.val % 11 = 10) :
    (outsAt0 m c t.val t.isLt).1 = k0_pay5 (gateRow (mBlk (aM m c) (batchAt t))) (k0_pay23 (xBlk (aX m c) (batchAt t) (blockAt t)))
      (nextChunk (outsAt0 m c (before t).val (before t).isLt).2 (wBlk (aW m c) 0 (chunkAt t)) (wBlk (aW m c) 1 (chunkAt t))
        (kBlk (aK m c) 0 (chunkAt t)) (kBlk (aK m c) 1 (chunkAt t)) (bBlk (aB m c) 0 (chunkAt t)) (bBlk (aB m c) 1 (chunkAt t)) (dBlk (aD m c) (chunkAt t))
        (outsAt0 m c (before t).val (before t).isLt).1) := by
  rw [outsAt0_C m c t (by omega) (by omega) h2]
  dsimp only
  rw [out_C]
  rw [blk_0, blk_3, blk_4, blk_5, blk_6, blk_7, blk_8, blk_9, blk_10]
  rfl

theorem held_first (t : Fin cfg0.N) (h : t.val % 11 = 0) : Held m c t := by
  refine ⟨first_rows m c t h, fun _ r d => ?_⟩
  refine (congrFun (first_out m c t h) (ix3 0 r d)).trans ?_
  refine (firstChunk_apply _ _ _ _ _ _ _ _ r d).trans ?_
  have z : (chunkAt t).val = 0 := (coord_chunk t).trans h
  refine Eq.trans ?_ (sumTo_congr _ _ _ _ _ _ _ _ r d (congrArg (· + 1) (coord_chunk t)))
  refine Eq.symm ((sumTo_succ _ _ _ _ _ _ _ _ r d (chunkAt t)).trans ?_)
  refine (congrArg (· + _) ((sumTo_congr _ _ _ _ _ _ _ _ r d z).trans (sumTo_zero _ _ _ _ _ _ _ _ r d))).trans ?_
  exact zero_add _

/-- The sum one chunk on. -/
theorem add_chunk (t : Fin cfg0.N) (h : ¬t.val % 11 = 0) (ih : Held m c (before t)) (r : Fin 512) (d : Fin 2048) :
    (nextChunk (outsAt0 m c (before t).val (before t).isLt).2 (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t))
      (outsAt0 m c (before t).val (before t).isLt).1 (ix3 0 r d) : EReal)
      = sumTo (aX m c) (aM m c) (aW m c) (aK m c) (aB m c) (aD m c) (batchAt t) (blockAt t) r d (t.val % 11 + 1) := by
  obtain ⟨ih2, ih1⟩ := ih
  have ih1' := ih1 (by show (t.val - 1) % 11 ≤ 9; omega) r d
  unfold batchAt blockAt
  rw [← before_batch t h, ← before_block t h]
  refine (nextChunk_apply _ _ _ _ _ _ _ _ _ r d).trans ?_
  have q : (before t).val % 11 + 1 = (chunkAt t).val := by
    refine Eq.trans ?_ (coord_chunk t).symm
    show (t.val - 1) % 11 + 1 = t.val % 11; omega
  refine (congrArg₂ (· + ·) (ih1'.trans (sumTo_congr _ _ _ _ _ _ _ _ r d q)) (congrArg (fun H => chunk H _ _ _ _ _ _ _ r d) ih2)).trans ?_
  refine Eq.trans ?_ (sumTo_congr _ _ _ _ _ _ _ _ r d (congrArg (· + 1) (coord_chunk t)))
  exact (sumTo_succ _ _ _ _ _ _ _ _ r d (chunkAt t)).symm

theorem held_next (t : Fin cfg0.N) (h : ¬t.val % 11 = 0) (ih : Held m c (before t)) : Held m c t := by
  have ih2 : _ = rowsAt (aX m c) (aM m c) ((grid0.coords (before t)) 0) ((grid0.coords (before t)) 1) := ih.1
  rw [before_batch t h, before_block t h] at ih2
  by_cases h2 : t.val % 11 = 10
  · exact ⟨(last_rows m c t h2).trans ih2, fun hn => absurd hn (by omega)⟩
  · exact ⟨(middle_rows m c t h h2).trans ih2, fun _ r d => (congrFun (middle_out m c t h h2) (ix3 0 r d)).trans (add_chunk m c t h ih r d)⟩

theorem held (n : Nat) (hn : n < cfg0.N) : Held m c ⟨n, hn⟩ := by
  induction n with
  | zero => exact held_first m c ⟨0, hn⟩ rfl
  | succ k ih =>
    by_cases h : (k + 1) % 11 = 0
    · exact held_first m c ⟨k + 1, hn⟩ h
    · exact held_next m c ⟨k + 1, hn⟩ h (ih (Nat.lt_of_succ_lt hn))

/-- A block's whole sum is reached at the last chunk's point, -/
theorem add_last (t : Fin cfg0.N) (h : t.val % 11 = 10) :
    nextChunk (outsAt0 m c (before t).val (before t).isLt).2 (wBlk (aW m c) 0 (chunkAt t)) (wBlk (aW m c) 1 (chunkAt t))
      (kBlk (aK m c) 0 (chunkAt t)) (kBlk (aK m c) 1 (chunkAt t)) (bBlk (aB m c) 0 (chunkAt t)) (bBlk (aB m c) 1 (chunkAt t)) (dBlk (aD m c) (chunkAt t))
      (outsAt0 m c (before t).val (before t).isLt).1
      = total (aX m c) (aM m c) (aW m c) (aK m c) (aB m c) (aD m c) (batchAt t) (blockAt t) := by
  funext (y : S1x512x2048.Idx)
  obtain ⟨r, d, rfl⟩ : ∃ (r : Fin 512) (d : Fin 2048), y = ix3 0 r d := ⟨y 1, y 2, by
    funext (a : Fin 3)
    match a with
    | 0 => exact Subsingleton.elim (α := Fin 1) _ _
    | 1 => rfl
    | 2 => rfl⟩
  refine (add_chunk m c t (by omega) (held m c (before t).val (before t).isLt) r d).trans ?_
  exact sumTo_congr _ _ _ _ _ _ _ _ r d (congrArg (· + 1) h)

/-- and what that point writes. -/
theorem written (t : Fin cfg0.N) (h : t.val % 11 = 10) :
    (outsAt0 m c t.val t.isLt).1
      = k0_pay5 (gateRow (mBlk (aM m c) (batchAt t))) (k0_pay23 (xBlk (aX m c) (batchAt t) (blockAt t)))
          (total (aX m c) (aM m c) (aW m c) (aK m c) (aB m c) (aD m c) (batchAt t) (blockAt t)) := by
  rw [last_out m c t h, add_last m c t h]

end Cert.MidFeed
end
-- ==== Proof.MidArray.lean ====
/- The output array of the feed-forward call without the final norm as a function of its arguments: every block is written once, at its last chunk's point. -/
module

public import proofs.«01_k».proof.Proof.MidRun
public import proofs.«01_k».proof.Proof.FfnArray

@[expose] public section

set_option maxRecDepth 16384
set_option backward.isDefEq.respectTransparency false

noncomputable section

namespace Cert.MidFeed

open Idealize.ShloMosaic Idealize.ShloMosaic.TcCoe Idealize.ShloMosaic.Tactic
open Cert.MidIdeal Cert.MidIdeal.Gen Cert.Feed

variable (X : S2x16384x2048.Idx → EReal) (M : S2x6x2048.Idx → EReal) (W : S2048x11264.Idx → EReal) (K : S3x11264.Idx → EReal)
  (B : S1x11264.Idx → EReal) (D : S5632x2048.Idx → EReal)

/-- The call's output array: the residual stream. -/
def midOut : S2x16384x2048.Idx → EReal := fun y =>
  stream X M W K B D ⟨(y 0).val, (y 0).isLt⟩ ⟨(y 1).val / 512, by have h : (y 1).val < 16384 := (y 1).isLt; omega⟩
    ⟨(y 1).val % 512, Nat.mod_lt _ (by omega)⟩ ⟨(y 2).val, (y 2).isLt⟩

/-- The output at an index named by its block and its place in it. -/
theorem midOut_at (b : Fin 2) (s : Fin 32) (r : Fin 512) (d : Fin 2048) (z : S2x16384x2048.Idx)
    (h0 : (z 0).val = b.val) (h1 : (z 1).val = 512 * s.val + r.val) (h2 : (z 2).val = d.val) :
    midOut X M W K B D z = stream X M W K B D b s r d := by
  unfold midOut
  congr 1
  · exact Fin.ext h0
  · refine Fin.ext ?_
    show (z 1).val / 512 = s.val; omega
  · refine Fin.ext ?_
    show (z 1).val % 512 = r.val; omega
  · exact Fin.ext h2

variable (m : (ℓ : Loc nD τ sig) → Buf (Elt Ideal) ℓ) (c : Dev nD)

theorem map_12 (i : grid0.Coords) : cc0_transform_12 i = ![(i 0).val, (i 1).val, 0] := by
  have e : cc0_transform_12 i = ![(BitVec.ofNat 32 (i 0).val).toNat, (BitVec.ofNat 32 (i 1).val).toNat, (0#32).toNat] := rfl
  rw [e, word_batch, word_block]; rfl

/-- A point of block `s` of batch `b`. -/
def point (b : Fin 2) (s : Fin 32) : grid0.Coords := fun (a : Fin 3) => match a with | 0 => b | 1 => s | 2 => (0 : Fin 11)

theorem covers_12 : (cfg0.win 12).Covers :=
  Pipeline.Window.covers_of_indexMap_surj (w := cfg0.win 12) rfl (by intro (a : Fin 3); revert a; show ∀ a : Fin 3, 0 < S1x512x2048.size a; decide) fun β => by
    have h0 : (β (0 : Fin 3)).val < 2 := lt_of_lt_of_eq (β (0 : Fin 3)).isLt (by first | rfl | sl_kernel_rfl)
    have h1 : (β (1 : Fin 3)).val < 32 := lt_of_lt_of_eq (β (1 : Fin 3)).isLt (by first | rfl | sl_kernel_rfl)
    have h2 : (β (2 : Fin 3)).val < 1 := lt_of_lt_of_eq (β (2 : Fin 3)).isLt (by first | rfl | sl_kernel_rfl)
    refine ⟨point ⟨(β (0 : Fin 3)).val, h0⟩ ⟨(β (1 : Fin 3)).val, h1⟩, fun (a : Fin 3) => ?_⟩
    refine (congrFun (map_12 (point ⟨(β (0 : Fin 3)).val, h0⟩ ⟨(β (1 : Fin 3)).val, h1⟩)) a).trans ?_
    match a with
    | 0 => rfl
    | 1 => rfl
    | 2 => show 0 = (β (2 : Fin 3)).val; omega

/-- The last chunk's result, entry by entry. -/
theorem last_apply (b : Fin 2) (s : Fin 32) (r : Fin 512) (d : Fin 2048) :
    (k0_pay5 (gateRow (mBlk M b)) (k0_pay23 (xBlk X b s)) (total X M W K B D b s) (ix3 0 r d) : EReal) = stream X M W K B D b s r d := by
  refine (pay5_apply _ _ _ r d).trans ?_
  rw [gateRow_apply]
  rfl

theorem arr_eq : (dats m 0 c).arrAt 12 cfg0.N = midOut (aX m c) (aM m c) (aW m c) (aK m c) (aB m c) (aD m c) := by
  refine Pipeline.Dat.arrAt_eq_of_covers (dats m 0 c) 12 _ covers_12 fun t hf (y : S1x512x2048.Idx) => ?_
  blk_simp
  rw [after0_12, written m c t ((flush0_12 t).mp hf)]
  obtain ⟨r, d, rfl⟩ : ∃ (r : Fin 512) (d : Fin 2048), y = ix3 0 r d := ⟨y 1, y 2, by
    funext (a : Fin 3)
    match a with
    | 0 => exact Subsingleton.elim (α := Fin 1) _ _
    | 1 => rfl
    | 2 => rfl⟩
  refine (last_apply _ _ _ _ _ _ (batchAt t) (blockAt t) r d).trans ?_
  refine (midOut_at _ _ _ _ _ _ (batchAt t) (blockAt t) r d _ ?_ ?_ ?_).symm
  · refine (place_12 t (ix3 0 r d) 0).trans ?_
    show (batchAt t).val * 1 + 0 = _; omega
  · refine (place_12 t (ix3 0 r d) 1).trans ?_
    show (blockAt t).val * 512 + r.val = _; omega
  · refine (place_12 t (ix3 0 r d) 2).trans ?_
    show 0 * 2048 + d.val = _; omega

end Cert.MidFeed
end
-- ==== Proof.MidFinal.lean ====
/- The claims of the feed-forward call without the final norm: its frames, the reference's, and the equality of the results, from any memory. -/
module

public import proofs.«01_k».proof.Proof.MidArray
public import proofs.«01_k».proof.Proof.FfnMatch
public import proofs.«01_k».proof.Proof.Gen.MidRefIdeal.Run
public import proofs.«01_k».proof.Defs
public import Idealize.ShloMosaic.Lib.StableHlo.RunRead
public import Idealize.ShloMosaic.Lib.StableHlo.ReadAt
public import proofs.«01_k».proof.Proof.Gen.Mid
public import proofs.«01_k».proof.Proof.Gen.Mid.Frame

@[expose] public section

set_option maxRecDepth 16384
set_option backward.isDefEq.respectTransparency false

noncomputable section

namespace Cert.MidFeed

open Idealize.ShloMosaic Idealize.ShloMosaic.TcCoe Idealize.ShloMosaic.Tactic Idealize.SL.Sem

instance : Cert.Mid.Facts := Cert.Mid.Gen.facts
instance : Cert.MidIdeal.Facts := Cert.MidIdeal.Gen.facts
instance : Cert.MidRefIdeal.Facts := Cert.MidRefIdeal.Gen.facts

section
open Cert.MidRefIdeal

/-- The residual stream that the reference computes, as a function of its arguments. -/
def result (x : S2x16384x2048.Idx → EReal) (mo : S2x6x1x2048.Idx → EReal) (wu : S2048x11264.Idx → EReal) (k : S3x11264.Idx → EReal)
    (bb : S11264.Idx → EReal) (wd : S5632x2048.Idx → EReal) : S2x16384x2048.Idx → EReal :=
  Cert.FfnRef.residual x mo (Cert.FfnRef.downProj (Cert.FfnRef.act (Cert.FfnRef.conv (Cert.FfnRef.padded (Cert.FfnRef.upProj (Cert.FfnRef.ada x mo) wu)) k bb)) wd)

theorem res_eq (m : (ℓ : Loc nD τ sig) → Buf (Elt Ideal) ℓ) (c : Dev nD) :
    Value.res_out0 (F := Ideal) m c
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Value.res_out0 Value.res_main_v56
  rfl

variable (x : S2x16384x2048.Idx → EReal) (mo : S2x6x1x2048.Idx → EReal) (wu : S2048x11264.Idx → EReal) (k : S3x11264.Idx → EReal)
  (bb : S11264.Idx → EReal) (wd : S5632x2048.Idx → EReal)
  (M : Cert.MidIdeal.S2x6x2048.Idx → EReal) (B : Cert.MidIdeal.S1x11264.Idx → EReal)
  (hM : ∀ b a d, M (ix3 b a d) = mo (ix4 b a 0 d)) (hB : ∀ j, B (ix2 0 j) = bb (ix1 j))

include hM hB in
/-- The two outputs are one array. -/
theorem output_eq : result x mo wu k bb wd = midOut x M wu k B wd := by
  funext (y : S2x16384x2048.Idx)
  obtain ⟨b, i, d, rfl⟩ : ∃ (b : Fin 2) (i : Fin 16384) (d : Fin 2048), y = ix3 b i d := ⟨y 0, y 1, y 2, by
    funext (a : Fin 3)
    match a with
    | 0 => rfl
    | 1 => rfl
    | 2 => rfl⟩
  obtain ⟨s, r, rfl⟩ : ∃ (s : Fin 32) (r : Fin 512), i = ⟨512 * s.val + r.val, by omega⟩ :=
    ⟨⟨i.val / 512, by omega⟩, ⟨i.val % 512, by omega⟩, Fin.ext (by show i.val = 512 * (i.val / 512) + i.val % 512; omega)⟩
  refine Eq.trans ?_ (midOut_at x M wu k B wd b s r d _ rfl rfl rfl).symm
  exact (Cert.Feed.stream_eq x mo wu k bb wd M B hM hB b s r d).symm

end

section
open Cert.MidIdeal Cert.MidIdeal.Gen

variable (m : (ℓ : Loc nD τ sig) → Buf (Elt Ideal) ℓ) (c : Dev nD)

/-- What the host hands the call: the modulation and bias reshaped, the two projections unchanged. -/
theorem host_mod (b : Fin 2) (a : Fin 6) (d : Fin 2048) : (aM m c (ix3 b a d) : EReal) = m ((c.tc : Thread nD τ).loc main_arg1) (ix4 b a 0 d) := by
  unfold aM V
  simp only [hostOps0]
  after_reads_simp
  pointwise []
theorem host_up : aW m c = m ((c.tc : Thread nD τ).loc main_arg2) := by
  unfold aW V
  simp only [hostOps0]
  after_reads_simp
  rfl
theorem host_bias (j : Fin 11264) : (aB m c (ix2 0 j) : EReal) = m ((c.tc : Thread nD τ).loc main_arg4) (ix1 j) := by
  unfold aB V
  simp only [hostOps0]
  after_reads_simp
  pointwise []
theorem host_down : aD m c = m ((c.tc : Thread nD τ).loc main_arg5) := by
  unfold aD V
  simp only [hostOps0]
  after_reads_simp
  rfl
/-- The call's result in the reference's terms. -/
theorem arr_result : (dats m 0 c).arrAt 12 cfg0.N
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (arr_eq m c).trans ?_
  refine Eq.trans ?_ (output_eq _ _ _ _ _ _ (aM m c) (aB m c) (host_mod m c) (host_bias m c)).symm
  rw [host_up, host_down]
  unfold aX aK
  rw [V_main_arg0, V_main_arg3]

theorem frame_ideal (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := Cert.MidIdeal.Gen.frame m g

/-- The call's result, from any memory. -/
theorem call_result (g : Dev nD → PrngReg) :
    θ_run (defs (F := Ideal)) (onTc (τ := τ) (main (F := Ideal))) ⟨m, fun _ => 0, g⟩ (fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))) :=
  (θ_run _ _ _).mono (fun r h c => ((h c).1 12).trans (arr_result m c)) (run_main m g)

end

theorem frame_kernel : Cert.quiescent_Mid := fun m g _ => Cert.Mid.Gen.frame m g

/-- The reference's frame: it declares no semaphore. -/
theorem frame_reference : Cert.quiescent_MidRefIdeal := fun m g _ =>
  (θ_run Cert.MidRefIdeal.defs _ _).mono (fun r h => ⟨fun c => (h c).2, Idealize.ShloMosaic.sem_eq_zero_of_no_sems (by decide) r.2⟩)
    (Cert.MidRefIdeal.Value.run (F := Ideal) m g)

theorem algebraic : Cert.algebraic_MidIdeal_MidRefIdeal := by
  intro m g m' g' _ hm
  refine ⟨fun c => result (m ((c.tc : Thread Cert.MidIdeal.nD Cert.MidIdeal.τ).loc Cert.MidIdeal.main_arg0))
    (m ((c.tc : Thread Cert.MidIdeal.nD Cert.MidIdeal.τ).loc Cert.MidIdeal.main_arg1)) (m ((c.tc : Thread Cert.MidIdeal.nD Cert.MidIdeal.τ).loc Cert.MidIdeal.main_arg2))
    (m ((c.tc : Thread Cert.MidIdeal.nD Cert.MidIdeal.τ).loc Cert.MidIdeal.main_arg3)) (m ((c.tc : Thread Cert.MidIdeal.nD Cert.MidIdeal.τ).loc Cert.MidIdeal.main_arg4))
    (m ((c.tc : Thread Cert.MidIdeal.nD Cert.MidIdeal.τ).loc Cert.MidIdeal.main_arg5)), ?_, ?_⟩
  · exact (θ_run _ _ _).mono (fun r h c => ⟨h.1 c, h.2.1 c⟩) (θ_run_and (call_result m g) (frame_ideal m g))
  · refine (θ_run _ _ _).mono (fun r h c => ⟨(h c).1.trans ?_, (h c).2⟩) (Cert.MidRefIdeal.Value.run (F := Ideal) m' g')
    obtain ⟨h0, h1, h2, h3, h4, h5, h6⟩ := hm c
    refine (res_eq m' c).trans ?_
    rw [h0, h1, h2, h3, h4, h5]

end Cert.MidFeed
end
-- ==== Proof.ProjRef.lean ====
/- The input modulation of the query-key-value and gated-linear-unit projections: the reference's, and the rows it gives, entry by entry. -/
module

public import proofs.«01_k».proof.Proof.FfnRef
public import proofs.«01_k».proof.Proof.FfnBlocks
public import proofs.«01_k».proof.Proof.Gen.QkvRefIdeal.Run

@[expose] public section

set_option maxRecDepth 16384
set_option backward.isDefEq.respectTransparency false

noncomputable section

namespace Cert.Proj

open Idealize.ShloMosaic Idealize.ShloMosaic.TcCoe
open Cert.QkvRefIdeal Cert.QkvRefIdeal.Gen
open Cert.Feed (modulated)

/-- Each row over its root mean square, scaled by one plus row 1 of the modulation and shifted by row 0. -/
def ada (x : FVec Ideal S2x16384x2048 .f32) (mo : FVec Ideal S2x6x1x2048 .f32) : FVec Ideal S2x16384x2048 .f32 :=
  addf (mulf (Cert.FfnRef.normed x) (broadcastInDim S2x16384x2048 ![0, 1, 2] bcast_S2x1x2048_S2x16384x2048_0_1_2
      (addf (broadcastInDim S2x1x2048 ![] bcast_S_S2x1x2048 (constant S_ .f32 0x3F800000#32))
        (shapeCast S2x1x2048 (extractStridedSlice S2x1x1x2048 ![0, 1, 0, 0] mo slices_S2x6x1x2048_S2x1x1x2048_0_1_0_0) shapeCasts_S2x1x1x2048_S2x1x2048))))
    (broadcastInDim S2x16384x2048 ![0, 1, 2] bcast_S2x1x2048_S2x16384x2048_0_1_2
      (shapeCast S2x1x2048 (extractStridedSlice S2x1x1x2048 ![0, 0, 0, 0] mo slices_S2x6x1x2048_S2x1x1x2048_0_0_0_0) shapeCasts_S2x1x1x2048_S2x1x2048))

theorem ada_apply (x : FVec Ideal S2x16384x2048 .f32) (mo : FVec Ideal S2x6x1x2048 .f32) (b : Fin 2) (i : Fin 16384) (d : Fin 2048) :
    (ada x mo (ix3 b i d) : EReal) = modulated (fun e => x (ix3 b i e)) (fun e => mo (ix4 b 1 0 e)) (fun e => mo (ix4 b 0 0 e)) d := by
  have e : (ada x mo (ix3 b i d) : EReal) = Cert.FfnRef.normed x (ix3 b i d) * (1 + mo (ix4 b 1 0 d)) + mo (ix4 b 0 0 d) := by
    pointwise [ada]
  rw [e, Cert.FfnRef.normed_apply]
  rfl

/-- Row `r` of block `s` in the array: blocks of 1024 rows. -/
abbrev rowAt (s : Fin 16) (r : Fin 1024) : Fin 16384 := ⟨1024 * s.val + r.val, by omega⟩

theorem word_rows (s : Fin 16) : (BitVec.ofNat 32 s.val).toNat = s.val := by revert s; decide +kernel
theorem word_sixth (f : Fin 6) : (BitVec.ofNat 32 f.val).toNat = f.val := by revert f; decide +kernel
theorem word_fourth (f : Fin 4) : (BitVec.ofNat 32 f.val).toNat = f.val := by revert f; decide +kernel
theorem word_fourth_half (f : Fin 4) : (Scalar.addi 4#32 (BitVec.ofNat 32 f.val)).toNat = 4 + f.val := by revert f; decide +kernel

/-- A block's modulated rows. -/
def rowsAt (X : S2x16384x2048.Idx → EReal) (mo : S2x6x1x2048.Idx → EReal) (b : Fin 2) (s : Fin 16) (r : Fin 1024) (d : Fin 2048) : EReal :=
  modulated (fun e => X (ix3 b (rowAt s r) e)) (fun e => mo (ix4 b 1 0 e)) (fun e => mo (ix4 b 0 0 e)) d

theorem rowsAt_eq (X : S2x16384x2048.Idx → EReal) (mo : S2x6x1x2048.Idx → EReal) (b : Fin 2) (s : Fin 16) (r : Fin 1024) (d : Fin 2048) :
    (ada X mo (ix3 b (rowAt s r) d) : EReal) = rowsAt X mo b s r d := ada_apply _ _ _ _ _

end Cert.Proj
end
-- ==== Proof.QkvPieces.lean ====
/- What the body of the query-key-value projection leaves at a grid point: in the scratch, at the first chunk of columns, the
   modulated rows of its block; in the output window the chunk of the projection. -/
module

public import proofs.«01_k».proof.Proof.Gen.QkvIdeal.Frame
public import proofs.«01_k».proof.Proof.FfnPieces
public import Idealize.ShloMosaic.Lib.WholeRead
public import Idealize.ShloMosaic.Lib.VecWindow
public import Idealize.ShloMosaic.Lib.Pipeline.ReadBack
public import Idealize.ShloMosaic.Lib.ValueIdx

@[expose] public section

set_option maxRecDepth 16384
set_option backward.isDefEq.respectTransparency false

noncomputable section

namespace Cert.QkvProj

open Idealize.ShloMosaic Idealize.ShloMosaic.TcCoe Idealize.ShloMosaic.Tactic
open Cert.QkvIdeal Cert.QkvIdeal.Gen
open Cert.Feed (read_whole)

variable {F : FTy → Type} [FloatOps F]

/-- The modulation's shift and scale. -/
def shiftRow (x1 : Vec F S1x6x2048 .f32) : Vec F S1x1x2048 .f32 := View.ld x1 (Rect.unit ![0, 0, 0] ![1, 1, 2048] inb_S1x6x2048_S1x1x2048_0_0_0)
def scaleRow (x1 : Vec F S1x6x2048 .f32) : Vec F S1x1x2048 .f32 := View.ld x1 (Rect.unit ![0, 1, 0] ![1, 1, 2048] inb_S1x6x2048_S1x1x2048_0_1_0)

/-- The modulated rows of a block. -/
def rowsOf (x0 : Vec F S1x1024x2048 .f32) (x1 : Vec F S1x6x2048 .f32) : FVec F S1024x2048 .bf16 := k0_pay1 x0 (shiftRow x1) (scaleRow x1)

theorem k0_pay2_eq (a : Vec F S1x1024x2048 .f32) (b d : Vec F S1x1x2048 .f32) : k0_pay2 a b d = k0_pay1 a b d := by
  unfold k0_pay2
  exact shapeCast_self _ _

/-- At the first chunk of columns the output window takes the chunk from the rows just made, -/
theorem out_A (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x1024 .bf16) (harg5 : arg5.IsWhole) (arg6 : Memref sig .tc .vmem S1x1024x1024 .bf16) (harg6 : arg6.IsWhole) (arg7 : Memref sig .tc .vmem S1024x2048 .bf16) (harg7 : arg7.IsWhole) (hc0 : cond0_0 i) (hc1 : ¬cond0_1 i)
    (x0 : Vec F S1x1024x2048 .f32) (x1 : Vec F S1x6x2048 .f32) (x2 : Vec F S2048x1024 .bf16) :
    out0_A_3 c i arg3 harg3 arg4 harg4 arg5 harg5 arg6 harg6 arg7 harg7 hc0 hc1 x0 x1 x2 = k0_pay3 x0 (shiftRow x1) (scaleRow x1) x2 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have w0 : (fun y => x0 ((Rect.unit ![0, 0, 0] ![1, 1024, 2048] inb_S1x1024x2048_S1x1024x2048_0_0_0).idx y)) = x0 := read_whole x0 _
  have w2 : (fun y => x2 ((Rect.unit ![0, 0] ![2048, 1024] inb_S2048x1024_S2048x1024_0_0).idx y)) = x2 := read_whole x2 _
  unfold out0_A_3 kernelRun0_A
  dsimp only
  rw [View.read_writes_full]
  simp only [e0, e1, e2]
  simp only [w0, w2]
  rfl

/-- and the scratch takes the rows; -/
theorem rows_A (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x1024 .bf16) (harg5 : arg5.IsWhole) (arg6 : Memref sig .tc .vmem S1x1024x1024 .bf16) (harg6 : arg6.IsWhole) (arg7 : Memref sig .tc .vmem S1024x2048 .bf16) (harg7 : arg7.IsWhole) (hc0 : cond0_0 i) (hc1 : ¬cond0_1 i)
    (x0 : Vec F S1x1024x2048 .f32) (x1 : Vec F S1x6x2048 .f32) (x2 : Vec F S2048x1024 .bf16) :
    sout0_A_0 c i arg3 harg3 arg4 harg4 arg5 harg5 arg6 harg6 arg7 harg7 hc0 hc1 x0 x1 x2 = rowsOf x0 x1 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have w0 : (fun y => x0 ((Rect.unit ![0, 0, 0] ![1, 1024, 2048] inb_S1x1024x2048_S1x1024x2048_0_0_0).idx y)) = x0 := read_whole x0 _
  have w2 : (fun y => x2 ((Rect.unit ![0, 0] ![2048, 1024] inb_S2048x1024_S2048x1024_0_0).idx y)) = x2 := read_whole x2 _
  unfold sout0_A_0 kernelRun0_A
  dsimp only
  rw [View.read_writes_full]
  simp only [e0, e1, e2]
  simp only [w0, w2, k0_pay2_eq]
  rfl

/-- at a later chunk, from the rows in the scratch. -/
theorem out_B (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x1024 .bf16) (harg5 : arg5.IsWhole) (arg6 : Memref sig .tc .vmem S1x1024x1024 .bf16) (harg6 : arg6.IsWhole) (arg7 : Memref sig .tc .vmem S1024x2048 .bf16) (harg7 : arg7.IsWhole) (hc0 : ¬cond0_0 i) (hc1 : cond0_1 i)
    (x0 : Vec F S1x1024x2048 .f32) (x1 : Vec F S1x6x2048 .f32) (x2 : Vec F S2048x1024 .bf16) (xs0 : Vec F S1024x2048 .bf16) :
    out0_B_3 c i arg3 harg3 arg4 harg4 arg5 harg5 arg6 harg6 arg7 harg7 hc0 hc1 x0 x1 x2 xs0 = k0_pay4 xs0 x2 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have es : ∀ B, View.readAt (Elt F) arg7.view B (harg7.unread xs0) = fun y => xs0 (B.idx y) := fun B => funext fun y => harg7.readAt_unread xs0 B y
  have w0 : (fun y => x0 ((Rect.unit ![0, 0, 0] ![1, 1024, 2048] inb_S1x1024x2048_S1x1024x2048_0_0_0).idx y)) = x0 := read_whole x0 _
  have w2 : (fun y => x2 ((Rect.unit ![0, 0] ![2048, 1024] inb_S2048x1024_S2048x1024_0_0).idx y)) = x2 := read_whole x2 _
  have ws : (fun y => xs0 ((Rect.unit ![0, 0] ![1024, 2048] inb_S1024x2048_S1024x2048_0_0).idx y)) = xs0 := read_whole xs0 _
  unfold out0_B_3 kernelRun0_B
  dsimp only
  rw [View.read_writes_full]
  simp only [e0, e1, e2, es]
  simp only [w0, w2, ws]

end Cert.QkvProj
end
-- ==== Proof.QkvFinal.lean ====
/- The claims of the query-key-value projection: its frames, the reference's, and the equality of the results, from any memory. -/
module

public import proofs.«01_k».proof.Proof.ProjRef
public import proofs.«01_k».proof.Proof.QkvPieces
public import proofs.«01_k».proof.Proof.Gen.QkvRefIdeal.Run
public import proofs.«01_k».proof.Defs
public import Idealize.ShloMosaic.Lib.Pointwise
public import Idealize.ShloMosaic.Lib.StableHlo.RunRead
public import Idealize.ShloMosaic.Lib.StableHlo.ReadAt
public import Idealize.ShloMosaic.Lib.Pipeline.ValueKit.Geometry
public import Idealize.ShloMosaic.Lib.Pipeline.Covers
public import proofs.«01_k».proof.Proof.Gen.Qkv
public import proofs.«01_k».proof.Proof.Gen.Qkv.Frame
public import proofs.«01_k».proof.Proof.Gen.QkvIdeal

@[expose] public section

set_option maxRecDepth 16384
set_option backward.isDefEq.respectTransparency false

noncomputable section

namespace Cert.QkvProj

open Idealize.ShloMosaic Idealize.ShloMosaic.TcCoe Idealize.ShloMosaic.Tactic Idealize.SL.Sem
open Cert.Feed (word_batch modulated)
open Cert.Proj

instance : Cert.Qkv.Facts := Cert.Qkv.Gen.facts
instance : Cert.QkvIdeal.Facts := Cert.QkvIdeal.Gen.facts
instance : Cert.QkvRefIdeal.Facts := Cert.QkvRefIdeal.Gen.facts

/-- Column `d` of chunk `f`. -/
abbrev colAt (f : Fin 6) (d : Fin 1024) : Fin 6144 := ⟨1024 * f.val + d.val, by omega⟩

section
open Cert.QkvRefIdeal Cert.QkvRefIdeal.Gen

/-- The projection of the modulated rows, at an entry named by its block, row and column. -/
def outVal (x : FVec Ideal S2x16384x2048 .f32) (mo : FVec Ideal S2x6x1x2048 .f32) (w : FVec Ideal S2048x6144 .f32)
    (b : Fin 2) (s : Fin 16) (r : Fin 1024) (j : Fin 6144) : EReal := ∑ k : Fin 2048, rowsAt x mo b s r k * w (ix2 k j)

/-- What the reference computes, as a function of its arguments. -/
def result (x : FVec Ideal S2x16384x2048 .f32) (mo : FVec Ideal S2x6x1x2048 .f32) (w : FVec Ideal S2048x6144 .f32) : FVec Ideal S2x16384x6144 .bf16 :=
  truncf .bf16 (Host.dotGeneral dot_S2x16384x2048_S2048x6144_S2x16384x6144_2_0_01_1_n_n none (ada x mo) w) bitsLt_bf16_f32

theorem result_apply (x : FVec Ideal S2x16384x2048 .f32) (mo : FVec Ideal S2x6x1x2048 .f32) (w : FVec Ideal S2048x6144 .f32)
    (b : Fin 2) (s : Fin 16) (r : Fin 1024) (j : Fin 6144) : (result x mo w (ix3 b (rowAt s r) j) : EReal) = outVal x mo w b s r j := by
  have e : (result x mo w (ix3 b (rowAt s r) j) : EReal) = ∑ k : Fin 2048, ada x mo (ix3 b (rowAt s r) k) * w (ix2 k j) := by
    pointwise [result]
  rw [e]
  exact Finset.sum_congr rfl fun k _ => congrArg (· * w (ix2 k j)) (rowsAt_eq x mo b s r k)

end

section
open Cert.QkvIdeal Cert.QkvIdeal.Gen

/-- The modulated rows, entry by entry. -/
theorem rowsOf_apply (x0 : Vec Ideal S1x1024x2048 .f32) (x1 : Vec Ideal S1x6x2048 .f32) (r : Fin 1024) (d : Fin 2048) :
    (rowsOf (F := Ideal) x0 x1 (ix2 r d) : EReal) = modulated (fun e => x0 (ix3 0 r e)) (fun e => x1 (ix3 0 1 e)) (fun e => x1 (ix3 0 0 e)) d := by
  unfold rowsOf shiftRow scaleRow
  pointwise [k0_pay1]
  rfl

theorem first_apply (x0 : Vec Ideal S1x1024x2048 .f32) (x1 : Vec Ideal S1x6x2048 .f32) (w : Vec Ideal S2048x1024 .bf16) (r d : Fin 1024) :
    (k0_pay3 (F := Ideal) x0 (shiftRow x1) (scaleRow x1) w (ix3 0 r d) : EReal) = ∑ k : Fin 2048, rowsOf (F := Ideal) x0 x1 (ix2 r k) * w (ix2 k d) := by
  unfold rowsOf
  generalize shiftRow x1 = a
  generalize scaleRow x1 = b
  pointwise [k0_pay3]

theorem later_apply (h : FVec Ideal S1024x2048 .bf16) (w : Vec Ideal S2048x1024 .bf16) (r d : Fin 1024) :
    (k0_pay4 (F := Ideal) h w (ix3 0 r d) : EReal) = ∑ k : Fin 2048, h (ix2 r k) * w (ix2 k d) := by
  pointwise [k0_pay4]

variable (m : (ℓ : Loc nD τ sig) → Buf (Elt Ideal) ℓ) (c : Dev nD)

/-- What the host hands the call: the modulation reshaped, the weights unchanged. -/
theorem host_mod (b : Fin 2) (a : Fin 6) (d : Fin 2048) : (V m c main_v0 (ix3 b a d) : EReal) = m ((c.tc : Thread nD τ).loc main_arg1) (ix4 b a 0 d) := by
  unfold V
  simp only [hostOps0]
  after_reads_simp
  pointwise []
theorem host_w : V m c main_v1 = m ((c.tc : Thread nD τ).loc main_arg2) := by
  unfold V
  simp only [hostOps0]
  after_reads_simp
  rfl

variable (t : Fin cfg0.N)

/-- A grid point's batch, block of rows and chunk of columns. -/
abbrev batchAt (t : Fin cfg0.N) : Fin 2 := (grid0.coords t) 0
abbrev blockAt (t : Fin cfg0.N) : Fin 16 := (grid0.coords t) 1
abbrev chunkAt (t : Fin cfg0.N) : Fin 6 := (grid0.coords t) 2

theorem coord_batch (t : Fin cfg0.N) : ((grid0.coords t) 0).val = t.val / 96 := by revert t; decide +kernel
theorem coord_block (t : Fin cfg0.N) : ((grid0.coords t) 1).val = t.val / 6 % 16 := by revert t; decide +kernel

theorem place_0 (y : S1x1024x2048.Idx) (a : Fin 3) :
    (((cfg0.win 0).blk t).view.emb y a).val = (![((grid0.coords t) 0).val * 1, ((grid0.coords t) 1).val * 1024, 0 * 2048] : Fin 3 → Nat) a + (y a).val := by
  refine (Pipeline.Window.rect_emb_val_off (cfg0.win 0) t y a).trans ?_
  have i0 : (cfg0.win 0).index t a = (![((grid0.coords t) 0).val, ((grid0.coords t) 1).val, 0] : Fin 3 → Nat) a := by
    show cc0_transform_0 (grid0.coords t) a = _
    have e : cc0_transform_0 (grid0.coords t) = ![(BitVec.ofNat 32 ((grid0.coords t) 0).val).toNat, (BitVec.ofNat 32 ((grid0.coords t) 1).val).toNat, (0#32).toNat] := rfl
    rw [e, word_batch, word_rows]; rfl
  rw [i0]
  clear i0
  match a with
  | 0 => rfl
  | 1 => rfl
  | 2 => rfl

theorem place_1 (y : S1x6x2048.Idx) (a : Fin 3) :
    (((cfg0.win 1).blk t).view.emb y a).val = (![((grid0.coords t) 0).val * 1, 0 * 6, 0 * 2048] : Fin 3 → Nat) a + (y a).val := by
  refine (Pipeline.Window.rect_emb_val_off (cfg0.win 1) t y a).trans ?_
  have i0 : (cfg0.win 1).index t a = (![((grid0.coords t) 0).val, 0, 0] : Fin 3 → Nat) a := by
    show cc0_transform_1 (grid0.coords t) a = _
    have e : cc0_transform_1 (grid0.coords t) = ![(BitVec.ofNat 32 ((grid0.coords t) 0).val).toNat, (0#32).toNat, (0#32).toNat] := rfl
    rw [e, word_batch]; rfl
  rw [i0]
  clear i0
  match a with
  | 0 => rfl
  | 1 => rfl
  | 2 => rfl

theorem place_2 (y : S2048x1024.Idx) (a : Fin 2) :
    (((cfg0.win 2).blk t).view.emb y a).val = (![0 * 2048, ((grid0.coords t) 2).val * 1024] : Fin 2 → Nat) a + (y a).val := by
  refine (Pipeline.Window.rect_emb_val_off (cfg0.win 2) t y a).trans ?_
  have i0 : (cfg0.win 2).index t a = (![0, ((grid0.coords t) 2).val] : Fin 2 → Nat) a := by
    show cc0_transform_2 (grid0.coords t) a = _
    have e : cc0_transform_2 (grid0.coords t) = ![(0#32).toNat, (BitVec.ofNat 32 ((grid0.coords t) 2).val).toNat] := rfl
    rw [e, word_sixth]; rfl
  rw [i0]
  clear i0
  match a with
  | 0 => rfl
  | 1 => rfl

theorem place_3 (y : S1x1024x1024.Idx) (a : Fin 3) :
    (((cfg0.win 3).blk t).view.emb y a).val = (![((grid0.coords t) 0).val * 1, ((grid0.coords t) 1).val * 1024, ((grid0.coords t) 2).val * 1024] : Fin 3 → Nat) a + (y a).val := by
  refine (Pipeline.Window.rect_emb_val_off (cfg0.win 3) t y a).trans ?_
  have i0 : (cfg0.win 3).index t a = (![((grid0.coords t) 0).val, ((grid0.coords t) 1).val, ((grid0.coords t) 2).val] : Fin 3 → Nat) a := by
    show cc0_transform_3 (grid0.coords t) a = _
    have e : cc0_transform_3 (grid0.coords t) = ![(BitVec.ofNat 32 ((grid0.coords t) 0).val).toNat, (BitVec.ofNat 32 ((grid0.coords t) 1).val).toNat, (BitVec.ofNat 32 ((grid0.coords t) 2).val).toNat] := rfl
    rw [e, word_batch, word_rows, word_sixth]
  rw [i0]
  clear i0
  match a with
  | 0 => rfl
  | 1 => rfl
  | 2 => rfl

theorem blk_0 (r : Fin 1024) (d : Fin 2048) :
    (iblk m c 0 t (ix3 0 r d) : EReal) = m ((c.tc : Thread nD τ).loc main_arg0) (ix3 (batchAt t) (rowAt (blockAt t) r) d) := by
  rw [← V_main_arg0 m c]
  refine congrArg (V m c main_arg0) ?_
  funext (a : Fin 3)
  refine Fin.ext ((place_0 t (ix3 0 r d) a).trans ?_)
  match a with
  | 0 => show (batchAt t).val * 1 + 0 = (batchAt t).val; omega
  | 1 => show (blockAt t).val * 1024 + r.val = 1024 * (blockAt t).val + r.val; omega
  | 2 => show 0 * 2048 + d.val = d.val; omega

theorem blk_1 (a : Fin 6) (d : Fin 2048) :
    (iblk m c 1 t (ix3 0 a d) : EReal) = m ((c.tc : Thread nD τ).loc main_arg1) (ix4 (batchAt t) a 0 d) := by
  rw [← host_mod m c]
  refine congrArg (V m c main_v0) ?_
  funext (i : Fin 3)
  refine Fin.ext ((place_1 t (ix3 0 a d) i).trans ?_)
  match i with
  | 0 => show (batchAt t).val * 1 + 0 = (batchAt t).val; omega
  | 1 => show 0 * 6 + a.val = a.val; omega
  | 2 => show 0 * 2048 + d.val = d.val; omega

theorem blk_2 (k : Fin 2048) (d : Fin 1024) :
    (iblk m c 2 t (ix2 k d) : EReal) = m ((c.tc : Thread nD τ).loc main_arg2) (ix2 k (colAt (chunkAt t) d)) := by
  rw [← host_w m c]
  refine congrArg (V m c main_v1) ?_
  funext (a : Fin 2)
  refine Fin.ext ((place_2 t (ix2 k d) a).trans ?_)
  match a with
  | 0 => show 0 * 2048 + k.val = k.val; omega
  | 1 => show (chunkAt t).val * 1024 + d.val = 1024 * (chunkAt t).val + d.val; omega

/-- The rows an entry of the scratch holds after a grid point: those of the point's block. -/
theorem held (n : ℕ) : ∀ (h : n < cfg0.N) (r : Fin 1024) (d : Fin 2048), ((outsAt0 m c n h).2 (ix2 r d) : EReal)
    = rowsAt (m ((c.tc : Thread nD τ).loc main_arg0)) (m ((c.tc : Thread nD τ).loc main_arg1)) (batchAt ⟨n, h⟩) (blockAt ⟨n, h⟩) r d := by
  have first : ∀ (t : Fin cfg0.N), t.val % 6 = 0 → ∀ (r : Fin 1024) (d : Fin 2048), ((outsAt0 m c t.val t.isLt).2 (ix2 r d) : EReal)
      = rowsAt (m ((c.tc : Thread nD τ).loc main_arg0)) (m ((c.tc : Thread nD τ).loc main_arg1)) (batchAt t) (blockAt t) r d := by
    intro t h r d
    rw [outsAt0_A m c t h (by omega)]
    dsimp only
    rw [rows_A]
    refine (rowsOf_apply _ _ r d).trans ?_
    simp only [blk_0, blk_1]
    rfl
  induction n with
  | zero => exact fun h r d => first ⟨0, h⟩ rfl r d
  | succ n ih =>
    intro h r d
    by_cases h0 : (n + 1) % 6 = 0
    · exact first ⟨n + 1, h⟩ h0 r d
    · have e : (outsAt0 m c (n + 1) h).2 = (outsAt0 m c n (by omega)).2 := by
        refine (congrArg Prod.snd (outsAt0_B m c ⟨n + 1, h⟩ h0 (by show 1 ≤ (n + 1) % 6; omega))).trans ?_
        dsimp only [sout0_B_0]
        rfl
      have e0 : batchAt ⟨n + 1, h⟩ = batchAt ⟨n, by omega⟩ := by
        refine Fin.ext ?_
        rw [coord_batch, coord_batch]
        show (n + 1) / 96 = n / 96; omega
      have e1 : blockAt ⟨n + 1, h⟩ = blockAt ⟨n, by omega⟩ := by
        refine Fin.ext ?_
        rw [coord_block, coord_block]
        show (n + 1) / 6 % 16 = n / 6 % 16; omega
      rw [e, e0, e1]
      exact ih (by omega) r d

/-- What the point's block of the output holds. -/
theorem written (r : Fin 1024) (d : Fin 1024) : ((outsAt0 m c t.val t.isLt).1 (ix3 0 r d) : EReal)
    = outVal (m ((c.tc : Thread nD τ).loc main_arg0)) (m ((c.tc : Thread nD τ).loc main_arg1)) (m ((c.tc : Thread nD τ).loc main_arg2)) (batchAt t) (blockAt t) r (colAt (chunkAt t) d) := by
  by_cases h : t.val % 6 = 0
  · rw [outsAt0_A m c t h (by omega)]
    dsimp only
    rw [out_A]
    refine (first_apply _ _ _ r d).trans ?_
    unfold outVal
    refine Finset.sum_congr rfl fun k _ => ?_
    rw [rowsOf_apply, blk_2]
    simp only [blk_0, blk_1]
    rfl
  · have hp : t.val - 1 < cfg0.N := lt_of_le_of_lt (Nat.sub_le _ _) t.isLt
    have e0 : batchAt ⟨t.val - 1, hp⟩ = batchAt t := by
      refine Fin.ext ?_
      rw [coord_batch, coord_batch]
      show (t.val - 1) / 96 = t.val / 96; omega
    have e1 : blockAt ⟨t.val - 1, hp⟩ = blockAt t := by
      refine Fin.ext ?_
      rw [coord_block, coord_block]
      show (t.val - 1) / 6 % 16 = t.val / 6 % 16; omega
    have hs := held m c (t.val - 1) hp
    rw [e0, e1] at hs
    rw [outsAt0_B m c t h (by omega)]
    dsimp only
    rw [out_B]
    refine (later_apply _ _ r d).trans ?_
    unfold outVal
    refine Finset.sum_congr rfl fun k _ => ?_
    rw [blk_2]
    exact congrArg (· * _) (hs r k)

theorem map_3 (i : grid0.Coords) : cc0_transform_3 i = ![(i 0).val, (i 1).val, (i 2).val] := by
  have e : cc0_transform_3 i = ![(BitVec.ofNat 32 (i 0).val).toNat, (BitVec.ofNat 32 (i 1).val).toNat, (BitVec.ofNat 32 (i 2).val).toNat] := rfl
  rw [e, word_batch, word_rows, word_sixth]

/-- The point of chunk `f` of block `s` of batch `b`. -/
def point (b : Fin 2) (s : Fin 16) (f : Fin 6) : grid0.Coords := fun (a : Fin 3) => match a with | 0 => b | 1 => s | 2 => f

theorem covers_3 : (cfg0.win 3).Covers :=
  Pipeline.Window.covers_of_indexMap_surj (w := cfg0.win 3) rfl (by intro (a : Fin 3); revert a; show ∀ a : Fin 3, 0 < S1x1024x1024.size a; decide) fun β => by
    have h0 : (β (0 : Fin 3)).val < 2 := lt_of_lt_of_eq (β (0 : Fin 3)).isLt (by first | rfl | sl_kernel_rfl)
    have h1 : (β (1 : Fin 3)).val < 16 := lt_of_lt_of_eq (β (1 : Fin 3)).isLt (by first | rfl | sl_kernel_rfl)
    have h2 : (β (2 : Fin 3)).val < 6 := lt_of_lt_of_eq (β (2 : Fin 3)).isLt (by first | rfl | sl_kernel_rfl)
    refine ⟨point ⟨(β (0 : Fin 3)).val, h0⟩ ⟨(β (1 : Fin 3)).val, h1⟩ ⟨(β (2 : Fin 3)).val, h2⟩, fun (a : Fin 3) => ?_⟩
    refine (congrFun (map_3 (point ⟨(β (0 : Fin 3)).val, h0⟩ ⟨(β (1 : Fin 3)).val, h1⟩ ⟨(β (2 : Fin 3)).val, h2⟩)) a).trans ?_
    match a with
    | 0 => rfl
    | 1 => rfl
    | 2 => rfl

/-- The call's result in the reference's terms. -/
theorem arr_result : (dats m 0 c).arrAt 3 cfg0.N
    = result (m ((c.tc : Thread nD τ).loc main_arg0)) (m ((c.tc : Thread nD τ).loc main_arg1)) (m ((c.tc : Thread nD τ).loc main_arg2)) := by
  refine Pipeline.Dat.arrAt_eq_of_covers (dats m 0 c) 3 _ covers_3 fun t hf (y : S1x1024x1024.Idx) => ?_
  blk_simp
  rw [after0_3]
  obtain ⟨r, d, rfl⟩ : ∃ (r : Fin 1024) (d : Fin 1024), y = ix3 0 r d := ⟨y 1, y 2, by
    funext (a : Fin 3)
    match a with
    | 0 => exact Subsingleton.elim (α := Fin 1) _ _
    | 1 => rfl
    | 2 => rfl⟩
  have ep : ((cfg0.win 3).blk t).view.emb (ix3 0 r d : S1x1024x1024.Idx) = (ix3 (batchAt t) (rowAt (blockAt t) r) (colAt (chunkAt t) d) : S2x16384x6144.Idx) := by
    funext (a : Fin 3)
    refine Fin.ext ((place_3 t (ix3 0 r d) a).trans ?_)
    match a with
    | 0 => show (batchAt t).val * 1 + 0 = (batchAt t).val; omega
    | 1 => show (blockAt t).val * 1024 + r.val = 1024 * (blockAt t).val + r.val; omega
    | 2 => show (chunkAt t).val * 1024 + d.val = 1024 * (chunkAt t).val + d.val; omega
  refine Eq.trans ?_ (congrArg _ ep.symm)
  exact (written m c t r d).trans (result_apply _ _ _ _ _ _ _).symm

theorem frame_ideal (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := Cert.QkvIdeal.Gen.frame m g

/-- The call's result, from any memory. -/
theorem call_result (g : Dev nD → PrngReg) :
    θ_run (defs (F := Ideal)) (onTc (τ := τ) (main (F := Ideal))) ⟨m, fun _ => 0, g⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))) :=
  (θ_run _ _ _).mono (fun r h c => ((h c).1 3).trans (arr_result m c)) (run_main m g)

end

theorem frame_kernel : Cert.quiescent_Qkv := fun m g _ => Cert.Qkv.Gen.frame m g

/-- The reference's frame: it declares no semaphore. -/
theorem frame_reference : Cert.quiescent_QkvRefIdeal := fun m g _ =>
  (θ_run Cert.QkvRefIdeal.defs _ _).mono (fun r h => ⟨fun c => (h c).2, Idealize.ShloMosaic.sem_eq_zero_of_no_sems (by decide) r.2⟩)
    (Cert.QkvRefIdeal.Value.run (F := Ideal) m g)

theorem algebraic : Cert.algebraic_QkvIdeal_QkvRefIdeal := by
  intro m g m' g' _ hm
  refine ⟨fun c => result (m ((c.tc : Thread Cert.QkvIdeal.nD Cert.QkvIdeal.τ).loc Cert.QkvIdeal.main_arg0))
    (m ((c.tc : Thread Cert.QkvIdeal.nD Cert.QkvIdeal.τ).loc Cert.QkvIdeal.main_arg1))
    (m ((c.tc : Thread Cert.QkvIdeal.nD Cert.QkvIdeal.τ).loc Cert.QkvIdeal.main_arg2)), ?_, ?_⟩
  · exact (θ_run _ _ _).mono (fun r h c => ⟨h.1 c, h.2.1 c⟩) (θ_run_and (call_result m g) (frame_ideal m g))
  · refine (θ_run _ _ _).mono (fun r h c => ⟨(h c).1.trans ?_, (h c).2⟩) (Cert.QkvRefIdeal.Value.run (F := Ideal) m' g')
    obtain ⟨h0, h1, h2⟩ := hm c
    rw [h0, h1, h2]
    rfl

end Cert.QkvProj
end
-- ==== Proof.OutFinal.lean ====
/- The claims of the attention output projection: its frames, the reference's, and the equality of the results, from any memory. -/
module

public import proofs.«01_k».proof.Proof.FfnBlocks
public import proofs.«01_k».proof.Proof.FfnPieces
public import proofs.«01_k».proof.Proof.Gen.OutRefIdeal.Run
public import proofs.«01_k».proof.Defs
public import Idealize.ShloMosaic.Lib.Pointwise
public import Idealize.ShloMosaic.Lib.StableHlo.RunRead
public import Idealize.ShloMosaic.Lib.StableHlo.ReadAt
public import Idealize.ShloMosaic.Lib.Pipeline.ValueKit.Geometry
public import Idealize.ShloMosaic.Lib.Pipeline.Covers
public import proofs.«01_k».proof.Proof.Gen.Out
public import proofs.«01_k».proof.Proof.Gen.Out.Frame
public import proofs.«01_k».proof.Proof.Gen.OutIdeal
public import proofs.«01_k».proof.Proof.Gen.OutIdeal.Frame

@[expose] public section

set_option maxRecDepth 16384
set_option backward.isDefEq.respectTransparency false

noncomputable section

namespace Cert.OutProj

open Idealize.ShloMosaic Idealize.ShloMosaic.TcCoe Idealize.ShloMosaic.Tactic Idealize.SL.Sem
open Cert.Feed (word_batch word_block read_whole)

instance : Cert.Out.Facts := Cert.Out.Gen.facts
instance : Cert.OutIdeal.Facts := Cert.OutIdeal.Gen.facts
instance : Cert.OutRefIdeal.Facts := Cert.OutRefIdeal.Gen.facts

section
open Cert.OutRefIdeal Cert.OutRefIdeal.Gen

/-- What the reference computes, as a function of its arguments: the residual plus the gate times the projection. -/
def result (A : FVec Ideal S2x16384x2048 .bf16) (x : FVec Ideal S2x16384x2048 .f32) (mo : FVec Ideal S2x6x1x2048 .f32)
    (w : FVec Ideal S2048x2048 .f32) : FVec Ideal S2x16384x2048 .f32 :=
  addf x (mulf (broadcastInDim S2x16384x2048 ![0, 1, 2] bcast_S2x1x2048_S2x16384x2048_0_1_2
      (shapeCast S2x1x2048 (extractStridedSlice S2x1x1x2048 ![0, 2, 0, 0] mo slices_S2x6x1x2048_S2x1x1x2048_0_2_0_0) shapeCasts_S2x1x1x2048_S2x1x2048))
    (Host.dotGeneral dot_S2x16384x2048_S2048x2048_S2x16384x2048_2_0_01_1_n_n none (extf .f32 A bitsLt_bf16_f32) w))

theorem result_apply (A : FVec Ideal S2x16384x2048 .bf16) (x : FVec Ideal S2x16384x2048 .f32) (mo : FVec Ideal S2x6x1x2048 .f32)
    (w : FVec Ideal S2048x2048 .f32) (b : Fin 2) (i : Fin 16384) (d : Fin 2048) :
    (result A x mo w (ix3 b i d) : EReal) = x (ix3 b i d) + mo (ix4 b 2 0 d) * ∑ k : Fin 2048, A (ix3 b i k) * w (ix2 k d) := by
  pointwise [result]

end

section
open Cert.OutIdeal Cert.OutIdeal.Gen

variable (m : (ℓ : Loc nD τ sig) → Buf (Elt Ideal) ℓ) (c : Dev nD)

/-- The body's result at an entry of the block. -/
theorem pay_apply (a : FVec Ideal S1x512x2048 .bf16) (w : FVec Ideal S2048x2048 .bf16) (x : FVec Ideal S1x512x2048 .f32)
    (g : FVec Ideal S1x1x2048 .f32) (r : Fin 512) (d : Fin 2048) :
    (k0_pay1 (F := Ideal) a w x g (ix3 0 r d) : EReal) = x (ix3 0 r d) + g (ix3 0 0 d) * ∑ k : Fin 2048, a (ix3 0 r k) * w (ix2 k d) := by
  pointwise [k0_pay1]

theorem emb_whole {s : Shape} {off : Fin s.rank → ℕ} (inb : ∀ a, off a + s.size a ≤ s.size a) (y : s.Idx) :
    (Rect.unit off s.size inb).emb y = y := Rect.emb_unit_full inb y

/-- The block written is the body's result whole. -/
theorem out_eq (x0 : Vec Ideal S1x512x2048 .bf16) (x1 : Vec Ideal S1x512x2048 .f32) (x2 : Vec Ideal S1x6x2048 .f32)
    (x3 : Vec Ideal S2048x2048 .bf16) :
    out0_4 x0 x1 x2 x3 = k0_pay1 x0 x3 x1 (View.ld x2 r0_2) := by
  have e0 : View.ld x0 r0_0 = x0 := read_whole x0 _
  have e1 : View.ld x1 r0_0 = x1 := read_whole x1 _
  have e3 : View.ld x3 r0_1 = x3 := read_whole x3 _
  unfold out0_4
  rw [e0, e1, e3]
  funext y
  have ey : r0_0.emb y = y := emb_whole (s := S1x512x2048) inb_S1x512x2048_S1x512x2048_0_0_0 y
  refine (congrArg _ ey.symm).trans ?_
  exact View.canon_cons_emb r0_0 _ [] y

variable (t : Fin cfg0.N)

theorem place_0 (y : S1x512x2048.Idx) (a : Fin 3) :
    (((cfg0.win 0).blk t).view.emb y a).val = (![((grid0.coords t) 0).val * 1, ((grid0.coords t) 1).val * 512, 0 * 2048] : Fin 3 → Nat) a + (y a).val := by
  refine (Pipeline.Window.rect_emb_val_off (cfg0.win 0) t y a).trans ?_
  have i0 : (cfg0.win 0).index t a = (![((grid0.coords t) 0).val, ((grid0.coords t) 1).val, 0] : Fin 3 → Nat) a := by
    show cc0_transform_0 (grid0.coords t) a = _
    have e : cc0_transform_0 (grid0.coords t) = ![(BitVec.ofNat 32 ((grid0.coords t) 0).val).toNat, (BitVec.ofNat 32 ((grid0.coords t) 1).val).toNat, (0#32).toNat] := rfl
    rw [e, word_batch, word_block]; rfl
  rw [i0]
  clear i0
  match a with
  | 0 => rfl
  | 1 => rfl
  | 2 => rfl

theorem place_1 (y : S1x512x2048.Idx) (a : Fin 3) :
    (((cfg0.win 1).blk t).view.emb y a).val = (![((grid0.coords t) 0).val * 1, ((grid0.coords t) 1).val * 512, 0 * 2048] : Fin 3 → Nat) a + (y a).val := by
  refine (Pipeline.Window.rect_emb_val_off (cfg0.win 1) t y a).trans ?_
  have i0 : (cfg0.win 1).index t a = (![((grid0.coords t) 0).val, ((grid0.coords t) 1).val, 0] : Fin 3 → Nat) a := by
    show cc0_transform_1 (grid0.coords t) a = _
    have e : cc0_transform_1 (grid0.coords t) = ![(BitVec.ofNat 32 ((grid0.coords t) 0).val).toNat, (BitVec.ofNat 32 ((grid0.coords t) 1).val).toNat, (0#32).toNat] := rfl
    rw [e, word_batch, word_block]; rfl
  rw [i0]
  clear i0
  match a with
  | 0 => rfl
  | 1 => rfl
  | 2 => rfl

theorem place_2 (y : S1x6x2048.Idx) (a : Fin 3) :
    (((cfg0.win 2).blk t).view.emb y a).val = (![((grid0.coords t) 0).val * 1, 0 * 6, 0 * 2048] : Fin 3 → Nat) a + (y a).val := by
  refine (Pipeline.Window.rect_emb_val_off (cfg0.win 2) t y a).trans ?_
  have i0 : (cfg0.win 2).index t a = (![((grid0.coords t) 0).val, 0, 0] : Fin 3 → Nat) a := by
    show cc0_transform_2 (grid0.coords t) a = _
    have e : cc0_transform_2 (grid0.coords t) = ![(BitVec.ofNat 32 ((grid0.coords t) 0).val).toNat, (0#32).toNat, (0#32).toNat] := rfl
    rw [e, word_batch]; rfl
  rw [i0]
  clear i0
  match a with
  | 0 => rfl
  | 1 => rfl
  | 2 => rfl

theorem place_3 (y : S2048x2048.Idx) (a : Fin 2) : (((cfg0.win 3).blk t).view.emb y a).val = (y a).val := by
  refine (Pipeline.Window.rect_emb_val_off (cfg0.win 3) t y a).trans ?_
  have i0 : (cfg0.win 3).index t a = (![0, 0] : Fin 2 → Nat) a := by
    show cc0_transform_3 (grid0.coords t) a = _
    rfl
  rw [i0]
  clear i0
  match a with
  | 0 => show 0 * 2048 + (y 0).val = (y 0).val; omega
  | 1 => show 0 * 2048 + (y 1).val = (y 1).val; omega

theorem place_4 (y : S1x512x2048.Idx) (a : Fin 3) :
    (((cfg0.win 4).blk t).view.emb y a).val = (![((grid0.coords t) 0).val * 1, ((grid0.coords t) 1).val * 512, 0 * 2048] : Fin 3 → Nat) a + (y a).val := by
  refine (Pipeline.Window.rect_emb_val_off (cfg0.win 4) t y a).trans ?_
  have i0 : (cfg0.win 4).index t a = (![((grid0.coords t) 0).val, ((grid0.coords t) 1).val, 0] : Fin 3 → Nat) a := by
    show cc0_transform_4 (grid0.coords t) a = _
    have e : cc0_transform_4 (grid0.coords t) = ![(BitVec.ofNat 32 ((grid0.coords t) 0).val).toNat, (BitVec.ofNat 32 ((grid0.coords t) 1).val).toNat, (0#32).toNat] := rfl
    rw [e, word_batch, word_block]; rfl
  rw [i0]
  clear i0
  match a with
  | 0 => rfl
  | 1 => rfl
  | 2 => rfl

/-- Row `r` of block `s` in the array. -/
abbrev rowAt (s : Fin 32) (r : Fin 512) : Fin 16384 := ⟨512 * s.val + r.val, by omega⟩

abbrev batchAt (t : Fin cfg0.N) : Fin 2 := (grid0.coords t) 0
abbrev blockAt (t : Fin cfg0.N) : Fin 32 := (grid0.coords t) 1

theorem blk_0 (r : Fin 512) (d : Fin 2048) :
    (iblk m c 0 t (ix3 0 r d) : EReal) = V m c main_arg0 (ix3 (batchAt t) (rowAt (blockAt t) r) d) := by
  refine congrArg (V m c main_arg0) ?_
  funext (a : Fin 3)
  refine Fin.ext ((place_0 t (ix3 0 r d) a).trans ?_)
  match a with
  | 0 => show (batchAt t).val * 1 + 0 = (batchAt t).val; omega
  | 1 => show (blockAt t).val * 512 + r.val = 512 * (blockAt t).val + r.val; omega
  | 2 => show 0 * 2048 + d.val = d.val; omega

theorem blk_1 (r : Fin 512) (d : Fin 2048) :
    (iblk m c 1 t (ix3 0 r d) : EReal) = V m c main_arg1 (ix3 (batchAt t) (rowAt (blockAt t) r) d) := by
  refine congrArg (V m c main_arg1) ?_
  funext (a : Fin 3)
  refine Fin.ext ((place_1 t (ix3 0 r d) a).trans ?_)
  match a with
  | 0 => show (batchAt t).val * 1 + 0 = (batchAt t).val; omega
  | 1 => show (blockAt t).val * 512 + r.val = 512 * (blockAt t).val + r.val; omega
  | 2 => show 0 * 2048 + d.val = d.val; omega

theorem blk_2 (d : Fin 2048) :
    (View.ld (iblk m c 2 t : Vec Ideal S1x6x2048 .f32) r0_2 (ix3 0 0 d) : EReal) = V m c main_v0 (ix3 (batchAt t) 2 d) := by
  have e : r0_2.idx (ix3 0 0 d) = (ix3 0 2 d : S1x6x2048.Idx) := by
    funext (a : Fin 3)
    refine Fin.ext ?_
    match a with
    | 0 => rfl
    | 1 => rfl
    | 2 => show 0 + 1 * d.val = d.val; omega
  refine (congrArg (iblk m c 2 t : Vec Ideal S1x6x2048 .f32) e).trans ?_
  refine congrArg (V m c main_v0) ?_
  funext (a : Fin 3)
  refine Fin.ext ((place_2 t (ix3 0 2 d) a).trans ?_)
  match a with
  | 0 => show (batchAt t).val * 1 + 0 = (batchAt t).val; omega
  | 1 => rfl
  | 2 => show 0 * 2048 + d.val = d.val; omega

theorem blk_3 (k d : Fin 2048) : (iblk m c 3 t (ix2 k d) : EReal) = V m c main_v1 (ix2 k d) := by
  refine congrArg (V m c main_v1) ?_
  funext (a : Fin 2)
  refine Fin.ext ((place_3 t (ix2 k d) a).trans ?_)
  match a with
  | 0 => rfl
  | 1 => rfl

/-- What the host hands the call: the modulation reshaped, the weights unchanged. -/
theorem host_mod (b : Fin 2) (a : Fin 6) (d : Fin 2048) : (V m c main_v0 (ix3 b a d) : EReal) = m ((c.tc : Thread nD τ).loc main_arg2) (ix4 b a 0 d) := by
  unfold V
  simp only [hostOps0]
  after_reads_simp
  pointwise []
theorem host_w : V m c main_v1 = m ((c.tc : Thread nD τ).loc main_arg3) := by
  unfold V
  simp only [hostOps0]
  after_reads_simp
  rfl

theorem map_4 (i : grid0.Coords) : cc0_transform_4 i = ![(i 0).val, (i 1).val, 0] := by
  have e : cc0_transform_4 i = ![(BitVec.ofNat 32 (i 0).val).toNat, (BitVec.ofNat 32 (i 1).val).toNat, (0#32).toNat] := rfl
  rw [e, word_batch, word_block]; rfl

/-- The point of block `s` of batch `b`. -/
def point (b : Fin 2) (s : Fin 32) : grid0.Coords := fun (a : Fin 2) => match a with | 0 => b | 1 => s

theorem covers_4 : (cfg0.win 4).Covers :=
  Pipeline.Window.covers_of_indexMap_surj (w := cfg0.win 4) rfl (by intro (a : Fin 3); revert a; show ∀ a : Fin 3, 0 < S1x512x2048.size a; decide) fun β => by
    have h0 : (β (0 : Fin 3)).val < 2 := lt_of_lt_of_eq (β (0 : Fin 3)).isLt (by first | rfl | sl_kernel_rfl)
    have h1 : (β (1 : Fin 3)).val < 32 := lt_of_lt_of_eq (β (1 : Fin 3)).isLt (by first | rfl | sl_kernel_rfl)
    have h2 : (β (2 : Fin 3)).val < 1 := lt_of_lt_of_eq (β (2 : Fin 3)).isLt (by first | rfl | sl_kernel_rfl)
    refine ⟨point ⟨(β (0 : Fin 3)).val, h0⟩ ⟨(β (1 : Fin 3)).val, h1⟩, fun (a : Fin 3) => ?_⟩
    refine (congrFun (map_4 (point ⟨(β (0 : Fin 3)).val, h0⟩ ⟨(β (1 : Fin 3)).val, h1⟩)) a).trans ?_
    match a with
    | 0 => rfl
    | 1 => rfl
    | 2 => show 0 = (β (2 : Fin 3)).val; omega

/-- The call's result in the reference's terms. -/
theorem arr_result : (dats m 0 c).arrAt 4 cfg0.N
    = result (m ((c.tc : Thread nD τ).loc main_arg0)) (m ((c.tc : Thread nD τ).loc main_arg1)) (m ((c.tc : Thread nD τ).loc main_arg2))
      (m ((c.tc : Thread nD τ).loc main_arg3)) := by
  refine Pipeline.Dat.arrAt_eq_of_covers (dats m 0 c) 4 _ covers_4 fun t hf (y : S1x512x2048.Idx) => ?_
  blk_simp
  rw [after0_4, out_eq]
  obtain ⟨r, d, rfl⟩ : ∃ (r : Fin 512) (d : Fin 2048), y = ix3 0 r d := ⟨y 1, y 2, by
    funext (a : Fin 3)
    match a with
    | 0 => exact Subsingleton.elim (α := Fin 1) _ _
    | 1 => rfl
    | 2 => rfl⟩
  have ep : ((cfg0.win 4).blk t).view.emb (ix3 0 r d : S1x512x2048.Idx) = (ix3 (batchAt t) (rowAt (blockAt t) r) d : S2x16384x2048.Idx) := by
    funext (a : Fin 3)
    refine Fin.ext ((place_4 t (ix3 0 r d) a).trans ?_)
    match a with
    | 0 => show (batchAt t).val * 1 + 0 = (batchAt t).val; omega
    | 1 => show (blockAt t).val * 512 + r.val = 512 * (blockAt t).val + r.val; omega
    | 2 => show 0 * 2048 + d.val = d.val; omega
  refine Eq.trans ?_ (congrArg _ ep.symm)
  refine (pay_apply _ _ _ _ r d).trans (Eq.trans ?_ (result_apply _ _ _ _ _ _ _).symm)
  rw [blk_1, blk_2, host_mod, V_main_arg1]
  simp only [blk_0, blk_3]
  rw [host_w, V_main_arg0]

theorem frame_ideal (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := Cert.OutIdeal.Gen.frame m g

/-- The call's result, from any memory. -/
theorem call_result (g : Dev nD → PrngReg) :
    θ_run (defs (F := Ideal)) (onTc (τ := τ) (main (F := Ideal))) ⟨m, fun _ => 0, g⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
          (m ((c.tc : Thread nD τ).loc main_arg3))) :=
  (θ_run _ _ _).mono (fun r h c => ((h c).1 4).trans (arr_result m c)) (run_main m g)

end

theorem frame_kernel : Cert.quiescent_Out := fun m g _ => Cert.Out.Gen.frame m g

/-- The reference's frame: it declares no semaphore. -/
theorem frame_reference : Cert.quiescent_OutRefIdeal := fun m g _ =>
  (θ_run Cert.OutRefIdeal.defs _ _).mono (fun r h => ⟨fun c => (h c).2, Idealize.ShloMosaic.sem_eq_zero_of_no_sems (by decide) r.2⟩)
    (Cert.OutRefIdeal.Value.run (F := Ideal) m g)

theorem algebraic : Cert.algebraic_OutIdeal_OutRefIdeal := by
  intro m g m' g' _ hm
  refine ⟨fun c => result (m ((c.tc : Thread Cert.OutIdeal.nD Cert.OutIdeal.τ).loc Cert.OutIdeal.main_arg0))
    (m ((c.tc : Thread Cert.OutIdeal.nD Cert.OutIdeal.τ).loc Cert.OutIdeal.main_arg1)) (m ((c.tc : Thread Cert.OutIdeal.nD Cert.OutIdeal.τ).loc Cert.OutIdeal.main_arg2))
    (m ((c.tc : Thread Cert.OutIdeal.nD Cert.OutIdeal.τ).loc Cert.OutIdeal.main_arg3)), ?_, ?_⟩
  · exact (θ_run _ _ _).mono (fun r h c => ⟨h.1 c, h.2.1 c⟩) (θ_run_and (call_result m g) (frame_ideal m g))
  · refine (θ_run _ _ _).mono (fun r h c => ⟨(h c).1.trans ?_, (h c).2⟩) (Cert.OutRefIdeal.Value.run (F := Ideal) m' g')
    obtain ⟨h0, h1, h2, h3⟩ := hm c
    rw [h0, h1, h2, h3]
    rfl

end Cert.OutProj
end
-- ==== Proof.GluPieces.lean ====
/- What the body of the gated-linear-unit projection leaves at a grid point: in the scratch, at the first chunk of columns, the
   modulated rows of its block; in the output window the chunk of the gated projection. -/
module

public import proofs.«01_k».proof.Proof.Gen.GluIdeal.Frame
public import proofs.«01_k».proof.Proof.FfnPieces
public import Idealize.ShloMosaic.Lib.WholeRead
public import Idealize.ShloMosaic.Lib.VecWindow
public import Idealize.ShloMosaic.Lib.Pipeline.ReadBack
public import Idealize.ShloMosaic.Lib.ValueIdx

@[expose] public section

set_option maxRecDepth 16384
set_option backward.isDefEq.respectTransparency false

noncomputable section

namespace Cert.GluProj

open Idealize.ShloMosaic Idealize.ShloMosaic.TcCoe Idealize.ShloMosaic.Tactic
open Cert.GluIdeal Cert.GluIdeal.Gen
open Cert.Feed (read_whole)

variable {F : FTy → Type} [FloatOps F]

/-- The modulation's shift and scale. -/
def shiftRow (x1 : Vec F S1x6x2048 .f32) : Vec F S1x1x2048 .f32 := View.ld x1 (Rect.unit ![0, 0, 0] ![1, 1, 2048] inb_S1x6x2048_S1x1x2048_0_0_0)
def scaleRow (x1 : Vec F S1x6x2048 .f32) : Vec F S1x1x2048 .f32 := View.ld x1 (Rect.unit ![0, 1, 0] ![1, 1, 2048] inb_S1x6x2048_S1x1x2048_0_1_0)

/-- The modulated rows of a block. -/
def rowsOf (x0 : Vec F S1x1024x2048 .f32) (x1 : Vec F S1x6x2048 .f32) : FVec F S1024x2048 .bf16 := k0_pay3 x0 (shiftRow x1) (scaleRow x1)

theorem k0_pay4_eq (a : Vec F S1x1024x2048 .f32) (b d : Vec F S1x1x2048 .f32) : k0_pay4 a b d = k0_pay3 a b d := by
  unfold k0_pay4
  exact shapeCast_self _ _

/-- At the first chunk of columns the output window takes the chunk from the rows just made, -/
theorem out_A (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024x512 .f32) (harg9 : arg9.IsWhole) (arg10 : Memref sig .tc .vmem S1024x2048 .bf16) (harg10 : arg10.IsWhole) (hc0 : cond0_0 i) (hc1 : ¬cond0_1 i)
    (x0 : Vec F S1x1024x2048 .f32) (x1 : Vec F S1x6x2048 .f32) (x2 : Vec F S2048x512 .bf16) (x3 : Vec F S2048x512 .bf16) (x4 : Vec F S1x512 .f32) (x5 : Vec F S1x512 .f32) :
    out0_A_6 c i arg3 harg3 arg4 harg4 arg5 harg5 arg6 harg6 arg7 harg7 arg8 harg8 arg9 harg9 arg10 harg10 hc0 hc1 x0 x1 x2 x3 x4 x5 = k0_pay1 (k0_pay5 x0 (shiftRow x1) (scaleRow x1) x2 x4) (k0_pay6 x0 (shiftRow x1) (scaleRow x1) x3) x5 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have w0 : (fun y => x0 ((Rect.unit ![0, 0, 0] ![1, 1024, 2048] inb_S1x1024x2048_S1x1024x2048_0_0_0).idx y)) = x0 := read_whole x0 _
  have w2 : (fun y => x2 ((Rect.unit ![0, 0] ![2048, 512] inb_S2048x512_S2048x512_0_0).idx y)) = x2 := read_whole x2 _
  have w3 : (fun y => x3 ((Rect.unit ![0, 0] ![2048, 512] inb_S2048x512_S2048x512_0_0).idx y)) = x3 := read_whole x3 _
  have w4 : (fun y => x4 ((Rect.unit ![0, 0] ![1, 512] inb_S1x512_S1x512_0_0).idx y)) = x4 := read_whole x4 _
  have w5 : (fun y => x5 ((Rect.unit ![0, 0] ![1, 512] inb_S1x512_S1x512_0_0).idx y)) = x5 := read_whole x5 _
  unfold out0_A_6 kernelRun0_A
  dsimp only
  rw [View.read_writes_full]
  simp only [kernelRun0_A.sl.r, kernelRun0_A.sl.r_1, e0, e1, e2, e3, e4, e5]
  simp only [w0, w2, w3, w4, w5]
  rfl

/-- and the scratch takes the rows; -/
theorem rows_A (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024x512 .f32) (harg9 : arg9.IsWhole) (arg10 : Memref sig .tc .vmem S1024x2048 .bf16) (harg10 : arg10.IsWhole) (hc0 : cond0_0 i) (hc1 : ¬cond0_1 i)
    (x0 : Vec F S1x1024x2048 .f32) (x1 : Vec F S1x6x2048 .f32) (x2 : Vec F S2048x512 .bf16) (x3 : Vec F S2048x512 .bf16) (x4 : Vec F S1x512 .f32) (x5 : Vec F S1x512 .f32) :
    sout0_A_0 c i arg3 harg3 arg4 harg4 arg5 harg5 arg6 harg6 arg7 harg7 arg8 harg8 arg9 harg9 arg10 harg10 hc0 hc1 x0 x1 x2 x3 x4 x5 = rowsOf x0 x1 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have w0 : (fun y => x0 ((Rect.unit ![0, 0, 0] ![1, 1024, 2048] inb_S1x1024x2048_S1x1024x2048_0_0_0).idx y)) = x0 := read_whole x0 _
  have w2 : (fun y => x2 ((Rect.unit ![0, 0] ![2048, 512] inb_S2048x512_S2048x512_0_0).idx y)) = x2 := read_whole x2 _
  have w3 : (fun y => x3 ((Rect.unit ![0, 0] ![2048, 512] inb_S2048x512_S2048x512_0_0).idx y)) = x3 := read_whole x3 _
  have w4 : (fun y => x4 ((Rect.unit ![0, 0] ![1, 512] inb_S1x512_S1x512_0_0).idx y)) = x4 := read_whole x4 _
  have w5 : (fun y => x5 ((Rect.unit ![0, 0] ![1, 512] inb_S1x512_S1x512_0_0).idx y)) = x5 := read_whole x5 _
  unfold sout0_A_0 kernelRun0_A
  dsimp only
  rw [View.read_writes_full]
  simp only [e0, e1, e2, e3, e4, e5]
  simp only [w0, w2, w3, w4, w5, k0_pay4_eq]
  rfl

/-- at a later chunk, from the rows in the scratch. -/
theorem out_B (c : Dev nD) (i : grid0.Coords) (arg3 : Memref sig .tc .vmem S1x1024x2048 .f32) (harg3 : arg3.IsWhole) (arg4 : Memref sig .tc .vmem S1x6x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024x512 .f32) (harg9 : arg9.IsWhole) (arg10 : Memref sig .tc .vmem S1024x2048 .bf16) (harg10 : arg10.IsWhole) (hc0 : ¬cond0_0 i) (hc1 : cond0_1 i)
    (x0 : Vec F S1x1024x2048 .f32) (x1 : Vec F S1x6x2048 .f32) (x2 : Vec F S2048x512 .bf16) (x3 : Vec F S2048x512 .bf16) (x4 : Vec F S1x512 .f32) (x5 : Vec F S1x512 .f32) (xs0 : Vec F S1024x2048 .bf16) :
    out0_B_6 c i arg3 harg3 arg4 harg4 arg5 harg5 arg6 harg6 arg7 harg7 arg8 harg8 arg9 harg9 arg10 harg10 hc0 hc1 x0 x1 x2 x3 x4 x5 xs0 = k0_pay2 xs0 x2 x4 x3 x5 := by
  have e0 : ∀ B, View.readAt (Elt F) arg3.view B (harg3.unread x0) = fun y => x0 (B.idx y) := fun B => funext fun y => harg3.readAt_unread x0 B y
  have e1 : ∀ B, View.readAt (Elt F) arg4.view B (harg4.unread x1) = fun y => x1 (B.idx y) := fun B => funext fun y => harg4.readAt_unread x1 B y
  have e2 : ∀ B, View.readAt (Elt F) arg5.view B (harg5.unread x2) = fun y => x2 (B.idx y) := fun B => funext fun y => harg5.readAt_unread x2 B y
  have e3 : ∀ B, View.readAt (Elt F) arg6.view B (harg6.unread x3) = fun y => x3 (B.idx y) := fun B => funext fun y => harg6.readAt_unread x3 B y
  have e4 : ∀ B, View.readAt (Elt F) arg7.view B (harg7.unread x4) = fun y => x4 (B.idx y) := fun B => funext fun y => harg7.readAt_unread x4 B y
  have e5 : ∀ B, View.readAt (Elt F) arg8.view B (harg8.unread x5) = fun y => x5 (B.idx y) := fun B => funext fun y => harg8.readAt_unread x5 B y
  have es : ∀ B, View.readAt (Elt F) arg10.view B (harg10.unread xs0) = fun y => xs0 (B.idx y) := fun B => funext fun y => harg10.readAt_unread xs0 B y
  have w0 : (fun y => x0 ((Rect.unit ![0, 0, 0] ![1, 1024, 2048] inb_S1x1024x2048_S1x1024x2048_0_0_0).idx y)) = x0 := read_whole x0 _
  have w2 : (fun y => x2 ((Rect.unit ![0, 0] ![2048, 512] inb_S2048x512_S2048x512_0_0).idx y)) = x2 := read_whole x2 _
  have w3 : (fun y => x3 ((Rect.unit ![0, 0] ![2048, 512] inb_S2048x512_S2048x512_0_0).idx y)) = x3 := read_whole x3 _
  have w4 : (fun y => x4 ((Rect.unit ![0, 0] ![1, 512] inb_S1x512_S1x512_0_0).idx y)) = x4 := read_whole x4 _
  have w5 : (fun y => x5 ((Rect.unit ![0, 0] ![1, 512] inb_S1x512_S1x512_0_0).idx y)) = x5 := read_whole x5 _
  have ws : (fun y => xs0 ((Rect.unit ![0, 0] ![1024, 2048] inb_S1024x2048_S1024x2048_0_0).idx y)) = xs0 := read_whole xs0 _
  unfold out0_B_6 kernelRun0_B
  dsimp only
  rw [View.read_writes_full]
  simp only [e0, e1, e2, e3, e4, e5, es]
  simp only [w0, w2, w3, w4, w5, ws]

end Cert.GluProj
end
-- ==== Proof.GluFinal.lean ====
/- The claims of the gated-linear-unit projection: its frames, the reference's, and the equality of the results, from any memory. -/
module

public import proofs.«01_k».proof.Proof.ProjRef
public import proofs.«01_k».proof.Proof.GluPieces
public import proofs.«01_k».proof.Proof.Gen.GluRefIdeal.Run
public import proofs.«01_k».proof.Defs
public import Idealize.ShloMosaic.Lib.Pointwise
public import Idealize.ShloMosaic.Lib.StableHlo.RunRead
public import Idealize.ShloMosaic.Lib.StableHlo.ReadAt
public import Idealize.ShloMosaic.Lib.Pipeline.ValueKit.Geometry
public import Idealize.ShloMosaic.Lib.Pipeline.Covers
public import proofs.«01_k».proof.Proof.Gen.Glu
public import proofs.«01_k».proof.Proof.Gen.Glu.Frame
public import proofs.«01_k».proof.Proof.Gen.GluIdeal

@[expose] public section

set_option maxRecDepth 16384
set_option backward.isDefEq.respectTransparency false

noncomputable section

namespace Cert.GluProj

open Idealize.ShloMosaic Idealize.ShloMosaic.TcCoe Idealize.ShloMosaic.Tactic Idealize.SL.Sem
open Cert.Feed (word_batch modulated)
open Cert.Proj

instance : Cert.Glu.Facts := Cert.Glu.Gen.facts
instance : Cert.GluIdeal.Facts := Cert.GluIdeal.Gen.facts
instance : Cert.GluRefIdeal.Facts := Cert.GluRefIdeal.Gen.facts

/-- Column `d` of chunk `f` of the output, and the columns of the up projection behind it, in the first half and in the second. -/
abbrev colAt (f : Fin 4) (d : Fin 512) : Fin 2048 := ⟨512 * f.val + d.val, by omega⟩
abbrev lowAt (j : Fin 2048) : Fin 4096 := ⟨j.val, by omega⟩
abbrev highAt (j : Fin 2048) : Fin 4096 := ⟨2048 + j.val, by omega⟩
abbrev lowCol (f : Fin 4) (d : Fin 512) : Fin 4096 := lowAt (colAt f d)
abbrev highCol (f : Fin 4) (d : Fin 512) : Fin 4096 := highAt (colAt f d)

/-- `u · 1 / (1 + exp (−v))`. -/
def gated (u v : EReal) : EReal := u * Ideal.div 1 (1 + Ideal.exp (-v))

section
open Cert.GluRefIdeal Cert.GluRefIdeal.Gen

/-- The projection of the modulated rows with its bias, at an entry named by its block, row and column, -/
def upVal (x : FVec Ideal S2x16384x2048 .f32) (mo : FVec Ideal S2x6x1x2048 .f32) (w : FVec Ideal S2048x4096 .f32) (bb : FVec Ideal S4096 .f32)
    (b : Fin 2) (s : Fin 16) (r : Fin 1024) (j : Fin 4096) : EReal := ∑ k : Fin 2048, rowsAt x mo b s r k * w (ix2 k j) + bb (ix1 j)

/-- and the first half of its columns gated by the second. -/
def outVal (x : FVec Ideal S2x16384x2048 .f32) (mo : FVec Ideal S2x6x1x2048 .f32) (w : FVec Ideal S2048x4096 .f32) (bb : FVec Ideal S4096 .f32)
    (b : Fin 2) (s : Fin 16) (r : Fin 1024) (j : Fin 2048) : EReal := gated (upVal x mo w bb b s r (lowAt j)) (upVal x mo w bb b s r (highAt j))

/-- What the reference computes, as a function of its arguments: the projection with its bias, -/
def upProj (x : FVec Ideal S2x16384x2048 .f32) (mo : FVec Ideal S2x6x1x2048 .f32) (w : FVec Ideal S2048x4096 .f32) (bb : FVec Ideal S4096 .f32) : FVec Ideal S2x16384x4096 .f32 :=
  addf (Host.dotGeneral dot_S2x16384x2048_S2048x4096_S2x16384x4096_2_0_01_1_n_n none (ada x mo) w)
    (broadcastInDim S2x16384x4096 ![0, 1, 2] bcast_S1x1x4096_S2x16384x4096_0_1_2 (broadcastInDim S1x1x4096 ![2] bcast_S4096_S1x1x4096_2 bb))

/-- and its first half times the logistic function of its second. -/
def gate (u : FVec Ideal S2x16384x4096 .f32) : FVec Ideal S2x16384x2048 .f32 :=
  mulf (extractStridedSlice S2x16384x2048 ![0, 0, 0] u slices_S2x16384x4096_S2x16384x2048_0_0_0)
    (Host.divf (broadcastInDim S2x16384x2048 ![] bcast_S_S2x16384x2048 (constant S_ .f32 0x3F800000#32))
      (addf (broadcastInDim S2x16384x2048 ![] bcast_S_S2x16384x2048 (constant S_ .f32 0x3F800000#32))
        (Host.exp (Host.negf (extractStridedSlice S2x16384x2048 ![0, 0, 2048] u slices_S2x16384x4096_S2x16384x2048_0_0_2048)))))

def result (x : FVec Ideal S2x16384x2048 .f32) (mo : FVec Ideal S2x6x1x2048 .f32) (w : FVec Ideal S2048x4096 .f32) (bb : FVec Ideal S4096 .f32) : FVec Ideal S2x16384x2048 .f32 := gate (upProj x mo w bb)

theorem upProj_apply (x : FVec Ideal S2x16384x2048 .f32) (mo : FVec Ideal S2x6x1x2048 .f32) (w : FVec Ideal S2048x4096 .f32) (bb : FVec Ideal S4096 .f32)
    (b : Fin 2) (s : Fin 16) (r : Fin 1024) (j : Fin 4096) : (upProj x mo w bb (ix3 b (rowAt s r) j) : EReal) = upVal x mo w bb b s r j := by
  have e : (upProj x mo w bb (ix3 b (rowAt s r) j) : EReal) = ∑ k : Fin 2048, ada x mo (ix3 b (rowAt s r) k) * w (ix2 k j) + bb (ix1 j) := by
    pointwise [upProj]
  rw [e]
  exact congrArg (· + bb (ix1 j)) (Finset.sum_congr rfl fun k _ => congrArg (· * w (ix2 k j)) (rowsAt_eq x mo b s r k))

theorem gate_apply (u : FVec Ideal S2x16384x4096 .f32) (b : Fin 2) (i : Fin 16384) (j : Fin 2048) :
    (gate u (ix3 b i j) : EReal) = gated (u (ix3 b i (lowAt j))) (u (ix3 b i (highAt j))) := by
  pointwise [gate]
  rfl

theorem result_apply (x : FVec Ideal S2x16384x2048 .f32) (mo : FVec Ideal S2x6x1x2048 .f32) (w : FVec Ideal S2048x4096 .f32) (bb : FVec Ideal S4096 .f32)
    (b : Fin 2) (s : Fin 16) (r : Fin 1024) (j : Fin 2048) : (result x mo w bb (ix3 b (rowAt s r) j) : EReal) = outVal x mo w bb b s r j := by
  refine (gate_apply _ _ _ _).trans ?_
  rw [upProj_apply, upProj_apply]
  rfl

end

section
open Cert.GluIdeal Cert.GluIdeal.Gen

/-- The modulated rows, entry by entry. -/
theorem rowsOf_apply (x0 : Vec Ideal S1x1024x2048 .f32) (x1 : Vec Ideal S1x6x2048 .f32) (r : Fin 1024) (d : Fin 2048) :
    (rowsOf (F := Ideal) x0 x1 (ix2 r d) : EReal) = modulated (fun e => x0 (ix3 0 r e)) (fun e => x1 (ix3 0 1 e)) (fun e => x1 (ix3 0 0 e)) d := by
  unfold rowsOf shiftRow scaleRow
  pointwise [k0_pay3]
  rfl

theorem low_apply (x0 : Vec Ideal S1x1024x2048 .f32) (x1 : Vec Ideal S1x6x2048 .f32) (w : Vec Ideal S2048x512 .bf16) (bb : Vec Ideal S1x512 .f32)
    (r : Fin 1024) (d : Fin 512) :
    (k0_pay5 (F := Ideal) x0 (shiftRow x1) (scaleRow x1) w bb (ix2 r d) : EReal) = ∑ k : Fin 2048, rowsOf (F := Ideal) x0 x1 (ix2 r k) * w (ix2 k d) + bb (ix2 0 d) := by
  unfold rowsOf
  generalize shiftRow x1 = a
  generalize scaleRow x1 = b
  pointwise [k0_pay5]

theorem high_apply (x0 : Vec Ideal S1x1024x2048 .f32) (x1 : Vec Ideal S1x6x2048 .f32) (w : Vec Ideal S2048x512 .bf16)
    (r : Fin 1024) (d : Fin 512) :
    (k0_pay6 (F := Ideal) x0 (shiftRow x1) (scaleRow x1) w (ix2 r d) : EReal) = ∑ k : Fin 2048, rowsOf (F := Ideal) x0 x1 (ix2 r k) * w (ix2 k d) := by
  unfold rowsOf
  generalize shiftRow x1 = a
  generalize scaleRow x1 = b
  pointwise [k0_pay6]

theorem first_apply (u v : FVec Ideal S1024x512 .f32) (bb : Vec Ideal S1x512 .f32) (r : Fin 1024) (d : Fin 512) :
    (k0_pay1 (F := Ideal) u v bb (ix3 0 r d) : EReal) = gated (u (ix2 r d)) (v (ix2 r d) + bb (ix2 0 d)) := by
  pointwise [k0_pay1]
  rfl

theorem later_apply (h : FVec Ideal S1024x2048 .bf16) (wa : Vec Ideal S2048x512 .bf16) (ba : Vec Ideal S1x512 .f32) (wg : Vec Ideal S2048x512 .bf16)
    (bg : Vec Ideal S1x512 .f32) (r : Fin 1024) (d : Fin 512) :
    (k0_pay2 (F := Ideal) h wa ba wg bg (ix3 0 r d) : EReal)
      = gated (∑ k : Fin 2048, h (ix2 r k) * wa (ix2 k d) + ba (ix2 0 d)) (∑ k : Fin 2048, h (ix2 r k) * wg (ix2 k d) + bg (ix2 0 d)) := by
  pointwise [k0_pay2]
  rfl

variable (m : (ℓ : Loc nD τ sig) → Buf (Elt Ideal) ℓ) (c : Dev nD)

/-- What the host hands the call: the modulation reshaped, the weights unchanged. -/
theorem host_mod (b : Fin 2) (a : Fin 6) (d : Fin 2048) : (V m c main_v0 (ix3 b a d) : EReal) = m ((c.tc : Thread nD τ).loc main_arg1) (ix4 b a 0 d) := by
  unfold V
  simp only [hostOps0]
  after_reads_simp
  pointwise []
theorem host_w : V m c main_v1 = m ((c.tc : Thread nD τ).loc main_arg2) := by
  unfold V
  simp only [hostOps0]
  after_reads_simp
  rfl
theorem host_bias (j : Fin 4096) : (V m c main_v2 (ix2 0 j) : EReal) = m ((c.tc : Thread nD τ).loc main_arg3) (ix1 j) := by
  unfold V
  simp only [hostOps0]
  after_reads_simp
  pointwise []

variable (t : Fin cfg0.N)

/-- A grid point's batch, block of rows and chunk of columns. -/
abbrev batchAt (t : Fin cfg0.N) : Fin 2 := (grid0.coords t) 0
abbrev blockAt (t : Fin cfg0.N) : Fin 16 := (grid0.coords t) 1
abbrev chunkAt (t : Fin cfg0.N) : Fin 4 := (grid0.coords t) 2

theorem coord_batch (t : Fin cfg0.N) : ((grid0.coords t) 0).val = t.val / 64 := by revert t; decide +kernel
theorem coord_block (t : Fin cfg0.N) : ((grid0.coords t) 1).val = t.val / 4 % 16 := by revert t; decide +kernel

theorem place_0 (y : S1x1024x2048.Idx) (a : Fin 3) :
    (((cfg0.win 0).blk t).view.emb y a).val = (![((grid0.coords t) 0).val * 1, ((grid0.coords t) 1).val * 1024, 0 * 2048] : Fin 3 → Nat) a + (y a).val := by
  refine (Pipeline.Window.rect_emb_val_off (cfg0.win 0) t y a).trans ?_
  have i0 : (cfg0.win 0).index t a = (![((grid0.coords t) 0).val, ((grid0.coords t) 1).val, 0] : Fin 3 → Nat) a := by
    show cc0_transform_0 (grid0.coords t) a = _
    have e : cc0_transform_0 (grid0.coords t) = ![(BitVec.ofNat 32 ((grid0.coords t) 0).val).toNat, (BitVec.ofNat 32 ((grid0.coords t) 1).val).toNat, (0#32).toNat] := rfl
    rw [e, word_batch, word_rows]; rfl
  rw [i0]
  clear i0
  match a with
  | 0 => rfl
  | 1 => rfl
  | 2 => rfl

theorem place_1 (y : S1x6x2048.Idx) (a : Fin 3) :
    (((cfg0.win 1).blk t).view.emb y a).val = (![((grid0.coords t) 0).val * 1, 0 * 6, 0 * 2048] : Fin 3 → Nat) a + (y a).val := by
  refine (Pipeline.Window.rect_emb_val_off (cfg0.win 1) t y a).trans ?_
  have i0 : (cfg0.win 1).index t a = (![((grid0.coords t) 0).val, 0, 0] : Fin 3 → Nat) a := by
    show cc0_transform_1 (grid0.coords t) a = _
    have e : cc0_transform_1 (grid0.coords t) = ![(BitVec.ofNat 32 ((grid0.coords t) 0).val).toNat, (0#32).toNat, (0#32).toNat] := rfl
    rw [e, word_batch]; rfl
  rw [i0]
  clear i0
  match a with
  | 0 => rfl
  | 1 => rfl
  | 2 => rfl

theorem place_2 (y : S2048x512.Idx) (a : Fin 2) :
    (((cfg0.win 2).blk t).view.emb y a).val = (![0 * 2048, ((grid0.coords t) 2).val * 512] : Fin 2 → Nat) a + (y a).val := by
  refine (Pipeline.Window.rect_emb_val_off (cfg0.win 2) t y a).trans ?_
  have i0 : (cfg0.win 2).index t a = (![0, ((grid0.coords t) 2).val] : Fin 2 → Nat) a := by
    show cc0_transform_2 (grid0.coords t) a = _
    have e : cc0_transform_2 (grid0.coords t) = ![(0#32).toNat, (BitVec.ofNat 32 ((grid0.coords t) 2).val).toNat] := rfl
    rw [e, word_fourth]; rfl
  rw [i0]
  clear i0
  match a with
  | 0 => rfl
  | 1 => rfl

theorem place_3 (y : S2048x512.Idx) (a : Fin 2) :
    (((cfg0.win 3).blk t).view.emb y a).val = (![0 * 2048, (4 + ((grid0.coords t) 2).val) * 512] : Fin 2 → Nat) a + (y a).val := by
  refine (Pipeline.Window.rect_emb_val_off (cfg0.win 3) t y a).trans ?_
  have i0 : (cfg0.win 3).index t a = (![0, (4 + ((grid0.coords t) 2).val)] : Fin 2 → Nat) a := by
    show cc0_transform_3 (grid0.coords t) a = _
    have e : cc0_transform_3 (grid0.coords t) = ![(0#32).toNat, (Scalar.addi 4#32 (BitVec.ofNat 32 ((grid0.coords t) 2).val)).toNat] := rfl
    rw [e, word_fourth_half]; rfl
  rw [i0]
  clear i0
  match a with
  | 0 => rfl
  | 1 => rfl

theorem place_4 (y : S1x512.Idx) (a : Fin 2) :
    (((cfg0.win 4).blk t).view.emb y a).val = (![0 * 1, ((grid0.coords t) 2).val * 512] : Fin 2 → Nat) a + (y a).val := by
  refine (Pipeline.Window.rect_emb_val_off (cfg0.win 4) t y a).trans ?_
  have i0 : (cfg0.win 4).index t a = (![0, ((grid0.coords t) 2).val] : Fin 2 → Nat) a := by
    show cc0_transform_4 (grid0.coords t) a = _
    have e : cc0_transform_4 (grid0.coords t) = ![(0#32).toNat, (BitVec.ofNat 32 ((grid0.coords t) 2).val).toNat] := rfl
    rw [e, word_fourth]; rfl
  rw [i0]
  clear i0
  match a with
  | 0 => rfl
  | 1 => rfl

theorem place_5 (y : S1x512.Idx) (a : Fin 2) :
    (((cfg0.win 5).blk t).view.emb y a).val = (![0 * 1, (4 + ((grid0.coords t) 2).val) * 512] : Fin 2 → Nat) a + (y a).val := by
  refine (Pipeline.Window.rect_emb_val_off (cfg0.win 5) t y a).trans ?_
  have i0 : (cfg0.win 5).index t a = (![0, (4 + ((grid0.coords t) 2).val)] : Fin 2 → Nat) a := by
    show cc0_transform_5 (grid0.coords t) a = _
    have e : cc0_transform_5 (grid0.coords t) = ![(0#32).toNat, (Scalar.addi 4#32 (BitVec.ofNat 32 ((grid0.coords t) 2).val)).toNat] := rfl
    rw [e, word_fourth_half]; rfl
  rw [i0]
  clear i0
  match a with
  | 0 => rfl
  | 1 => rfl

theorem place_6 (y : S1x1024x512.Idx) (a : Fin 3) :
    (((cfg0.win 6).blk t).view.emb y a).val = (![((grid0.coords t) 0).val * 1, ((grid0.coords t) 1).val * 1024, ((grid0.coords t) 2).val * 512] : Fin 3 → Nat) a + (y a).val := by
  refine (Pipeline.Window.rect_emb_val_off (cfg0.win 6) t y a).trans ?_
  have i0 : (cfg0.win 6).index t a = (![((grid0.coords t) 0).val, ((grid0.coords t) 1).val, ((grid0.coords t) 2).val] : Fin 3 → Nat) a := by
    show cc0_transform_6 (grid0.coords t) a = _
    have e : cc0_transform_6 (grid0.coords t) = ![(BitVec.ofNat 32 ((grid0.coords t) 0).val).toNat, (BitVec.ofNat 32 ((grid0.coords t) 1).val).toNat, (BitVec.ofNat 32 ((grid0.coords t) 2).val).toNat] := rfl
    rw [e, word_batch, word_rows, word_fourth]
  rw [i0]
  clear i0
  match a with
  | 0 => rfl
  | 1 => rfl
  | 2 => rfl

theorem blk_0 (r : Fin 1024) (d : Fin 2048) :
    (iblk m c 0 t (ix3 0 r d) : EReal) = m ((c.tc : Thread nD τ).loc main_arg0) (ix3 (batchAt t) (rowAt (blockAt t) r) d) := by
  rw [← V_main_arg0 m c]
  refine congrArg (V m c main_arg0) ?_
  funext (a : Fin 3)
  refine Fin.ext ((place_0 t (ix3 0 r d) a).trans ?_)
  match a with
  | 0 => show (batchAt t).val * 1 + 0 = (batchAt t).val; omega
  | 1 => show (blockAt t).val * 1024 + r.val = 1024 * (blockAt t).val + r.val; omega
  | 2 => show 0 * 2048 + d.val = d.val; omega

theorem blk_1 (a : Fin 6) (d : Fin 2048) :
    (iblk m c 1 t (ix3 0 a d) : EReal) = m ((c.tc : Thread nD τ).loc main_arg1) (ix4 (batchAt t) a 0 d) := by
  rw [← host_mod m c]
  refine congrArg (V m c main_v0) ?_
  funext (i : Fin 3)
  refine Fin.ext ((place_1 t (ix3 0 a d) i).trans ?_)
  match i with
  | 0 => show (batchAt t).val * 1 + 0 = (batchAt t).val; omega
  | 1 => show 0 * 6 + a.val = a.val; omega
  | 2 => show 0 * 2048 + d.val = d.val; omega

theorem blk_2 (k : Fin 2048) (d : Fin 512) :
    (iblk m c 2 t (ix2 k d) : EReal) = m ((c.tc : Thread nD τ).loc main_arg2) (ix2 k (lowCol (chunkAt t) d)) := by
  rw [← host_w m c]
  refine congrArg (V m c main_v1) ?_
  funext (a : Fin 2)
  refine Fin.ext ((place_2 t (ix2 k d) a).trans ?_)
  match a with
  | 0 => show 0 * 2048 + k.val = k.val; omega
  | 1 => show (chunkAt t).val * 512 + d.val = 512 * (chunkAt t).val + d.val; omega

theorem blk_3 (k : Fin 2048) (d : Fin 512) :
    (iblk m c 3 t (ix2 k d) : EReal) = m ((c.tc : Thread nD τ).loc main_arg2) (ix2 k (highCol (chunkAt t) d)) := by
  rw [← host_w m c]
  refine congrArg (V m c main_v1) ?_
  funext (a : Fin 2)
  refine Fin.ext ((place_3 t (ix2 k d) a).trans ?_)
  match a with
  | 0 => show 0 * 2048 + k.val = k.val; omega
  | 1 => show (4 + (chunkAt t).val) * 512 + d.val = 2048 + (512 * (chunkAt t).val + d.val); omega

theorem blk_4 (d : Fin 512) :
    (iblk m c 4 t (ix2 0 d) : EReal) = m ((c.tc : Thread nD τ).loc main_arg3) (ix1 (lowCol (chunkAt t) d)) := by
  rw [← host_bias m c]
  refine congrArg (V m c main_v2) ?_
  funext (a : Fin 2)
  refine Fin.ext ((place_4 t (ix2 0 d) a).trans ?_)
  match a with
  | 0 => rfl
  | 1 => show (chunkAt t).val * 512 + d.val = 512 * (chunkAt t).val + d.val; omega

theorem blk_5 (d : Fin 512) :
    (iblk m c 5 t (ix2 0 d) : EReal) = m ((c.tc : Thread nD τ).loc main_arg3) (ix1 (highCol (chunkAt t) d)) := by
  rw [← host_bias m c]
  refine congrArg (V m c main_v2) ?_
  funext (a : Fin 2)
  refine Fin.ext ((place_5 t (ix2 0 d) a).trans ?_)
  match a with
  | 0 => rfl
  | 1 => show (4 + (chunkAt t).val) * 512 + d.val = 2048 + (512 * (chunkAt t).val + d.val); omega

/-- The rows an entry of the scratch holds after a grid point: those of the point's block. -/
theorem held (n : ℕ) : ∀ (h : n < cfg0.N) (r : Fin 1024) (d : Fin 2048), ((outsAt0 m c n h).2 (ix2 r d) : EReal)
    = rowsAt (m ((c.tc : Thread nD τ).loc main_arg0)) (m ((c.tc : Thread nD τ).loc main_arg1)) (batchAt ⟨n, h⟩) (blockAt ⟨n, h⟩) r d := by
  have first : ∀ (t : Fin cfg0.N), t.val % 4 = 0 → ∀ (r : Fin 1024) (d : Fin 2048), ((outsAt0 m c t.val t.isLt).2 (ix2 r d) : EReal)
      = rowsAt (m ((c.tc : Thread nD τ).loc main_arg0)) (m ((c.tc : Thread nD τ).loc main_arg1)) (batchAt t) (blockAt t) r d := by
    intro t h r d
    rw [outsAt0_A m c t h (by omega)]
    dsimp only
    rw [rows_A]
    refine (rowsOf_apply _ _ r d).trans ?_
    simp only [blk_0, blk_1]
    rfl
  induction n with
  | zero => exact fun h r d => first ⟨0, h⟩ rfl r d
  | succ n ih =>
    intro h r d
    by_cases h0 : (n + 1) % 4 = 0
    · exact first ⟨n + 1, h⟩ h0 r d
    · have e : (outsAt0 m c (n + 1) h).2 = (outsAt0 m c n (by omega)).2 := by
        refine (congrArg Prod.snd (outsAt0_B m c ⟨n + 1, h⟩ h0 (by show 1 ≤ (n + 1) % 4; omega))).trans ?_
        dsimp only [sout0_B_0]
        rfl
      have e0 : batchAt ⟨n + 1, h⟩ = batchAt ⟨n, by omega⟩ := by
        refine Fin.ext ?_
        rw [coord_batch, coord_batch]
        show (n + 1) / 64 = n / 64; omega
      have e1 : blockAt ⟨n + 1, h⟩ = blockAt ⟨n, by omega⟩ := by
        refine Fin.ext ?_
        rw [coord_block, coord_block]
        show (n + 1) / 4 % 16 = n / 4 % 16; omega
      rw [e, e0, e1]
      exact ih (by omega) r d

/-- What the point's block of the output holds. -/
theorem written (r : Fin 1024) (d : Fin 512) : ((outsAt0 m c t.val t.isLt).1 (ix3 0 r d) : EReal)
    = outVal (m ((c.tc : Thread nD τ).loc main_arg0)) (m ((c.tc : Thread nD τ).loc main_arg1)) (m ((c.tc : Thread nD τ).loc main_arg2)) (m ((c.tc : Thread nD τ).loc main_arg3)) (batchAt t) (blockAt t) r (colAt (chunkAt t) d) := by
  by_cases h : t.val % 4 = 0
  · rw [outsAt0_A m c t h (by omega)]
    dsimp only
    rw [out_A]
    refine (first_apply _ _ _ r d).trans ?_
    rw [low_apply, high_apply, blk_4, blk_5]
    unfold outVal upVal
    simp only [blk_2, blk_3, rowsOf_apply, blk_0, blk_1]
    rfl
  · have hp : t.val - 1 < cfg0.N := lt_of_le_of_lt (Nat.sub_le _ _) t.isLt
    have e0 : batchAt ⟨t.val - 1, hp⟩ = batchAt t := by
      refine Fin.ext ?_
      rw [coord_batch, coord_batch]
      show (t.val - 1) / 64 = t.val / 64; omega
    have e1 : blockAt ⟨t.val - 1, hp⟩ = blockAt t := by
      refine Fin.ext ?_
      rw [coord_block, coord_block]
      show (t.val - 1) / 4 % 16 = t.val / 4 % 16; omega
    have hs := held m c (t.val - 1) hp
    rw [e0, e1] at hs
    rw [outsAt0_B m c t h (by omega)]
    dsimp only
    rw [out_B]
    refine (later_apply _ _ _ _ _ r d).trans ?_
    rw [blk_4, blk_5]
    unfold outVal upVal
    simp only [blk_2, blk_3]
    refine congrArg₂ gated (congrArg (· + _) ?_) (congrArg (· + _) ?_)
    · exact Finset.sum_congr rfl fun k _ => congrArg (· * _) (hs r k)
    · exact Finset.sum_congr rfl fun k _ => congrArg (· * _) (hs r k)

theorem map_6 (i : grid0.Coords) : cc0_transform_6 i = ![(i 0).val, (i 1).val, (i 2).val] := by
  have e : cc0_transform_6 i = ![(BitVec.ofNat 32 (i 0).val).toNat, (BitVec.ofNat 32 (i 1).val).toNat, (BitVec.ofNat 32 (i 2).val).toNat] := rfl
  rw [e, word_batch, word_rows, word_fourth]

/-- The point of chunk `f` of block `s` of batch `b`. -/
def point (b : Fin 2) (s : Fin 16) (f : Fin 4) : grid0.Coords := fun (a : Fin 3) => match a with | 0 => b | 1 => s | 2 => f

theorem covers_6 : (cfg0.win 6).Covers :=
  Pipeline.Window.covers_of_indexMap_surj (w := cfg0.win 6) rfl (by intro (a : Fin 3); revert a; show ∀ a : Fin 3, 0 < S1x1024x512.size a; decide) fun β => by
    have h0 : (β (0 : Fin 3)).val < 2 := lt_of_lt_of_eq (β (0 : Fin 3)).isLt (by first | rfl | sl_kernel_rfl)
    have h1 : (β (1 : Fin 3)).val < 16 := lt_of_lt_of_eq (β (1 : Fin 3)).isLt (by first | rfl | sl_kernel_rfl)
    have h2 : (β (2 : Fin 3)).val < 4 := lt_of_lt_of_eq (β (2 : Fin 3)).isLt (by first | rfl | sl_kernel_rfl)
    refine ⟨point ⟨(β (0 : Fin 3)).val, h0⟩ ⟨(β (1 : Fin 3)).val, h1⟩ ⟨(β (2 : Fin 3)).val, h2⟩, fun (a : Fin 3) => ?_⟩
    refine (congrFun (map_6 (point ⟨(β (0 : Fin 3)).val, h0⟩ ⟨(β (1 : Fin 3)).val, h1⟩ ⟨(β (2 : Fin 3)).val, h2⟩)) a).trans ?_
    match a with
    | 0 => rfl
    | 1 => rfl
    | 2 => rfl

/-- The call's result in the reference's terms. -/
theorem arr_result : (dats m 0 c).arrAt 6 cfg0.N
    = result (m ((c.tc : Thread nD τ).loc main_arg0)) (m ((c.tc : Thread nD τ).loc main_arg1)) (m ((c.tc : Thread nD τ).loc main_arg2)) (m ((c.tc : Thread nD τ).loc main_arg3)) := by
  refine Pipeline.Dat.arrAt_eq_of_covers (dats m 0 c) 6 _ covers_6 fun t hf (y : S1x1024x512.Idx) => ?_
  blk_simp
  rw [after0_6]
  obtain ⟨r, d, rfl⟩ : ∃ (r : Fin 1024) (d : Fin 512), y = ix3 0 r d := ⟨y 1, y 2, by
    funext (a : Fin 3)
    match a with
    | 0 => exact Subsingleton.elim (α := Fin 1) _ _
    | 1 => rfl
    | 2 => rfl⟩
  have ep : ((cfg0.win 6).blk t).view.emb (ix3 0 r d : S1x1024x512.Idx) = (ix3 (batchAt t) (rowAt (blockAt t) r) (colAt (chunkAt t) d) : S2x16384x2048.Idx) := by
    funext (a : Fin 3)
    refine Fin.ext ((place_6 t (ix3 0 r d) a).trans ?_)
    match a with
    | 0 => show (batchAt t).val * 1 + 0 = (batchAt t).val; omega
    | 1 => show (blockAt t).val * 1024 + r.val = 1024 * (blockAt t).val + r.val; omega
    | 2 => show (chunkAt t).val * 512 + d.val = 512 * (chunkAt t).val + d.val; omega
  refine Eq.trans ?_ (congrArg _ ep.symm)
  exact (written m c t r d).trans (result_apply _ _ _ _ _ _ _ _).symm

theorem frame_ideal (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := Cert.GluIdeal.Gen.frame m g

/-- The call's result, from any memory. -/
theorem call_result (g : Dev nD → PrngReg) :
    θ_run (defs (F := Ideal)) (onTc (τ := τ) (main (F := Ideal))) ⟨m, fun _ => 0, g⟩ (fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2)) (m ((c.tc : Thread nD τ).loc main_arg3))) :=
  (θ_run _ _ _).mono (fun r h c => ((h c).1 6).trans (arr_result m c)) (run_main m g)

end

theorem frame_kernel : Cert.quiescent_Glu := fun m g _ => Cert.Glu.Gen.frame m g

/-- The reference's frame: it declares no semaphore. -/
theorem frame_reference : Cert.quiescent_GluRefIdeal := fun m g _ =>
  (θ_run Cert.GluRefIdeal.defs _ _).mono (fun r h => ⟨fun c => (h c).2, Idealize.ShloMosaic.sem_eq_zero_of_no_sems (by decide) r.2⟩)
    (Cert.GluRefIdeal.Value.run (F := Ideal) m g)

theorem algebraic : Cert.algebraic_GluIdeal_GluRefIdeal := by
  intro m g m' g' _ hm
  refine ⟨fun c => result (m ((c.tc : Thread Cert.GluIdeal.nD Cert.GluIdeal.τ).loc Cert.GluIdeal.main_arg0))
    (m ((c.tc : Thread Cert.GluIdeal.nD Cert.GluIdeal.τ).loc Cert.GluIdeal.main_arg1))
    (m ((c.tc : Thread Cert.GluIdeal.nD Cert.GluIdeal.τ).loc Cert.GluIdeal.main_arg2))
    (m ((c.tc : Thread Cert.GluIdeal.nD Cert.GluIdeal.τ).loc Cert.GluIdeal.main_arg3)), ?_, ?_⟩
  · exact (θ_run _ _ _).mono (fun r h c => ⟨h.1 c, h.2.1 c⟩) (θ_run_and (call_result m g) (frame_ideal m g))
  · refine (θ_run _ _ _).mono (fun r h c => ⟨(h c).1.trans ?_, (h c).2⟩) (Cert.GluRefIdeal.Value.run (F := Ideal) m' g')
    obtain ⟨h0, h1, h2, h3⟩ := hm c
    rw [h0, h1, h2, h3]
    rfl

end Cert.GluProj
end
-- ==== Proof.lean ====
module

public import proofs.«01_k».proof.Proof.Final
public import proofs.«01_k».proof.Proof.FfnFinal
public import proofs.«01_k».proof.Proof.MidFinal
public import proofs.«01_k».proof.Proof.QkvFinal
public import proofs.«01_k».proof.Proof.OutFinal
public import proofs.«01_k».proof.Proof.GluFinal

@[expose] public section

noncomputable section

namespace Cert.Proof

theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.Mid.Gen.facts, Cert.MidIdeal.Gen.facts, Cert.MidRefIdeal.Gen.facts,
    Cert.Qkv.Gen.facts, Cert.QkvIdeal.Gen.facts, Cert.QkvRefIdeal.Gen.facts, Cert.Out.Gen.facts, Cert.OutIdeal.Gen.facts,
    Cert.OutRefIdeal.Gen.facts, Cert.Glu.Gen.facts, Cert.GluIdeal.Gen.facts, Cert.GluRefIdeal.Gen.facts, Cert.Attn.finite_facts,
    Cert.Attn.frame_kernel, fun m g _ => Cert.Attn.frame_ideal m g, fun m g _ => Cert.Attn.frame_ideal m g,
    fun m g _ => Cert.Attn.frame_reference m g, fun m g _ => Cert.Attn.frame_reference m g,
    Cert.Feed.frame_kernel, fun m g _ => Cert.Feed.frame_ideal m g, Cert.Feed.frame_reference,
    Cert.MidFeed.frame_kernel, fun m g _ => Cert.MidFeed.frame_ideal m g, Cert.MidFeed.frame_reference,
    Cert.QkvProj.frame_kernel, fun m g _ => Cert.QkvProj.frame_ideal m g, Cert.QkvProj.frame_reference,
    Cert.OutProj.frame_kernel, fun m g _ => Cert.OutProj.frame_ideal m g, Cert.OutProj.frame_reference,
    Cert.GluProj.frame_kernel, fun m g _ => Cert.GluProj.frame_ideal m g, Cert.GluProj.frame_reference,
    trivial, Cert.Attn.algebraic, trivial, Cert.Feed.algebraic, trivial, Cert.MidFeed.algebraic,
    trivial, Cert.QkvProj.algebraic, trivial, Cert.OutProj.algebraic, trivial, Cert.GluProj.algebraic⟩

end Cert.Proof

end
